-- ==== Defs.lean ====
def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_Ffn1 (m : (ℓ : Loc Cert.Ffn1.nD Cert.Ffn1.τ Cert.Ffn1.sig) → Buf (Elt Bits) ℓ) : Prop :=
  True

def Pre_Ffn1Ideal (m : (ℓ : Loc Cert.Ffn1Ideal.nD Cert.Ffn1Ideal.τ Cert.Ffn1Ideal.sig) → Buf (Elt Ideal) ℓ) : Prop :=
  True

def Pre_Ffn1RefIdeal (m : (ℓ : Loc Cert.Ffn1RefIdeal.nD Cert.Ffn1RefIdeal.τ Cert.Ffn1RefIdeal.sig) → Buf (Elt Ideal) ℓ) : Prop :=
  True

def Pre_Ffn2 (m : (ℓ : Loc Cert.Ffn2.nD Cert.Ffn2.τ Cert.Ffn2.sig) → Buf (Elt Bits) ℓ) : Prop :=
  True

def Pre_Ffn2Ideal (m : (ℓ : Loc Cert.Ffn2Ideal.nD Cert.Ffn2Ideal.τ Cert.Ffn2Ideal.sig) → Buf (Elt Ideal) ℓ) : Prop :=
  True

def Pre_Ffn2RefIdeal (m : (ℓ : Loc Cert.Ffn2RefIdeal.nD Cert.Ffn2RefIdeal.τ Cert.Ffn2RefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3)
      ∧ r.2.mem ((c.tc : Thread Cert.Fox.nD Cert.Fox.τ).loc Cert.Fox.main_arg4) = m ((c.tc : Thread Cert.Fox.nD Cert.Fox.τ).loc Cert.Fox.main_arg4)
      ∧ r.2.mem ((c.tc : Thread Cert.Fox.nD Cert.Fox.τ).loc Cert.Fox.main_arg5) = m ((c.tc : Thread Cert.Fox.nD Cert.Fox.τ).loc Cert.Fox.main_arg5)
      ∧ r.2.mem ((c.tc : Thread Cert.Fox.nD Cert.Fox.τ).loc Cert.Fox.main_arg6) = m ((c.tc : Thread Cert.Fox.nD Cert.Fox.τ).loc Cert.Fox.main_arg6)
      ∧ r.2.mem ((c.tc : Thread Cert.Fox.nD Cert.Fox.τ).loc Cert.Fox.main_arg7) = m ((c.tc : Thread Cert.Fox.nD Cert.Fox.τ).loc Cert.Fox.main_arg7)
      ∧ r.2.mem ((c.tc : Thread Cert.Fox.nD Cert.Fox.τ).loc Cert.Fox.main_arg8) = m ((c.tc : Thread Cert.Fox.nD Cert.Fox.τ).loc Cert.Fox.main_arg8)
      ∧ r.2.mem ((c.tc : Thread Cert.Fox.nD Cert.Fox.τ).loc Cert.Fox.main_arg9) = m ((c.tc : Thread Cert.Fox.nD Cert.Fox.τ).loc Cert.Fox.main_arg9))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
      ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4)
      ∧ r.2.mem ((c.tc : Thread Cert.FoxIdeal.nD Cert.FoxIdeal.τ).loc Cert.FoxIdeal.main_arg5) = m ((c.tc : Thread Cert.FoxIdeal.nD Cert.FoxIdeal.τ).loc Cert.FoxIdeal.main_arg5)
      ∧ r.2.mem ((c.tc : Thread Cert.FoxIdeal.nD Cert.FoxIdeal.τ).loc Cert.FoxIdeal.main_arg6) = m ((c.tc : Thread Cert.FoxIdeal.nD Cert.FoxIdeal.τ).loc Cert.FoxIdeal.main_arg6)
      ∧ r.2.mem ((c.tc : Thread Cert.FoxIdeal.nD Cert.FoxIdeal.τ).loc Cert.FoxIdeal.main_arg7) = m ((c.tc : Thread Cert.FoxIdeal.nD Cert.FoxIdeal.τ).loc Cert.FoxIdeal.main_arg7)
      ∧ r.2.mem ((c.tc : Thread Cert.FoxIdeal.nD Cert.FoxIdeal.τ).loc Cert.FoxIdeal.main_arg8) = m ((c.tc : Thread Cert.FoxIdeal.nD Cert.FoxIdeal.τ).loc Cert.FoxIdeal.main_arg8)
      ∧ r.2.mem ((c.tc : Thread Cert.FoxIdeal.nD Cert.FoxIdeal.τ).loc Cert.FoxIdeal.main_arg9) = m ((c.tc : Thread Cert.FoxIdeal.nD Cert.FoxIdeal.τ).loc Cert.FoxIdeal.main_arg9))
      ∧ r.2.sem = fun _ => 0)

def quiescent_Ffn1 [hFfn1 : Cert.Ffn1.Facts] : Prop :=
  ∀ (m : (ℓ : Loc Cert.Ffn1.nD Cert.Ffn1.τ Cert.Ffn1.sig) → Buf (Elt Bits) ℓ) (g : Dev Cert.Ffn1.nD → PrngReg), Pre_Ffn1 m →
    θ_run (Cert.Ffn1.defs (F := Bits)) (onTc (τ := Cert.Ffn1.τ) (Cert.Ffn1.main (F := Bits))) ⟨m, fun _ => 0, g⟩ (fun r => (∀ c : Dev Cert.Ffn1.nD,
      r.2.mem ((c.tc : Thread Cert.Ffn1.nD Cert.Ffn1.τ).loc Cert.Ffn1.main_arg0) = m ((c.tc : Thread Cert.Ffn1.nD Cert.Ffn1.τ).loc Cert.Ffn1.main_arg0)
      ∧ r.2.mem ((c.tc : Thread Cert.Ffn1.nD Cert.Ffn1.τ).loc Cert.Ffn1.main_arg1) = m ((c.tc : Thread Cert.Ffn1.nD Cert.Ffn1.τ).loc Cert.Ffn1.main_arg1)
      ∧ r.2.mem ((c.tc : Thread Cert.Ffn1.nD Cert.Ffn1.τ).loc Cert.Ffn1.main_arg2) = m ((c.tc : Thread Cert.Ffn1.nD Cert.Ffn1.τ).loc Cert.Ffn1.main_arg2)
      ∧ r.2.mem ((c.tc : Thread Cert.Ffn1.nD Cert.Ffn1.τ).loc Cert.Ffn1.main_arg3) = m ((c.tc : Thread Cert.Ffn1.nD Cert.Ffn1.τ).loc Cert.Ffn1.main_arg3)
      ∧ r.2.mem ((c.tc : Thread Cert.Ffn1.nD Cert.Ffn1.τ).loc Cert.Ffn1.main_arg4) = m ((c.tc : Thread Cert.Ffn1.nD Cert.Ffn1.τ).loc Cert.Ffn1.main_arg4)
      ∧ r.2.mem ((c.tc : Thread Cert.Ffn1.nD Cert.Ffn1.τ).loc Cert.Ffn1.main_arg5) = m ((c.tc : Thread Cert.Ffn1.nD Cert.Ffn1.τ).loc Cert.Ffn1.main_arg5))
      ∧ r.2.sem = fun _ => 0)

def quiescent_Ffn1Ideal [hFfn1Ideal : Cert.Ffn1Ideal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg), Pre_Ffn1Ideal m →
    θ_run (Cert.Ffn1Ideal.defs (F := Ideal)) (onTc (τ := Cert.Ffn1Ideal.τ) (Cert.Ffn1Ideal.main (F := Ideal))) ⟨m, fun _ => 0, g⟩ (fun r => (∀ c : Dev Cert.Ffn1Ideal.nD,
      r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
      ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
      ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
      ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
      ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4)
      ∧ r.2.mem ((c.tc : Thread Cert.Ffn1Ideal.nD Cert.Ffn1Ideal.τ).loc Cert.Ffn1Ideal.main_arg5) = m ((c.tc : Thread Cert.Ffn1Ideal.nD Cert.Ffn1Ideal.τ).loc Cert.Ffn1Ideal.main_arg5))
      ∧ r.2.sem = fun _ => 0)

def quiescent_Ffn1RefIdeal [hFfn1RefIdeal : Cert.Ffn1RefIdeal.Facts] : Prop :=
  ∀ (m : (ℓ : Loc Cert.Ffn1RefIdeal.nD Cert.Ffn1RefIdeal.τ Cert.Ffn1RefIdeal.sig) → Buf (Elt Ideal) ℓ) (g : Dev Cert.Ffn1RefIdeal.nD → PrngReg), Pre_Ffn1RefIdeal m →
    θ_run (Cert.Ffn1RefIdeal.defs (F := Ideal)) (onTc (τ := Cert.Ffn1RefIdeal.τ) (Cert.Ffn1RefIdeal.main (F := Ideal))) ⟨m, fun _ => 0, g⟩ (fun r => (∀ c : Dev Cert.Ffn1RefIdeal.nD,
      r.2.mem ((c.tc : Thread Cert.Ffn1RefIdeal.nD Cert.Ffn1RefIdeal.τ).loc Cert.Ffn1RefIdeal.main_arg0) = m ((c.tc : Thread Cert.Ffn1RefIdeal.nD Cert.Ffn1RefIdeal.τ).loc Cert.Ffn1RefIdeal.main_arg0)
      ∧ r.2.mem ((c.tc : Thread Cert.Ffn1RefIdeal.nD Cert.Ffn1RefIdeal.τ).loc Cert.Ffn1RefIdeal.main_arg1) = m ((c.tc : Thread Cert.Ffn1RefIdeal.nD Cert.Ffn1RefIdeal.τ).loc Cert.Ffn1RefIdeal.main_arg1)
      ∧ r.2.mem ((c.tc : Thread Cert.Ffn1RefIdeal.nD Cert.Ffn1RefIdeal.τ).loc Cert.Ffn1RefIdeal.main_arg2) = m ((c.tc : Thread Cert.Ffn1RefIdeal.nD Cert.Ffn1RefIdeal.τ).loc Cert.Ffn1RefIdeal.main_arg2)
      ∧ r.2.mem ((c.tc : Thread Cert.Ffn1RefIdeal.nD Cert.Ffn1RefIdeal.τ).loc Cert.Ffn1RefIdeal.main_arg3) = m ((c.tc : Thread Cert.Ffn1RefIdeal.nD Cert.Ffn1RefIdeal.τ).loc Cert.Ffn1RefIdeal.main_arg3)
      ∧ r.2.mem ((c.tc : Thread Cert.Ffn1RefIdeal.nD Cert.Ffn1RefIdeal.τ).loc Cert.Ffn1RefIdeal.main_arg4) = m ((c.tc : Thread Cert.Ffn1RefIdeal.nD Cert.Ffn1RefIdeal.τ).loc Cert.Ffn1RefIdeal.main_arg4)
      ∧ r.2.mem ((c.tc : Thread Cert.Ffn1RefIdeal.nD Cert.Ffn1RefIdeal.τ).loc Cert.Ffn1RefIdeal.main_arg5) = m ((c.tc : Thread Cert.Ffn1RefIdeal.nD Cert.Ffn1RefIdeal.τ).loc Cert.Ffn1RefIdeal.main_arg5))
      ∧ r.2.sem = fun _ => 0)

def quiescent_Ffn2 [hFfn2 : Cert.Ffn2.Facts] : Prop :=
  ∀ (m : (ℓ : Loc Cert.Ffn2.nD Cert.Ffn2.τ Cert.Ffn2.sig) → Buf (Elt Bits) ℓ) (g : Dev Cert.Ffn2.nD → PrngReg), Pre_Ffn2 m →
    θ_run (Cert.Ffn2.defs (F := Bits)) (onTc (τ := Cert.Ffn2.τ) (Cert.Ffn2.main (F := Bits))) ⟨m, fun _ => 0, g⟩ (fun r => (∀ c : Dev Cert.Ffn2.nD,
      r.2.mem ((c.tc : Thread Cert.Ffn2.nD Cert.Ffn2.τ).loc Cert.Ffn2.main_arg0) = m ((c.tc : Thread Cert.Ffn2.nD Cert.Ffn2.τ).loc Cert.Ffn2.main_arg0)
      ∧ r.2.mem ((c.tc : Thread Cert.Ffn2.nD Cert.Ffn2.τ).loc Cert.Ffn2.main_arg1) = m ((c.tc : Thread Cert.Ffn2.nD Cert.Ffn2.τ).loc Cert.Ffn2.main_arg1)
      ∧ r.2.mem ((c.tc : Thread Cert.Ffn2.nD Cert.Ffn2.τ).loc Cert.Ffn2.main_arg2) = m ((c.tc : Thread Cert.Ffn2.nD Cert.Ffn2.τ).loc Cert.Ffn2.main_arg2)
      ∧ r.2.mem ((c.tc : Thread Cert.Ffn2.nD Cert.Ffn2.τ).loc Cert.Ffn2.main_arg3) = m ((c.tc : Thread Cert.Ffn2.nD Cert.Ffn2.τ).loc Cert.Ffn2.main_arg3)
      ∧ r.2.mem ((c.tc : Thread Cert.Ffn2.nD Cert.Ffn2.τ).loc Cert.Ffn2.main_arg4) = m ((c.tc : Thread Cert.Ffn2.nD Cert.Ffn2.τ).loc Cert.Ffn2.main_arg4))
      ∧ r.2.sem = fun _ => 0)

def quiescent_Ffn2Ideal [hFfn2Ideal : Cert.Ffn2Ideal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg), Pre_Ffn2Ideal m →
    θ_run (Cert.Ffn2Ideal.defs (F := Ideal)) (onTc (τ := Cert.Ffn2Ideal.τ) (Cert.Ffn2Ideal.main (F := Ideal))) ⟨m, fun _ => 0, g⟩ (fun r => (∀ c : Dev Cert.Ffn2Ideal.nD,
      r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
      ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
      ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
      ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3)
      ∧ r.2.mem ((c.tc : Thread Cert.Ffn2Ideal.nD Cert.Ffn2Ideal.τ).loc Cert.Ffn2Ideal.main_arg4) = m ((c.tc : Thread Cert.Ffn2Ideal.nD Cert.Ffn2Ideal.τ).loc Cert.Ffn2Ideal.main_arg4))
      ∧ r.2.sem = fun _ => 0)

def quiescent_Ffn2RefIdeal [hFfn2RefIdeal : Cert.Ffn2RefIdeal.Facts] : Prop :=
  ∀ (m : (ℓ : Loc Cert.Ffn2RefIdeal.nD Cert.Ffn2RefIdeal.τ Cert.Ffn2RefIdeal.sig) → Buf (Elt Ideal) ℓ) (g : Dev Cert.Ffn2RefIdeal.nD → PrngReg), Pre_Ffn2RefIdeal m →
    θ_run (Cert.Ffn2RefIdeal.defs (F := Ideal)) (onTc (τ := Cert.Ffn2RefIdeal.τ) (Cert.Ffn2RefIdeal.main (F := Ideal))) ⟨m, fun _ => 0, g⟩ (fun r => (∀ c : Dev Cert.Ffn2RefIdeal.nD,
      r.2.mem ((c.tc : Thread Cert.Ffn2RefIdeal.nD Cert.Ffn2RefIdeal.τ).loc Cert.Ffn2RefIdeal.main_arg0) = m ((c.tc : Thread Cert.Ffn2RefIdeal.nD Cert.Ffn2RefIdeal.τ).loc Cert.Ffn2RefIdeal.main_arg0)
      ∧ r.2.mem ((c.tc : Thread Cert.Ffn2RefIdeal.nD Cert.Ffn2RefIdeal.τ).loc Cert.Ffn2RefIdeal.main_arg1) = m ((c.tc : Thread Cert.Ffn2RefIdeal.nD Cert.Ffn2RefIdeal.τ).loc Cert.Ffn2RefIdeal.main_arg1)
      ∧ r.2.mem ((c.tc : Thread Cert.Ffn2RefIdeal.nD Cert.Ffn2RefIdeal.τ).loc Cert.Ffn2RefIdeal.main_arg2) = m ((c.tc : Thread Cert.Ffn2RefIdeal.nD Cert.Ffn2RefIdeal.τ).loc Cert.Ffn2RefIdeal.main_arg2)
      ∧ r.2.mem ((c.tc : Thread Cert.Ffn2RefIdeal.nD Cert.Ffn2RefIdeal.τ).loc Cert.Ffn2RefIdeal.main_arg3) = m ((c.tc : Thread Cert.Ffn2RefIdeal.nD Cert.Ffn2RefIdeal.τ).loc Cert.Ffn2RefIdeal.main_arg3)
      ∧ r.2.mem ((c.tc : Thread Cert.Ffn2RefIdeal.nD Cert.Ffn2RefIdeal.τ).loc Cert.Ffn2RefIdeal.main_arg4) = m ((c.tc : Thread Cert.Ffn2RefIdeal.nD Cert.Ffn2RefIdeal.τ).loc Cert.Ffn2RefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6))
      ∧ r.2.sem = fun _ => 0)

def preserves_Fox_FoxIdeal : Prop :=
  IdealRules.named_const.Statement Cert.FoxIdeal.κ "neg_log2e" .f32 0xBFB8AA3B#32 ((-((Real.log 2)⁻¹) : ℝ) : EReal)
  ∧ IdealRules.named_const.Statement Cert.FoxIdeal.κ "log2e" .f32 0x3FB8AA3B#32 (((Real.log 2)⁻¹ : ℝ) : EReal)
  ∧ IdealRules.named_const.Statement Cert.FoxIdeal.κ "mask" .f32 0xF149F2CA#32 ⊥

def preserves_Ffn1_Ffn1Ideal : Prop :=
  True

def algebraic_Ffn1Ideal_Ffn1RefIdeal [hFfn1Ideal : Cert.Ffn1Ideal.Facts] [hFfn1RefIdeal : Cert.Ffn1RefIdeal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg)
    (m' : (ℓ : Loc Cert.Ffn1RefIdeal.nD Cert.Ffn1RefIdeal.τ Cert.Ffn1RefIdeal.sig) → Buf (Elt Ideal) ℓ) (g' : Dev Cert.Ffn1RefIdeal.nD → PrngReg), Pre_Ffn1Ideal m →
    (∀ c : Dev Cert.Ffn1Ideal.nD,
      m' ((c.tc : Thread Cert.Ffn1RefIdeal.nD Cert.Ffn1RefIdeal.τ).loc Cert.Ffn1RefIdeal.main_arg0) = m ((c.tc : Thread Cert.Ffn1Ideal.nD Cert.Ffn1Ideal.τ).loc Cert.Ffn1Ideal.main_arg0)
      ∧ m' ((c.tc : Thread Cert.Ffn1RefIdeal.nD Cert.Ffn1RefIdeal.τ).loc Cert.Ffn1RefIdeal.main_arg1) = m ((c.tc : Thread Cert.Ffn1Ideal.nD Cert.Ffn1Ideal.τ).loc Cert.Ffn1Ideal.main_arg1)
      ∧ m' ((c.tc : Thread Cert.Ffn1RefIdeal.nD Cert.Ffn1RefIdeal.τ).loc Cert.Ffn1RefIdeal.main_arg2) = m ((c.tc : Thread Cert.Ffn1Ideal.nD Cert.Ffn1Ideal.τ).loc Cert.Ffn1Ideal.main_arg2)
      ∧ m' ((c.tc : Thread Cert.Ffn1RefIdeal.nD Cert.Ffn1RefIdeal.τ).loc Cert.Ffn1RefIdeal.main_arg3) = m ((c.tc : Thread Cert.Ffn1Ideal.nD Cert.Ffn1Ideal.τ).loc Cert.Ffn1Ideal.main_arg3)
      ∧ m' ((c.tc : Thread Cert.Ffn1RefIdeal.nD Cert.Ffn1RefIdeal.τ).loc Cert.Ffn1RefIdeal.main_arg4) = m ((c.tc : Thread Cert.Ffn1Ideal.nD Cert.Ffn1Ideal.τ).loc Cert.Ffn1Ideal.main_arg4)
      ∧ m' ((c.tc : Thread Cert.Ffn1RefIdeal.nD Cert.Ffn1RefIdeal.τ).loc Cert.Ffn1RefIdeal.main_arg5) = m ((c.tc : Thread Cert.Ffn1Ideal.nD Cert.Ffn1Ideal.τ).loc Cert.Ffn1Ideal.main_arg5)) →
    ∃ (v0 : (c : Dev Cert.Ffn1Ideal.nD) → Buf (Elt Ideal) ((c.tc : Thread Cert.Ffn1Ideal.nD Cert.Ffn1Ideal.τ).loc Cert.Ffn1Ideal.main_v3_0)) (v1 : (c : Dev Cert.Ffn1Ideal.nD) → Buf (Elt Ideal) ((c.tc : Thread Cert.Ffn1Ideal.nD Cert.Ffn1Ideal.τ).loc Cert.Ffn1Ideal.main_v3_1)),
      θ_run (Cert.Ffn1Ideal.defs (F := Ideal)) (onTc (τ := Cert.Ffn1Ideal.τ) (Cert.Ffn1Ideal.main (F := Ideal))) ⟨m, fun _ => 0, g⟩ (fun r => ∀ c : Dev Cert.Ffn1Ideal.nD,
          r.2.mem ((c.tc : Thread Cert.Ffn1Ideal.nD Cert.Ffn1Ideal.τ).loc Cert.Ffn1Ideal.main_v3_0) = v0 c
          ∧ r.2.mem ((c.tc : Thread Cert.Ffn1Ideal.nD Cert.Ffn1Ideal.τ).loc Cert.Ffn1Ideal.main_v3_1) = v1 c
          ∧ r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
          ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
          ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
          ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
          ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4)
          ∧ r.2.mem ((c.tc : Thread Cert.Ffn1Ideal.nD Cert.Ffn1Ideal.τ).loc Cert.Ffn1Ideal.main_arg5) = m ((c.tc : Thread Cert.Ffn1Ideal.nD Cert.Ffn1Ideal.τ).loc Cert.Ffn1Ideal.main_arg5))
      ∧ θ_run (Cert.Ffn1RefIdeal.defs (F := Ideal)) (onTc (τ := Cert.Ffn1RefIdeal.τ) (Cert.Ffn1RefIdeal.main (F := Ideal))) ⟨m', fun _ => 0, g'⟩ (fun r => ∀ c : Dev Cert.Ffn1RefIdeal.nD,
          r.2.mem ((c.tc : Thread Cert.Ffn1RefIdeal.nD Cert.Ffn1RefIdeal.τ).loc Cert.Ffn1RefIdeal.main_v25) = v0 c
          ∧ r.2.mem ((c.tc : Thread Cert.Ffn1RefIdeal.nD Cert.Ffn1RefIdeal.τ).loc Cert.Ffn1RefIdeal.main_v50) = v1 c
          ∧ r.2.mem ((c.tc : Thread Cert.Ffn1RefIdeal.nD Cert.Ffn1RefIdeal.τ).loc Cert.Ffn1RefIdeal.main_arg0) = m' ((c.tc : Thread Cert.Ffn1RefIdeal.nD Cert.Ffn1RefIdeal.τ).loc Cert.Ffn1RefIdeal.main_arg0)
          ∧ r.2.mem ((c.tc : Thread Cert.Ffn1RefIdeal.nD Cert.Ffn1RefIdeal.τ).loc Cert.Ffn1RefIdeal.main_arg1) = m' ((c.tc : Thread Cert.Ffn1RefIdeal.nD Cert.Ffn1RefIdeal.τ).loc Cert.Ffn1RefIdeal.main_arg1)
          ∧ r.2.mem ((c.tc : Thread Cert.Ffn1RefIdeal.nD Cert.Ffn1RefIdeal.τ).loc Cert.Ffn1RefIdeal.main_arg2) = m' ((c.tc : Thread Cert.Ffn1RefIdeal.nD Cert.Ffn1RefIdeal.τ).loc Cert.Ffn1RefIdeal.main_arg2)
          ∧ r.2.mem ((c.tc : Thread Cert.Ffn1RefIdeal.nD Cert.Ffn1RefIdeal.τ).loc Cert.Ffn1RefIdeal.main_arg3) = m' ((c.tc : Thread Cert.Ffn1RefIdeal.nD Cert.Ffn1RefIdeal.τ).loc Cert.Ffn1RefIdeal.main_arg3)
          ∧ r.2.mem ((c.tc : Thread Cert.Ffn1RefIdeal.nD Cert.Ffn1RefIdeal.τ).loc Cert.Ffn1RefIdeal.main_arg4) = m' ((c.tc : Thread Cert.Ffn1RefIdeal.nD Cert.Ffn1RefIdeal.τ).loc Cert.Ffn1RefIdeal.main_arg4)
          ∧ r.2.mem ((c.tc : Thread Cert.Ffn1RefIdeal.nD Cert.Ffn1RefIdeal.τ).loc Cert.Ffn1RefIdeal.main_arg5) = m' ((c.tc : Thread Cert.Ffn1RefIdeal.nD Cert.Ffn1RefIdeal.τ).loc Cert.Ffn1RefIdeal.main_arg5))

def preserves_Ffn2_Ffn2Ideal : Prop :=
  True

def algebraic_Ffn2Ideal_Ffn2RefIdeal [hFfn2Ideal : Cert.Ffn2Ideal.Facts] [hFfn2RefIdeal : Cert.Ffn2RefIdeal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg)
    (m' : (ℓ : Loc Cert.Ffn2RefIdeal.nD Cert.Ffn2RefIdeal.τ Cert.Ffn2RefIdeal.sig) → Buf (Elt Ideal) ℓ) (g' : Dev Cert.Ffn2RefIdeal.nD → PrngReg), Pre_Ffn2Ideal m →
    (∀ c : Dev Cert.Ffn2Ideal.nD,
      m' ((c.tc : Thread Cert.Ffn2RefIdeal.nD Cert.Ffn2RefIdeal.τ).loc Cert.Ffn2RefIdeal.main_arg0) = m ((c.tc : Thread Cert.Ffn2Ideal.nD Cert.Ffn2Ideal.τ).loc Cert.Ffn2Ideal.main_arg0)
      ∧ m' ((c.tc : Thread Cert.Ffn2RefIdeal.nD Cert.Ffn2RefIdeal.τ).loc Cert.Ffn2RefIdeal.main_arg1) = m ((c.tc : Thread Cert.Ffn2Ideal.nD Cert.Ffn2Ideal.τ).loc Cert.Ffn2Ideal.main_arg1)
      ∧ m' ((c.tc : Thread Cert.Ffn2RefIdeal.nD Cert.Ffn2RefIdeal.τ).loc Cert.Ffn2RefIdeal.main_arg2) = m ((c.tc : Thread Cert.Ffn2Ideal.nD Cert.Ffn2Ideal.τ).loc Cert.Ffn2Ideal.main_arg2)
      ∧ m' ((c.tc : Thread Cert.Ffn2RefIdeal.nD Cert.Ffn2RefIdeal.τ).loc Cert.Ffn2RefIdeal.main_arg3) = m ((c.tc : Thread Cert.Ffn2Ideal.nD Cert.Ffn2Ideal.τ).loc Cert.Ffn2Ideal.main_arg3)
      ∧ m' ((c.tc : Thread Cert.Ffn2RefIdeal.nD Cert.Ffn2RefIdeal.τ).loc Cert.Ffn2RefIdeal.main_arg4) = m ((c.tc : Thread Cert.Ffn2Ideal.nD Cert.Ffn2Ideal.τ).loc Cert.Ffn2Ideal.main_arg4)) →
    ∃ (v0 : (c : Dev Cert.Ffn2Ideal.nD) → Buf (Elt Ideal) ((c.tc : Thread Cert.Ffn2Ideal.nD Cert.Ffn2Ideal.τ).loc Cert.Ffn2Ideal.main_v5)),
      θ_run (Cert.Ffn2Ideal.defs (F := Ideal)) (onTc (τ := Cert.Ffn2Ideal.τ) (Cert.Ffn2Ideal.main (F := Ideal))) ⟨m, fun _ => 0, g⟩ (fun r => ∀ c : Dev Cert.Ffn2Ideal.nD,
          r.2.mem ((c.tc : Thread Cert.Ffn2Ideal.nD Cert.Ffn2Ideal.τ).loc Cert.Ffn2Ideal.main_v5) = v0 c
          ∧ r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
          ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
          ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
          ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3)
          ∧ r.2.mem ((c.tc : Thread Cert.Ffn2Ideal.nD Cert.Ffn2Ideal.τ).loc Cert.Ffn2Ideal.main_arg4) = m ((c.tc : Thread Cert.Ffn2Ideal.nD Cert.Ffn2Ideal.τ).loc Cert.Ffn2Ideal.main_arg4))
      ∧ θ_run (Cert.Ffn2RefIdeal.defs (F := Ideal)) (onTc (τ := Cert.Ffn2RefIdeal.τ) (Cert.Ffn2RefIdeal.main (F := Ideal))) ⟨m', fun _ => 0, g'⟩ (fun r => ∀ c : Dev Cert.Ffn2RefIdeal.nD,
          r.2.mem ((c.tc : Thread Cert.Ffn2RefIdeal.nD Cert.Ffn2RefIdeal.τ).loc Cert.Ffn2RefIdeal.main_v24) = v0 c
          ∧ r.2.mem ((c.tc : Thread Cert.Ffn2RefIdeal.nD Cert.Ffn2RefIdeal.τ).loc Cert.Ffn2RefIdeal.main_arg0) = m' ((c.tc : Thread Cert.Ffn2RefIdeal.nD Cert.Ffn2RefIdeal.τ).loc Cert.Ffn2RefIdeal.main_arg0)
          ∧ r.2.mem ((c.tc : Thread Cert.Ffn2RefIdeal.nD Cert.Ffn2RefIdeal.τ).loc Cert.Ffn2RefIdeal.main_arg1) = m' ((c.tc : Thread Cert.Ffn2RefIdeal.nD Cert.Ffn2RefIdeal.τ).loc Cert.Ffn2RefIdeal.main_arg1)
          ∧ r.2.mem ((c.tc : Thread Cert.Ffn2RefIdeal.nD Cert.Ffn2RefIdeal.τ).loc Cert.Ffn2RefIdeal.main_arg2) = m' ((c.tc : Thread Cert.Ffn2RefIdeal.nD Cert.Ffn2RefIdeal.τ).loc Cert.Ffn2RefIdeal.main_arg2)
          ∧ r.2.mem ((c.tc : Thread Cert.Ffn2RefIdeal.nD Cert.Ffn2RefIdeal.τ).loc Cert.Ffn2RefIdeal.main_arg3) = m' ((c.tc : Thread Cert.Ffn2RefIdeal.nD Cert.Ffn2RefIdeal.τ).loc Cert.Ffn2RefIdeal.main_arg3)
          ∧ r.2.mem ((c.tc : Thread Cert.Ffn2RefIdeal.nD Cert.Ffn2RefIdeal.τ).loc Cert.Ffn2RefIdeal.main_arg4) = m' ((c.tc : Thread Cert.Ffn2RefIdeal.nD Cert.Ffn2RefIdeal.τ).loc Cert.Ffn2RefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v10)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v10) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v21) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)
      ∧ m' ((c.tc : Thread Cert.InprojRefIdeal.nD Cert.InprojRefIdeal.τ).loc Cert.InprojRefIdeal.main_arg6) = m ((c.tc : Thread Cert.InprojIdeal.nD Cert.InprojIdeal.τ).loc Cert.InprojIdeal.main_arg6)) →
    ∃ (v0 : (c : Dev Cert.InprojIdeal.nD) → Buf (Elt Ideal) ((c.tc : Thread Cert.InprojIdeal.nD Cert.InprojIdeal.τ).loc Cert.InprojIdeal.main_v18_0)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v18_0) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v60) = v0 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5)
          ∧ r.2.mem ((c.tc : Thread Cert.InprojRefIdeal.nD Cert.InprojRefIdeal.τ).loc Cert.InprojRefIdeal.main_arg6) = m' ((c.tc : Thread Cert.InprojRefIdeal.nD Cert.InprojRefIdeal.τ).loc Cert.InprojRefIdeal.main_arg6))

def Claim : Prop :=
  ∃ (hFox : Cert.Fox.Facts) (hFoxIdeal : Cert.FoxIdeal.Facts) (hFfn1 : Cert.Ffn1.Facts) (hFfn1Ideal : Cert.Ffn1Ideal.Facts) (hFfn1RefIdeal : Cert.Ffn1RefIdeal.Facts) (hFfn2 : Cert.Ffn2.Facts) (hFfn2Ideal : Cert.Ffn2Ideal.Facts) (hFfn2RefIdeal : Cert.Ffn2RefIdeal.Facts) (hMerge : Cert.Merge.Facts) (hMergeIdeal : Cert.MergeIdeal.Facts) (hMergeRefIdeal : Cert.MergeRefIdeal.Facts) (hInproj : Cert.Inproj.Facts) (hInprojIdeal : Cert.InprojIdeal.Facts) (hInprojRefIdeal : Cert.InprojRefIdeal.Facts),
    quiescent_Fox (hFox := hFox)
    ∧ quiescent_FoxIdeal (hFoxIdeal := hFoxIdeal)
    ∧ quiescent_Ffn1 (hFfn1 := hFfn1)
    ∧ quiescent_Ffn1Ideal (hFfn1Ideal := hFfn1Ideal)
    ∧ quiescent_Ffn1RefIdeal (hFfn1RefIdeal := hFfn1RefIdeal)
    ∧ quiescent_Ffn2 (hFfn2 := hFfn2)
    ∧ quiescent_Ffn2Ideal (hFfn2Ideal := hFfn2Ideal)
    ∧ quiescent_Ffn2RefIdeal (hFfn2RefIdeal := hFfn2RefIdeal)
    ∧ quiescent_Merge (hMerge := hMerge)
    ∧ quiescent_MergeIdeal (hMergeIdeal := hMergeIdeal)
    ∧ quiescent_MergeRefIdeal (hMergeRefIdeal := hMergeRefIdeal)
    ∧ quiescent_Inproj (hInproj := hInproj)
    ∧ quiescent_InprojIdeal (hInprojIdeal := hInprojIdeal)
    ∧ quiescent_InprojRefIdeal (hInprojRefIdeal := hInprojRefIdeal)
    ∧ preserves_Fox_FoxIdeal
    ∧ preserves_Ffn1_Ffn1Ideal
    ∧ algebraic_Ffn1Ideal_Ffn1RefIdeal (hFfn1Ideal := hFfn1Ideal) (hFfn1RefIdeal := hFfn1RefIdeal)
    ∧ preserves_Ffn2_Ffn2Ideal
    ∧ algebraic_Ffn2Ideal_Ffn2RefIdeal (hFfn2Ideal := hFfn2Ideal) (hFfn2RefIdeal := hFfn2RefIdeal)
    ∧ preserves_Merge_MergeIdeal
    ∧ algebraic_MergeIdeal_MergeRefIdeal (hMergeIdeal := hMergeIdeal) (hMergeRefIdeal := hMergeRefIdeal)
    ∧ preserves_Inproj_InprojIdeal
    ∧ algebraic_InprojIdeal_InprojRefIdeal (hInprojIdeal := hInprojIdeal) (hInprojRefIdeal := hInprojRefIdeal)
-- ==== Fox.lean ====
abbrev S2x4096x8x128 : Shape := ⟨4, ![2, 4096, 8, 128]⟩
abbrev S16x8x128 : Shape := ⟨3, ![16, 8, 128]⟩
abbrev S2x8x4096 : Shape := ⟨3, ![2, 8, 4096]⟩
abbrev S8x16 : Shape := ⟨2, ![8, 16]⟩
abbrev S1x1024x2048 : Shape := ⟨3, ![1, 1024, 2048]⟩
abbrev S1x2048x2048 : Shape := ⟨3, ![1, 2048, 2048]⟩
abbrev S_ : Shape := ⟨0, ![]⟩
abbrev S8192x1024 : Shape := ⟨2, ![8192, 1024]⟩
abbrev S8192x2048 : Shape := ⟨2, ![8192, 2048]⟩
abbrev S8192x7168 : Shape := ⟨2, ![8192, 7168]⟩
abbrev S8192x8192 : Shape := ⟨2, ![8192, 8192]⟩
abbrev S8192x10240 : Shape := ⟨2, ![8192, 10240]⟩
abbrev S16x1024 : Shape := ⟨2, ![16, 1024]⟩
abbrev S16x2048 : Shape := ⟨2, ![16, 2048]⟩
abbrev S16x7168 : Shape := ⟨2, ![16, 7168]⟩
abbrev S16x8192 : Shape := ⟨2, ![16, 8192]⟩
abbrev S16x10240 : Shape := ⟨2, ![16, 10240]⟩
abbrev S112x10240 : Shape := ⟨2, ![112, 10240]⟩
abbrev S128x10240 : Shape := ⟨2, ![128, 10240]⟩
abbrev S2x8x1x4096 : Shape := ⟨4, ![2, 8, 1, 4096]⟩
abbrev S2x8x8x1x512 : Shape := ⟨5, ![2, 8, 8, 1, 512]⟩
abbrev S8x112 : Shape := ⟨2, ![8, 112]⟩
abbrev S8x128 : Shape := ⟨2, ![8, 128]⟩
abbrev S8x1x128 : Shape := ⟨3, ![8, 1, 128]⟩
abbrev S512x512 : Shape := ⟨2, ![512, 512]⟩
abbrev S4096x512 : Shape := ⟨2, ![4096, 512]⟩
abbrev S128x512 : Shape := ⟨2, ![128, 512]⟩
abbrev S1x4x8x1x512 : Shape := ⟨5, ![1, 4, 8, 1, 512]⟩
abbrev S1x4x1x4096 : Shape := ⟨4, ![1, 4, 1, 4096]⟩
abbrev S4x1x128 : Shape := ⟨3, ![4, 1, 128]⟩
abbrev S1x32x2048 : Shape := ⟨3, ![1, 32, 2048]⟩
abbrev S1x64x2048 : Shape := ⟨3, ![1, 64, 2048]⟩
abbrev S4x4224x256 : Shape := ⟨3, ![4, 4224, 256]⟩
abbrev S4x8x128x512 : Shape := ⟨4, ![4, 8, 128, 512]⟩
abbrev S4x128x128 : Shape := ⟨3, ![4, 128, 128]⟩
abbrev S4x2x512x512 : Shape := ⟨4, ![4, 2, 512, 512]⟩
abbrev S4x1x512 : Shape := ⟨3, ![4, 1, 512]⟩
abbrev S4x128x512 : Shape := ⟨3, ![4, 128, 512]⟩
abbrev S32x2048 : Shape := ⟨2, ![32, 2048]⟩
abbrev S64x2048 : Shape := ⟨2, ![64, 2048]⟩
abbrev S128x128 : Shape := ⟨2, ![128, 128]⟩
abbrev S1x128x128 : Shape := ⟨3, ![1, 128, 128]⟩
abbrev S1x1x128 : Shape := ⟨3, ![1, 1, 128]⟩
abbrev S1x128 : Shape := ⟨2, ![1, 128]⟩
abbrev S4096x128 : Shape := ⟨2, ![4096, 128]⟩
abbrev S1x4096x128 : Shape := ⟨3, ![1, 4096, 128]⟩
abbrev S1x1x1x4096 : Shape := ⟨4, ![1, 1, 1, 4096]⟩
abbrev S1x4096 : Shape := ⟨2, ![1, 4096]⟩
abbrev S128x4096 : Shape := ⟨2, ![128, 4096]⟩
abbrev S512x128 : Shape := ⟨2, ![512, 128]⟩
abbrev S1x1x128x512 : Shape := ⟨4, ![1, 1, 128, 512]⟩
abbrev S1x1x1x1x512 : Shape := ⟨5, ![1, 1, 1, 1, 512]⟩
abbrev S1x512 : Shape := ⟨2, ![1, 512]⟩
abbrev S256x512 : Shape := ⟨2, ![256, 512]⟩
abbrev S1x512x256 : Shape := ⟨3, ![1, 512, 256]⟩
abbrev S512x256 : Shape := ⟨2, ![512, 256]⟩
abbrev S1x1x512x512 : Shape := ⟨4, ![1, 1, 512, 512]⟩
abbrev S1x1x512 : Shape := ⟨3, ![1, 1, 512]⟩
abbrev S512 : Shape := ⟨1, ![512]⟩
abbrev S1x128x512 : Shape := ⟨3, ![1, 128, 512]⟩
abbrev S1x128x256 : Shape := ⟨3, ![1, 128, 256]⟩
abbrev S128x256 : Shape := ⟨2, ![128, 256]⟩
abbrev S640x512 : Shape := ⟨2, ![640, 512]⟩
abbrev S128x640 : Shape := ⟨2, ![128, 640]⟩

abbrev nBuf : Space → Nat
  | .hbm => 48
  | .vmem => 37
  | .smem => 0
  | _ => 0

abbrev bufTy : (tb : Table) → Fin (tcTables nBuf tb) → BufTy
  | .hbm, ⟨0, _⟩ => ⟨S2x4096x8x128, .f32⟩
  | .hbm, ⟨1, _⟩ => ⟨S2x4096x8x128, .f32⟩
  | .hbm, ⟨2, _⟩ => ⟨S2x4096x8x128, .f32⟩
  | .hbm, ⟨3, _⟩ => ⟨S16x8x128, .f32⟩
  | .hbm, ⟨4, _⟩ => ⟨S16x8x128, .f32⟩
  | .hbm, ⟨5, _⟩ => ⟨S2x8x4096, .f32⟩
  | .hbm, ⟨6, _⟩ => ⟨S8x16, .f32⟩
  | .hbm, ⟨7, _⟩ => ⟨S1x1024x2048, .f32⟩
  | .hbm, ⟨8, _⟩ => ⟨S1x1024x2048, .f32⟩
  | .hbm, ⟨9, _⟩ => ⟨S1x2048x2048, .f32⟩
  | .hbm, ⟨10, _⟩ => ⟨S_, .f32⟩
  | .hbm, ⟨11, _⟩ => ⟨S2x4096x8x128, .f32⟩
  | .hbm, ⟨12, _⟩ => ⟨S2x4096x8x128, .f32⟩
  | .hbm, ⟨13, _⟩ => ⟨S8192x1024, .f32⟩
  | .hbm, ⟨14, _⟩ => ⟨S8192x1024, .bf16⟩
  | .hbm, ⟨15, _⟩ => ⟨S8192x1024, .f32⟩
  | .hbm, ⟨16, _⟩ => ⟨S8192x1024, .bf16⟩
  | .hbm, ⟨17, _⟩ => ⟨S8192x2048, .bf16⟩
  | .hbm, ⟨18, _⟩ => ⟨S8192x1024, .f32⟩
  | .hbm, ⟨19, _⟩ => ⟨S8192x1024, .bf16⟩
  | .hbm, ⟨20, _⟩ => ⟨S_, .bf16⟩
  | .hbm, ⟨21, _⟩ => ⟨S8192x7168, .bf16⟩
  | .hbm, ⟨22, _⟩ => ⟨S8192x8192, .bf16⟩
  | .hbm, ⟨23, _⟩ => ⟨S8192x10240, .bf16⟩
  | .hbm, ⟨24, _⟩ => ⟨S_, .bf16⟩
  | .hbm, ⟨25, _⟩ => ⟨S16x1024, .bf16⟩
  | .hbm, ⟨26, _⟩ => ⟨S16x1024, .f32⟩
  | .hbm, ⟨27, _⟩ => ⟨S16x1024, .bf16⟩
  | .hbm, ⟨28, _⟩ => ⟨S16x2048, .bf16⟩
  | .hbm, ⟨29, _⟩ => ⟨S16x1024, .f32⟩
  | .hbm, ⟨30, _⟩ => ⟨S16x1024, .bf16⟩
  | .hbm, ⟨31, _⟩ => ⟨S_, .bf16⟩
  | .hbm, ⟨32, _⟩ => ⟨S16x7168, .bf16⟩
  | .hbm, ⟨33, _⟩ => ⟨S16x8192, .bf16⟩
  | .hbm, ⟨34, _⟩ => ⟨S16x10240, .bf16⟩
  | .hbm, ⟨35, _⟩ => ⟨S_, .bf16⟩
  | .hbm, ⟨36, _⟩ => ⟨S112x10240, .bf16⟩
  | .hbm, ⟨37, _⟩ => ⟨S128x10240, .bf16⟩
  | .hbm, ⟨38, _⟩ => ⟨S2x8x1x4096, .f32⟩
  | .hbm, ⟨39, _⟩ => ⟨S2x8x8x1x512, .f32⟩
  | .hbm, ⟨40, _⟩ => ⟨S_, .f32⟩
  | .hbm, ⟨41, _⟩ => ⟨S8x112, .f32⟩
  | .hbm, ⟨42, _⟩ => ⟨S8x128, .f32⟩
  | .hbm, ⟨43, _⟩ => ⟨S8x1x128, .f32⟩
  | .hbm, ⟨44, _⟩ => ⟨S8192x1024, .bf16⟩
  | .hbm, ⟨45, _⟩ => ⟨S1x1024x2048, .bf16⟩
  | .hbm, ⟨46, _⟩ => ⟨S1x1024x2048, .bf16⟩
  | .hbm, ⟨47, _⟩ => ⟨S1x2048x2048, .bf16⟩
  | .local _ .vmem, ⟨0, _⟩ => ⟨S512x512, .bf16⟩
  | .local _ .vmem, ⟨1, _⟩ => ⟨S512x512, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S128x512, .bf16⟩
  | .local _ .vmem, ⟨7, _⟩ => ⟨S128x512, .bf16⟩
  | .local _ .vmem, ⟨8, _⟩ => ⟨S128x512, .bf16⟩
  | .local _ .vmem, ⟨9, _⟩ => ⟨S128x512, .bf16⟩
  | .local _ .vmem, ⟨10, _⟩ => ⟨S1x4x8x1x512, .f32⟩
  | .local _ .vmem, ⟨11, _⟩ => ⟨S1x4x8x1x512, .f32⟩
  | .local _ .vmem, ⟨12, _⟩ => ⟨S1x4x1x4096, .f32⟩
  | .local _ .vmem, ⟨13, _⟩ => ⟨S1x4x1x4096, .f32⟩
  | .local _ .vmem, ⟨14, _⟩ => ⟨S4x1x128, .f32⟩
  | .local _ .vmem, ⟨15, _⟩ => ⟨S4x1x128, .f32⟩
  | .local _ .vmem, ⟨16, _⟩ => ⟨S1x32x2048, .f32⟩
  | .local _ .vmem, ⟨17, _⟩ => ⟨S1x32x2048, .f32⟩
  | .local _ .vmem, ⟨18, _⟩ => ⟨S1x32x2048, .f32⟩
  | .local _ .vmem, ⟨19, _⟩ => ⟨S1x32x2048, .f32⟩
  | .local _ .vmem, ⟨20, _⟩ => ⟨S1x64x2048, .f32⟩
  | .local _ .vmem, ⟨21, _⟩ => ⟨S1x64x2048, .f32⟩
  | .local _ .vmem, ⟨22, _⟩ => ⟨S512x512, .bf16⟩
  | .local _ .vmem, ⟨23, _⟩ => ⟨S512x512, .bf16⟩
  | .local _ .vmem, ⟨24, _⟩ => ⟨S1x32x2048, .bf16⟩
  | .local _ .vmem, ⟨25, _⟩ => ⟨S1x32x2048, .bf16⟩
  | .local _ .vmem, ⟨26, _⟩ => ⟨S1x32x2048, .bf16⟩
  | .local _ .vmem, ⟨27, _⟩ => ⟨S1x32x2048, .bf16⟩
  | .local _ .vmem, ⟨28, _⟩ => ⟨S1x64x2048, .bf16⟩
  | .local _ .vmem, ⟨29, _⟩ => ⟨S1x64x2048, .bf16⟩
  | .local _ .vmem, ⟨30, _⟩ => ⟨S4x4224x256, .bf16⟩
  | .local _ .vmem, ⟨31, _⟩ => ⟨S4x8x128x512, .bf16⟩
  | .local _ .vmem, ⟨32, _⟩ => ⟨S4x128x128, .bf16⟩
  | .local _ .vmem, ⟨33, _⟩ => ⟨S4x2x512x512, .f32⟩
  | .local _ .vmem, ⟨34, _⟩ => ⟨S4x1x512, .f32⟩
  | .local _ .vmem, ⟨35, _⟩ => ⟨S4x1x512, .f32⟩
  | .local _ .vmem, ⟨36, _⟩ => ⟨S4x128x512, .f32⟩
  | _, _ => ⟨S2x4096x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28_0 : Ref sig .tc := ⟨.hbm, 44, rfl⟩
abbrev main_v28_1 : Ref sig .tc := ⟨.hbm, 45, rfl⟩
abbrev main_v28_2 : Ref sig .tc := ⟨.hbm, 46, rfl⟩
abbrev main_v28_3 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_scratch4 : Ref sig .tc := ⟨.vmem, 34, rfl⟩
abbrev cc0_scratch5 : Ref sig .tc := ⟨.vmem, 35, rfl⟩
abbrev cc0_scratch6 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨3, ![2, 2, 8], ![false, false, false]⟩

def k0_off1 (i : grid0.Coords) : Fin 5 → Nat :=
  let c0_20 : Index := 0#32
  let c0_21 : Index := 0#32
  let arg2 : BitVec 32 := BitVec.ofNat 32 (i 2).val
  let v25 : Index := Scalar.indexCast arg2
  let c0_22 : Index := 0#32
  let c0_23 : Index := 0#32
  ![0, 0, v25.toNat, 0, 0]
def k0_off2 (i : grid0.Coords) : Fin 5 → Nat :=
  let c0_28 : Index := 0#32
  let c1 : Index := 1#32
  let arg2 : BitVec 32 := BitVec.ofNat 32 (i 2).val
  let v68 : Index := Scalar.indexCast arg2
  let c0_29 : Index := 0#32
  let c0_30 : Index := 0#32
  ![0, 1, v68.toNat, 0, 0]
def k0_off3 (i : grid0.Coords) : Fin 5 → Nat :=
  let c0_40 : Index := 0#32
  let c2 : Index := 2#32
  let arg2 : BitVec 32 := BitVec.ofNat 32 (i 2).val
  let v111 : Index := Scalar.indexCast arg2
  let c0_41 : Index := 0#32
  let c0_42 : Index := 0#32
  ![0, 2, v111.toNat, 0, 0]
def k0_off4 (i : grid0.Coords) : Fin 5 → Nat :=
  let c0_52 : Index := 0#32
  let c3 : Index := 3#32
  let arg2 : BitVec 32 := BitVec.ofNat 32 (i 2).val
  let v154 : Index := Scalar.indexCast arg2
  let c0_53 : Index := 0#32
  let c0_54 : Index := 0#32
  ![0, 3, v154.toNat, 0, 0]
def k0_mult1 : BitVec 32 :=
  let c128_i32 : BitVec 32 := 128#32
  c128_i32
def k0_mult2 : BitVec 32 :=
  let c128_i32_70 : BitVec 32 := 128#32
  c128_i32_70
def k0_mult3 : BitVec 32 :=
  let c128_i32_78 : BitVec 32 := 128#32
  c128_i32_78
def k0_mult4 : BitVec 32 :=
  let c128_i32_86 : BitVec 32 := 128#32
  c128_i32_86
@[reducible] def k0_t1_loop (i : grid0.Coords) : Scf.Loop 32 :=
  let c0_i32_113 : BitVec 32 := 0#32
  let arg2 : BitVec 32 := BitVec.ofNat 32 (i 2).val
  let c0_i32_107 : BitVec 32 := 0#32
  let v238 : BitVec 1 := Scalar.cmpi .sgt arg2 c0_i32_107
  let v239 : BitVec 32 := Scalar.extui v238
  let c0_i32_108 : BitVec 32 := 0#32
  let v240 : BitVec 1 := Scalar.cmpi .slt arg2 c0_i32_108
  let v241 : BitVec 32 := Scalar.extui v240
  let v242 : BitVec 32 := Scalar.subi v239 v241
  let c2_i32_106 : BitVec 32 := 2#32
  let c0_i32_109 : BitVec 32 := 0#32
  let v243 : BitVec 1 := Scalar.cmpi .sgt c2_i32_106 c0_i32_109
  let v244 : BitVec 32 := Scalar.extui v243
  let c0_i32_110 : BitVec 32 := 0#32
  let v245 : BitVec 1 := Scalar.cmpi .slt c2_i32_106 c0_i32_110
  let v246 : BitVec 32 := Scalar.extui v245
  let v247 : BitVec 32 := Scalar.subi v244 v246
  let v248 : BitVec 1 := Scalar.cmpi .ne v242 v247
  let v249 : BitVec 32 := Scalar.remsi arg2 c2_i32_106
  let c0_i32_111 : BitVec 32 := 0#32
  let v250 : BitVec 1 := Scalar.cmpi .ne v249 c0_i32_111
  let v251 : BitVec 1 := Scalar.andi v248 v250
  let v237 : BitVec 32 := Scalar.divsi arg2 c2_i32_106
  let c1_i32_112 : BitVec 32 := 1#32
  let v252 : BitVec 32 := Scalar.subi v237 c1_i32_112
  let v253 : BitVec 32 := Scalar.select v251 v252 v237
  let v254 : BitVec 32 := Scalar.subi v253 c0_i32_113
  let c1_i32_115 : BitVec 32 := 1#32
  let v256 : BitVec 32 := Scalar.divsi v254 c1_i32_115
  let v257 : BitVec 32 := Scalar.muli v256 c1_i32_115
  let v258 : BitVec 32 := Scalar.addi c0_i32_113 v257
  let c1_i32_116 : BitVec 32 := 1#32
  ⟨c0_i32_113, v258, c1_i32_116⟩
def k0_mult5 (i : grid0.Coords) (k0_t1 : Fin (k0_t1_loop i).trips) : BitVec 32 :=
  let c128_i32_169 : BitVec 32 := 128#32
  let c2_i32_166 : BitVec 32 := 2#32
  let c0_i32_113 : BitVec 32 := 0#32
  let c1_i32_116 : BitVec 32 := 1#32
  let arg25 : BitVec 32 := Scf.iv c0_i32_113 c1_i32_116 k0_t1
  let v323 : BitVec 32 := Scalar.muli c2_i32_166 arg25
  let c0_i32_167 : BitVec 32 := 0#32
  let v324 : BitVec 32 := Scalar.addi v323 c0_i32_167
  let c1_i32_168 : BitVec 32 := 1#32
  let v325 : BitVec 32 := Scalar.addi v324 c1_i32_168
  let c512_i32 : BitVec 32 := 512#32
  let v326 : BitVec 32 := Scalar.muli v325 c512_i32
  let v327 : BitVec 32 := Scalar.addi c128_i32_169 v326
  v327
def k0_off5 (i : grid0.Coords) (k0_t1 : Fin (k0_t1_loop i).trips) (c0_i32_167 : BitVec 32) : Fin 3 → Nat :=
  let c0_170 : Index := 0#32
  let c128_i32_169 : BitVec 32 := 128#32
  let c2_i32_166 : BitVec 32 := 2#32
  let c0_i32_113 : BitVec 32 := 0#32
  let c1_i32_116 : BitVec 32 := 1#32
  let arg25 : BitVec 32 := Scf.iv c0_i32_113 c1_i32_116 k0_t1
  let v323 : BitVec 32 := Scalar.muli c2_i32_166 arg25
  let v324 : BitVec 32 := Scalar.addi v323 c0_i32_167
  let c1_i32_168 : BitVec 32 := 1#32
  let v325 : BitVec 32 := Scalar.addi v324 c1_i32_168
  let c512_i32 : BitVec 32 := 512#32
  let v326 : BitVec 32 := Scalar.muli v325 c512_i32
  let v327 : BitVec 32 := Scalar.addi c128_i32_169 v326
  let v328 : BitVec 32 := v327
  let v329 : Index := Scalar.indexCast v328
  let c0_171 : Index := 0#32
  ![0, v329.toNat, 0]
def k0_mult6 (i : grid0.Coords) (k0_t1 : Fin (k0_t1_loop i).trips) : BitVec 32 :=
  let c128_i32_181 : BitVec 32 := 128#32
  let c2_i32_177 : BitVec 32 := 2#32
  let c0_i32_113 : BitVec 32 := 0#32
  let c1_i32_116 : BitVec 32 := 1#32
  let arg25 : BitVec 32 := Scf.iv c0_i32_113 c1_i32_116 k0_t1
  let v336 : BitVec 32 := Scalar.muli c2_i32_177 arg25
  let c0_i32_178 : BitVec 32 := 0#32
  let v337 : BitVec 32 := Scalar.addi v336 c0_i32_178
  let c1_i32_179 : BitVec 32 := 1#32
  let v338 : BitVec 32 := Scalar.addi v337 c1_i32_179
  let c512_i32_180 : BitVec 32 := 512#32
  let v339 : BitVec 32 := Scalar.muli v338 c512_i32_180
  let v340 : BitVec 32 := Scalar.addi c128_i32_181 v339
  v340
def k0_off6 (i : grid0.Coords) (k0_t1 : Fin (k0_t1_loop i).trips) (c0_i32_178 : BitVec 32) : Fin 3 → Nat :=
  let c1_182 : Index := 1#32
  let c128_i32_181 : BitVec 32 := 128#32
  let c2_i32_177 : BitVec 32 := 2#32
  let c0_i32_113 : BitVec 32 := 0#32
  let c1_i32_116 : BitVec 32 := 1#32
  let arg25 : BitVec 32 := Scf.iv c0_i32_113 c1_i32_116 k0_t1
  let v336 : BitVec 32 := Scalar.muli c2_i32_177 arg25
  let v337 : BitVec 32 := Scalar.addi v336 c0_i32_178
  let c1_i32_179 : BitVec 32 := 1#32
  let v338 : BitVec 32 := Scalar.addi v337 c1_i32_179
  let c512_i32_180 : BitVec 32 := 512#32
  let v339 : BitVec 32 := Scalar.muli v338 c512_i32_180
  let v340 : BitVec 32 := Scalar.addi c128_i32_181 v339
  let v341 : BitVec 32 := v340
  let v342 : Index := Scalar.indexCast v341
  let c0_183 : Index := 0#32
  ![1, v342.toNat, 0]
def k0_mult7 (i : grid0.Coords) (k0_t1 : Fin (k0_t1_loop i).trips) : BitVec 32 :=
  let c128_i32_193 : BitVec 32 := 128#32
  let c2_i32_189 : BitVec 32 := 2#32
  let c0_i32_113 : BitVec 32 := 0#32
  let c1_i32_116 : BitVec 32 := 1#32
  let arg25 : BitVec 32 := Scf.iv c0_i32_113 c1_i32_116 k0_t1
  let v349 : BitVec 32 := Scalar.muli c2_i32_189 arg25
  let c0_i32_190 : BitVec 32 := 0#32
  let v350 : BitVec 32 := Scalar.addi v349 c0_i32_190
  let c1_i32_191 : BitVec 32 := 1#32
  let v351 : BitVec 32 := Scalar.addi v350 c1_i32_191
  let c512_i32_192 : BitVec 32 := 512#32
  let v352 : BitVec 32 := Scalar.muli v351 c512_i32_192
  let v353 : BitVec 32 := Scalar.addi c128_i32_193 v352
  v353
def k0_off7 (i : grid0.Coords) (k0_t1 : Fin (k0_t1_loop i).trips) (c0_i32_190 : BitVec 32) : Fin 3 → Nat :=
  let c2_194 : Index := 2#32
  let c128_i32_193 : BitVec 32 := 128#32
  let c2_i32_189 : BitVec 32 := 2#32
  let c0_i32_113 : BitVec 32 := 0#32
  let c1_i32_116 : BitVec 32 := 1#32
  let arg25 : BitVec 32 := Scf.iv c0_i32_113 c1_i32_116 k0_t1
  let v349 : BitVec 32 := Scalar.muli c2_i32_189 arg25
  let v350 : BitVec 32 := Scalar.addi v349 c0_i32_190
  let c1_i32_191 : BitVec 32 := 1#32
  let v351 : BitVec 32 := Scalar.addi v350 c1_i32_191
  let c512_i32_192 : BitVec 32 := 512#32
  let v352 : BitVec 32 := Scalar.muli v351 c512_i32_192
  let v353 : BitVec 32 := Scalar.addi c128_i32_193 v352
  let v354 : BitVec 32 := v353
  let v355 : Index := Scalar.indexCast v354
  let c0_195 : Index := 0#32
  ![2, v355.toNat, 0]
def k0_mult8 (i : grid0.Coords) (k0_t1 : Fin (k0_t1_loop i).trips) : BitVec 32 :=
  let c128_i32_205 : BitVec 32 := 128#32
  let c2_i32_201 : BitVec 32 := 2#32
  let c0_i32_113 : BitVec 32 := 0#32
  let c1_i32_116 : BitVec 32 := 1#32
  let arg25 : BitVec 32 := Scf.iv c0_i32_113 c1_i32_116 k0_t1
  let v362 : BitVec 32 := Scalar.muli c2_i32_201 arg25
  let c0_i32_202 : BitVec 32 := 0#32
  let v363 : BitVec 32 := Scalar.addi v362 c0_i32_202
  let c1_i32_203 : BitVec 32 := 1#32
  let v364 : BitVec 32 := Scalar.addi v363 c1_i32_203
  let c512_i32_204 : BitVec 32 := 512#32
  let v365 : BitVec 32 := Scalar.muli v364 c512_i32_204
  let v366 : BitVec 32 := Scalar.addi c128_i32_205 v365
  v366
def k0_off8 (i : grid0.Coords) (k0_t1 : Fin (k0_t1_loop i).trips) (c0_i32_202 : BitVec 32) : Fin 3 → Nat :=
  let c3_206 : Index := 3#32
  let c128_i32_205 : BitVec 32 := 128#32
  let c2_i32_201 : BitVec 32 := 2#32
  let c0_i32_113 : BitVec 32 := 0#32
  let c1_i32_116 : BitVec 32 := 1#32
  let arg25 : BitVec 32 := Scf.iv c0_i32_113 c1_i32_116 k0_t1
  let v362 : BitVec 32 := Scalar.muli c2_i32_201 arg25
  let v363 : BitVec 32 := Scalar.addi v362 c0_i32_202
  let c1_i32_203 : BitVec 32 := 1#32
  let v364 : BitVec 32 := Scalar.addi v363 c1_i32_203
  let c512_i32_204 : BitVec 32 := 512#32
  let v365 : BitVec 32 := Scalar.muli v364 c512_i32_204
  let v366 : BitVec 32 := Scalar.addi c128_i32_205 v365
  let v367 : BitVec 32 := v366
  let v368 : Index := Scalar.indexCast v367
  let c0_207 : Index := 0#32
  ![3, v368.toNat, 0]
def k0_off9 (i : grid0.Coords) (k0_t1 : Fin (k0_t1_loop i).trips) (c0_i32_218 : BitVec 32) : Fin 4 → Nat :=
  let c0_219 : Index := 0#32
  let c2_i32_217 : BitVec 32 := 2#32
  let c0_i32_113 : BitVec 32 := 0#32
  let c1_i32_116 : BitVec 32 := 1#32
  let arg25 : BitVec 32 := Scf.iv c0_i32_113 c1_i32_116 k0_t1
  let v377 : BitVec 32 := Scalar.muli c2_i32_217 arg25
  let v378 : BitVec 32 := Scalar.addi v377 c0_i32_218
  let v379 : Index := Scalar.indexCast v378
  let c0_220 : Index := 0#32
  let c0_221 : Index := 0#32
  ![0, v379.toNat, 0, 0]
def k0_off10 (i : grid0.Coords) (k0_t1 : Fin (k0_t1_loop i).trips) (c0_i32_248 : BitVec 32) : Fin 4 → Nat :=
  let c1_249 : Index := 1#32
  let c2_i32_247 : BitVec 32 := 2#32
  let c0_i32_113 : BitVec 32 := 0#32
  let c1_i32_116 : BitVec 32 := 1#32
  let arg25 : BitVec 32 := Scf.iv c0_i32_113 c1_i32_116 k0_t1
  let v416 : BitVec 32 := Scalar.muli c2_i32_247 arg25
  let v417 : BitVec 32 := Scalar.addi v416 c0_i32_248
  let v418 : Index := Scalar.indexCast v417
  let c0_250 : Index := 0#32
  let c0_251 : Index := 0#32
  ![1, v418.toNat, 0, 0]
def k0_off11 (i : grid0.Coords) (k0_t1 : Fin (k0_t1_loop i).trips) (c0_i32_278 : BitVec 32) : Fin 4 → Nat :=
  let c2_279 : Index := 2#32
  let c2_i32_277 : BitVec 32 := 2#32
  let c0_i32_113 : BitVec 32 := 0#32
  let c1_i32_116 : BitVec 32 := 1#32
  let arg25 : BitVec 32 := Scf.iv c0_i32_113 c1_i32_116 k0_t1
  let v455 : BitVec 32 := Scalar.muli c2_i32_277 arg25
  let v456 : BitVec 32 := Scalar.addi v455 c0_i32_278
  let v457 : Index := Scalar.indexCast v456
  let c0_280 : Index := 0#32
  let c0_281 : Index := 0#32
  ![2, v457.toNat, 0, 0]
def k0_off12 (i : grid0.Coords) (k0_t1 : Fin (k0_t1_loop i).trips) (c0_i32_308 : BitVec 32) : Fin 4 → Nat :=
  let c3_309 : Index := 3#32
  let c2_i32_307 : BitVec 32 := 2#32
  let c0_i32_113 : BitVec 32 := 0#32
  let c1_i32_116 : BitVec 32 := 1#32
  let arg25 : BitVec 32 := Scf.iv c0_i32_113 c1_i32_116 k0_t1
  let v494 : BitVec 32 := Scalar.muli c2_i32_307 arg25
  let v495 : BitVec 32 := Scalar.addi v494 c0_i32_308
  let v496 : Index := Scalar.indexCast v495
  let c0_310 : Index := 0#32
  let c0_311 : Index := 0#32
  ![3, v496.toNat, 0, 0]
def k0_mult9 (i : grid0.Coords) (k0_t1 : Fin (k0_t1_loop i).trips) : BitVec 32 :=
  let c128_i32_337 : BitVec 32 := 128#32
  let c2_i32_333 : BitVec 32 := 2#32
  let c0_i32_113 : BitVec 32 := 0#32
  let c1_i32_116 : BitVec 32 := 1#32
  let arg25 : BitVec 32 := Scf.iv c0_i32_113 c1_i32_116 k0_t1
  let v531 : BitVec 32 := Scalar.muli c2_i32_333 arg25
  let c1_i32_334 : BitVec 32 := 1#32
  let v532 : BitVec 32 := Scalar.addi v531 c1_i32_334
  let c1_i32_335 : BitVec 32 := 1#32
  let v533 : BitVec 32 := Scalar.addi v532 c1_i32_335
  let c512_i32_336 : BitVec 32 := 512#32
  let v534 : BitVec 32 := Scalar.muli v533 c512_i32_336
  let v535 : BitVec 32 := Scalar.addi c128_i32_337 v534
  v535
def k0_mult10 (i : grid0.Coords) (k0_t1 : Fin (k0_t1_loop i).trips) : BitVec 32 :=
  let c128_i32_349 : BitVec 32 := 128#32
  let c2_i32_345 : BitVec 32 := 2#32
  let c0_i32_113 : BitVec 32 := 0#32
  let c1_i32_116 : BitVec 32 := 1#32
  let arg25 : BitVec 32 := Scf.iv c0_i32_113 c1_i32_116 k0_t1
  let v544 : BitVec 32 := Scalar.muli c2_i32_345 arg25
  let c1_i32_346 : BitVec 32 := 1#32
  let v545 : BitVec 32 := Scalar.addi v544 c1_i32_346
  let c1_i32_347 : BitVec 32 := 1#32
  let v546 : BitVec 32 := Scalar.addi v545 c1_i32_347
  let c512_i32_348 : BitVec 32 := 512#32
  let v547 : BitVec 32 := Scalar.muli v546 c512_i32_348
  let v548 : BitVec 32 := Scalar.addi c128_i32_349 v547
  v548
def k0_mult11 (i : grid0.Coords) (k0_t1 : Fin (k0_t1_loop i).trips) : BitVec 32 :=
  let c128_i32_361 : BitVec 32 := 128#32
  let c2_i32_357 : BitVec 32 := 2#32
  let c0_i32_113 : BitVec 32 := 0#32
  let c1_i32_116 : BitVec 32 := 1#32
  let arg25 : BitVec 32 := Scf.iv c0_i32_113 c1_i32_116 k0_t1
  let v557 : BitVec 32 := Scalar.muli c2_i32_357 arg25
  let c1_i32_358 : BitVec 32 := 1#32
  let v558 : BitVec 32 := Scalar.addi v557 c1_i32_358
  let c1_i32_359 : BitVec 32 := 1#32
  let v559 : BitVec 32 := Scalar.addi v558 c1_i32_359
  let c512_i32_360 : BitVec 32 := 512#32
  let v560 : BitVec 32 := Scalar.muli v559 c512_i32_360
  let v561 : BitVec 32 := Scalar.addi c128_i32_361 v560
  v561
def k0_mult12 (i : grid0.Coords) (k0_t1 : Fin (k0_t1_loop i).trips) : BitVec 32 :=
  let c128_i32_373 : BitVec 32 := 128#32
  let c2_i32_369 : BitVec 32 := 2#32
  let c0_i32_113 : BitVec 32 := 0#32
  let c1_i32_116 : BitVec 32 := 1#32
  let arg25 : BitVec 32 := Scf.iv c0_i32_113 c1_i32_116 k0_t1
  let v570 : BitVec 32 := Scalar.muli c2_i32_369 arg25
  let c1_i32_370 : BitVec 32 := 1#32
  let v571 : BitVec 32 := Scalar.addi v570 c1_i32_370
  let c1_i32_371 : BitVec 32 := 1#32
  let v572 : BitVec 32 := Scalar.addi v571 c1_i32_371
  let c512_i32_372 : BitVec 32 := 512#32
  let v573 : BitVec 32 := Scalar.muli v572 c512_i32_372
  let v574 : BitVec 32 := Scalar.addi c128_i32_373 v573
  v574
@[reducible] def k0_t2_loop (i : grid0.Coords) : Scf.Loop 32 :=
  let c0_i32_113 : BitVec 32 := 0#32
  let arg2 : BitVec 32 := BitVec.ofNat 32 (i 2).val
  let c0_i32_107 : BitVec 32 := 0#32
  let v238 : BitVec 1 := Scalar.cmpi .sgt arg2 c0_i32_107
  let v239 : BitVec 32 := Scalar.extui v238
  let c0_i32_108 : BitVec 32 := 0#32
  let v240 : BitVec 1 := Scalar.cmpi .slt arg2 c0_i32_108
  let v241 : BitVec 32 := Scalar.extui v240
  let v242 : BitVec 32 := Scalar.subi v239 v241
  let c2_i32_106 : BitVec 32 := 2#32
  let c0_i32_109 : BitVec 32 := 0#32
  let v243 : BitVec 1 := Scalar.cmpi .sgt c2_i32_106 c0_i32_109
  let v244 : BitVec 32 := Scalar.extui v243
  let c0_i32_110 : BitVec 32 := 0#32
  let v245 : BitVec 1 := Scalar.cmpi .slt c2_i32_106 c0_i32_110
  let v246 : BitVec 32 := Scalar.extui v245
  let v247 : BitVec 32 := Scalar.subi v244 v246
  let v248 : BitVec 1 := Scalar.cmpi .ne v242 v247
  let v249 : BitVec 32 := Scalar.remsi arg2 c2_i32_106
  let c0_i32_111 : BitVec 32 := 0#32
  let v250 : BitVec 1 := Scalar.cmpi .ne v249 c0_i32_111
  let v251 : BitVec 1 := Scalar.andi v248 v250
  let v237 : BitVec 32 := Scalar.divsi arg2 c2_i32_106
  let c1_i32_112 : BitVec 32 := 1#32
  let v252 : BitVec 32 := Scalar.subi v237 c1_i32_112
  let v253 : BitVec 32 := Scalar.select v251 v252 v237
  let v254 : BitVec 32 := Scalar.subi v253 c0_i32_113
  let c1_i32_115 : BitVec 32 := 1#32
  let v256 : BitVec 32 := Scalar.divsi v254 c1_i32_115
  let v257 : BitVec 32 := Scalar.muli v256 c1_i32_115
  let v258 : BitVec 32 := Scalar.addi c0_i32_113 v257
  let v255 : BitVec 32 := Scalar.addi c0_i32_113 v254
  let c1_i32_117 : BitVec 32 := 1#32
  ⟨v258, v255, c1_i32_117⟩
def k0_mult13 (i : grid0.Coords) (k0_t2 : Fin (k0_t2_loop i).trips) : BitVec 32 :=
  let c128_i32_169 : BitVec 32 := 128#32
  let c2_i32_166 : BitVec 32 := 2#32
  let c0_i32_113 : BitVec 32 := 0#32
  let arg2 : BitVec 32 := BitVec.ofNat 32 (i 2).val
  let c0_i32_107 : BitVec 32 := 0#32
  let v238 : BitVec 1 := Scalar.cmpi .sgt arg2 c0_i32_107
  let v239 : BitVec 32 := Scalar.extui v238
  let c0_i32_108 : BitVec 32 := 0#32
  let v240 : BitVec 1 := Scalar.cmpi .slt arg2 c0_i32_108
  let v241 : BitVec 32 := Scalar.extui v240
  let v242 : BitVec 32 := Scalar.subi v239 v241
  let c2_i32_106 : BitVec 32 := 2#32
  let c0_i32_109 : BitVec 32 := 0#32
  let v243 : BitVec 1 := Scalar.cmpi .sgt c2_i32_106 c0_i32_109
  let v244 : BitVec 32 := Scalar.extui v243
  let c0_i32_110 : BitVec 32 := 0#32
  let v245 : BitVec 1 := Scalar.cmpi .slt c2_i32_106 c0_i32_110
  let v246 : BitVec 32 := Scalar.extui v245
  let v247 : BitVec 32 := Scalar.subi v244 v246
  let v248 : BitVec 1 := Scalar.cmpi .ne v242 v247
  let v249 : BitVec 32 := Scalar.remsi arg2 c2_i32_106
  let c0_i32_111 : BitVec 32 := 0#32
  let v250 : BitVec 1 := Scalar.cmpi .ne v249 c0_i32_111
  let v251 : BitVec 1 := Scalar.andi v248 v250
  let v237 : BitVec 32 := Scalar.divsi arg2 c2_i32_106
  let c1_i32_112 : BitVec 32 := 1#32
  let v252 : BitVec 32 := Scalar.subi v237 c1_i32_112
  let v253 : BitVec 32 := Scalar.select v251 v252 v237
  let v254 : BitVec 32 := Scalar.subi v253 c0_i32_113
  let c1_i32_115 : BitVec 32 := 1#32
  let v256 : BitVec 32 := Scalar.divsi v254 c1_i32_115
  let v257 : BitVec 32 := Scalar.muli v256 c1_i32_115
  let v258 : BitVec 32 := Scalar.addi c0_i32_113 v257
  let c1_i32_117 : BitVec 32 := 1#32
  let arg25 : BitVec 32 := Scf.iv v258 c1_i32_117 k0_t2
  let v323 : BitVec 32 := Scalar.muli c2_i32_166 arg25
  let c0_i32_167 : BitVec 32 := 0#32
  let v324 : BitVec 32 := Scalar.addi v323 c0_i32_167
  let c1_i32_168 : BitVec 32 := 1#32
  let v325 : BitVec 32 := Scalar.addi v324 c1_i32_168
  let c512_i32 : BitVec 32 := 512#32
  let v326 : BitVec 32 := Scalar.muli v325 c512_i32
  let v327 : BitVec 32 := Scalar.addi c128_i32_169 v326
  v327
def k0_off13 (i : grid0.Coords) (k0_t2 : Fin (k0_t2_loop i).trips) (c0_i32_167 : BitVec 32) : Fin 3 → Nat :=
  let c0_170 : Index := 0#32
  let c128_i32_169 : BitVec 32 := 128#32
  let c2_i32_166 : BitVec 32 := 2#32
  let c0_i32_113 : BitVec 32 := 0#32
  let arg2 : BitVec 32 := BitVec.ofNat 32 (i 2).val
  let c0_i32_107 : BitVec 32 := 0#32
  let v238 : BitVec 1 := Scalar.cmpi .sgt arg2 c0_i32_107
  let v239 : BitVec 32 := Scalar.extui v238
  let c0_i32_108 : BitVec 32 := 0#32
  let v240 : BitVec 1 := Scalar.cmpi .slt arg2 c0_i32_108
  let v241 : BitVec 32 := Scalar.extui v240
  let v242 : BitVec 32 := Scalar.subi v239 v241
  let c2_i32_106 : BitVec 32 := 2#32
  let c0_i32_109 : BitVec 32 := 0#32
  let v243 : BitVec 1 := Scalar.cmpi .sgt c2_i32_106 c0_i32_109
  let v244 : BitVec 32 := Scalar.extui v243
  let c0_i32_110 : BitVec 32 := 0#32
  let v245 : BitVec 1 := Scalar.cmpi .slt c2_i32_106 c0_i32_110
  let v246 : BitVec 32 := Scalar.extui v245
  let v247 : BitVec 32 := Scalar.subi v244 v246
  let v248 : BitVec 1 := Scalar.cmpi .ne v242 v247
  let v249 : BitVec 32 := Scalar.remsi arg2 c2_i32_106
  let c0_i32_111 : BitVec 32 := 0#32
  let v250 : BitVec 1 := Scalar.cmpi .ne v249 c0_i32_111
  let v251 : BitVec 1 := Scalar.andi v248 v250
  let v237 : BitVec 32 := Scalar.divsi arg2 c2_i32_106
  let c1_i32_112 : BitVec 32 := 1#32
  let v252 : BitVec 32 := Scalar.subi v237 c1_i32_112
  let v253 : BitVec 32 := Scalar.select v251 v252 v237
  let v254 : BitVec 32 := Scalar.subi v253 c0_i32_113
  let c1_i32_115 : BitVec 32 := 1#32
  let v256 : BitVec 32 := Scalar.divsi v254 c1_i32_115
  let v257 : BitVec 32 := Scalar.muli v256 c1_i32_115
  let v258 : BitVec 32 := Scalar.addi c0_i32_113 v257
  let c1_i32_117 : BitVec 32 := 1#32
  let arg25 : BitVec 32 := Scf.iv v258 c1_i32_117 k0_t2
  let v323 : BitVec 32 := Scalar.muli c2_i32_166 arg25
  let v324 : BitVec 32 := Scalar.addi v323 c0_i32_167
  let c1_i32_168 : BitVec 32 := 1#32
  let v325 : BitVec 32 := Scalar.addi v324 c1_i32_168
  let c512_i32 : BitVec 32 := 512#32
  let v326 : BitVec 32 := Scalar.muli v325 c512_i32
  let v327 : BitVec 32 := Scalar.addi c128_i32_169 v326
  let v328 : BitVec 32 := v327
  let v329 : Index := Scalar.indexCast v328
  let c0_171 : Index := 0#32
  ![0, v329.toNat, 0]
def k0_mult14 (i : grid0.Coords) (k0_t2 : Fin (k0_t2_loop i).trips) : BitVec 32 :=
  let c128_i32_181 : BitVec 32 := 128#32
  let c2_i32_177 : BitVec 32 := 2#32
  let c0_i32_113 : BitVec 32 := 0#32
  let arg2 : BitVec 32 := BitVec.ofNat 32 (i 2).val
  let c0_i32_107 : BitVec 32 := 0#32
  let v238 : BitVec 1 := Scalar.cmpi .sgt arg2 c0_i32_107
  let v239 : BitVec 32 := Scalar.extui v238
  let c0_i32_108 : BitVec 32 := 0#32
  let v240 : BitVec 1 := Scalar.cmpi .slt arg2 c0_i32_108
  let v241 : BitVec 32 := Scalar.extui v240
  let v242 : BitVec 32 := Scalar.subi v239 v241
  let c2_i32_106 : BitVec 32 := 2#32
  let c0_i32_109 : BitVec 32 := 0#32
  let v243 : BitVec 1 := Scalar.cmpi .sgt c2_i32_106 c0_i32_109
  let v244 : BitVec 32 := Scalar.extui v243
  let c0_i32_110 : BitVec 32 := 0#32
  let v245 : BitVec 1 := Scalar.cmpi .slt c2_i32_106 c0_i32_110
  let v246 : BitVec 32 := Scalar.extui v245
  let v247 : BitVec 32 := Scalar.subi v244 v246
  let v248 : BitVec 1 := Scalar.cmpi .ne v242 v247
  let v249 : BitVec 32 := Scalar.remsi arg2 c2_i32_106
  let c0_i32_111 : BitVec 32 := 0#32
  let v250 : BitVec 1 := Scalar.cmpi .ne v249 c0_i32_111
  let v251 : BitVec 1 := Scalar.andi v248 v250
  let v237 : BitVec 32 := Scalar.divsi arg2 c2_i32_106
  let c1_i32_112 : BitVec 32 := 1#32
  let v252 : BitVec 32 := Scalar.subi v237 c1_i32_112
  let v253 : BitVec 32 := Scalar.select v251 v252 v237
  let v254 : BitVec 32 := Scalar.subi v253 c0_i32_113
  let c1_i32_115 : BitVec 32 := 1#32
  let v256 : BitVec 32 := Scalar.divsi v254 c1_i32_115
  let v257 : BitVec 32 := Scalar.muli v256 c1_i32_115
  let v258 : BitVec 32 := Scalar.addi c0_i32_113 v257
  let c1_i32_117 : BitVec 32 := 1#32
  let arg25 : BitVec 32 := Scf.iv v258 c1_i32_117 k0_t2
  let v336 : BitVec 32 := Scalar.muli c2_i32_177 arg25
  let c0_i32_178 : BitVec 32 := 0#32
  let v337 : BitVec 32 := Scalar.addi v336 c0_i32_178
  let c1_i32_179 : BitVec 32 := 1#32
  let v338 : BitVec 32 := Scalar.addi v337 c1_i32_179
  let c512_i32_180 : BitVec 32 := 512#32
  let v339 : BitVec 32 := Scalar.muli v338 c512_i32_180
  let v340 : BitVec 32 := Scalar.addi c128_i32_181 v339
  v340
def k0_off14 (i : grid0.Coords) (k0_t2 : Fin (k0_t2_loop i).trips) (c0_i32_178 : BitVec 32) : Fin 3 → Nat :=
  let c1_182 : Index := 1#32
  let c128_i32_181 : BitVec 32 := 128#32
  let c2_i32_177 : BitVec 32 := 2#32
  let c0_i32_113 : BitVec 32 := 0#32
  let arg2 : BitVec 32 := BitVec.ofNat 32 (i 2).val
  let c0_i32_107 : BitVec 32 := 0#32
  let v238 : BitVec 1 := Scalar.cmpi .sgt arg2 c0_i32_107
  let v239 : BitVec 32 := Scalar.extui v238
  let c0_i32_108 : BitVec 32 := 0#32
  let v240 : BitVec 1 := Scalar.cmpi .slt arg2 c0_i32_108
  let v241 : BitVec 32 := Scalar.extui v240
  let v242 : BitVec 32 := Scalar.subi v239 v241
  let c2_i32_106 : BitVec 32 := 2#32
  let c0_i32_109 : BitVec 32 := 0#32
  let v243 : BitVec 1 := Scalar.cmpi .sgt c2_i32_106 c0_i32_109
  let v244 : BitVec 32 := Scalar.extui v243
  let c0_i32_110 : BitVec 32 := 0#32
  let v245 : BitVec 1 := Scalar.cmpi .slt c2_i32_106 c0_i32_110
  let v246 : BitVec 32 := Scalar.extui v245
  let v247 : BitVec 32 := Scalar.subi v244 v246
  let v248 : BitVec 1 := Scalar.cmpi .ne v242 v247
  let v249 : BitVec 32 := Scalar.remsi arg2 c2_i32_106
  let c0_i32_111 : BitVec 32 := 0#32
  let v250 : BitVec 1 := Scalar.cmpi .ne v249 c0_i32_111
  let v251 : BitVec 1 := Scalar.andi v248 v250
  let v237 : BitVec 32 := Scalar.divsi arg2 c2_i32_106
  let c1_i32_112 : BitVec 32 := 1#32
  let v252 : BitVec 32 := Scalar.subi v237 c1_i32_112
  let v253 : BitVec 32 := Scalar.select v251 v252 v237
  let v254 : BitVec 32 := Scalar.subi v253 c0_i32_113
  let c1_i32_115 : BitVec 32 := 1#32
  let v256 : BitVec 32 := Scalar.divsi v254 c1_i32_115
  let v257 : BitVec 32 := Scalar.muli v256 c1_i32_115
  let v258 : BitVec 32 := Scalar.addi c0_i32_113 v257
  let c1_i32_117 : BitVec 32 := 1#32
  let arg25 : BitVec 32 := Scf.iv v258 c1_i32_117 k0_t2
  let v336 : BitVec 32 := Scalar.muli c2_i32_177 arg25
  let v337 : BitVec 32 := Scalar.addi v336 c0_i32_178
  let c1_i32_179 : BitVec 32 := 1#32
  let v338 : BitVec 32 := Scalar.addi v337 c1_i32_179
  let c512_i32_180 : BitVec 32 := 512#32
  let v339 : BitVec 32 := Scalar.muli v338 c512_i32_180
  let v340 : BitVec 32 := Scalar.addi c128_i32_181 v339
  let v341 : BitVec 32 := v340
  let v342 : Index := Scalar.indexCast v341
  let c0_183 : Index := 0#32
  ![1, v342.toNat, 0]
def k0_mult15 (i : grid0.Coords) (k0_t2 : Fin (k0_t2_loop i).trips) : BitVec 32 :=
  let c128_i32_193 : BitVec 32 := 128#32
  let c2_i32_189 : BitVec 32 := 2#32
  let c0_i32_113 : BitVec 32 := 0#32
  let arg2 : BitVec 32 := BitVec.ofNat 32 (i 2).val
  let c0_i32_107 : BitVec 32 := 0#32
  let v238 : BitVec 1 := Scalar.cmpi .sgt arg2 c0_i32_107
  let v239 : BitVec 32 := Scalar.extui v238
  let c0_i32_108 : BitVec 32 := 0#32
  let v240 : BitVec 1 := Scalar.cmpi .slt arg2 c0_i32_108
  let v241 : BitVec 32 := Scalar.extui v240
  let v242 : BitVec 32 := Scalar.subi v239 v241
  let c2_i32_106 : BitVec 32 := 2#32
  let c0_i32_109 : BitVec 32 := 0#32
  let v243 : BitVec 1 := Scalar.cmpi .sgt c2_i32_106 c0_i32_109
  let v244 : BitVec 32 := Scalar.extui v243
  let c0_i32_110 : BitVec 32 := 0#32
  let v245 : BitVec 1 := Scalar.cmpi .slt c2_i32_106 c0_i32_110
  let v246 : BitVec 32 := Scalar.extui v245
  let v247 : BitVec 32 := Scalar.subi v244 v246
  let v248 : BitVec 1 := Scalar.cmpi .ne v242 v247
  let v249 : BitVec 32 := Scalar.remsi arg2 c2_i32_106
  let c0_i32_111 : BitVec 32 := 0#32
  let v250 : BitVec 1 := Scalar.cmpi .ne v249 c0_i32_111
  let v251 : BitVec 1 := Scalar.andi v248 v250
  let v237 : BitVec 32 := Scalar.divsi arg2 c2_i32_106
  let c1_i32_112 : BitVec 32 := 1#32
  let v252 : BitVec 32 := Scalar.subi v237 c1_i32_112
  let v253 : BitVec 32 := Scalar.select v251 v252 v237
  let v254 : BitVec 32 := Scalar.subi v253 c0_i32_113
  let c1_i32_115 : BitVec 32 := 1#32
  let v256 : BitVec 32 := Scalar.divsi v254 c1_i32_115
  let v257 : BitVec 32 := Scalar.muli v256 c1_i32_115
  let v258 : BitVec 32 := Scalar.addi c0_i32_113 v257
  let c1_i32_117 : BitVec 32 := 1#32
  let arg25 : BitVec 32 := Scf.iv v258 c1_i32_117 k0_t2
  let v349 : BitVec 32 := Scalar.muli c2_i32_189 arg25
  let c0_i32_190 : BitVec 32 := 0#32
  let v350 : BitVec 32 := Scalar.addi v349 c0_i32_190
  let c1_i32_191 : BitVec 32 := 1#32
  let v351 : BitVec 32 := Scalar.addi v350 c1_i32_191
  let c512_i32_192 : BitVec 32 := 512#32
  let v352 : BitVec 32 := Scalar.muli v351 c512_i32_192
  let v353 : BitVec 32 := Scalar.addi c128_i32_193 v352
  v353
def k0_off15 (i : grid0.Coords) (k0_t2 : Fin (k0_t2_loop i).trips) (c0_i32_190 : BitVec 32) : Fin 3 → Nat :=
  let c2_194 : Index := 2#32
  let c128_i32_193 : BitVec 32 := 128#32
  let c2_i32_189 : BitVec 32 := 2#32
  let c0_i32_113 : BitVec 32 := 0#32
  let arg2 : BitVec 32 := BitVec.ofNat 32 (i 2).val
  let c0_i32_107 : BitVec 32 := 0#32
  let v238 : BitVec 1 := Scalar.cmpi .sgt arg2 c0_i32_107
  let v239 : BitVec 32 := Scalar.extui v238
  let c0_i32_108 : BitVec 32 := 0#32
  let v240 : BitVec 1 := Scalar.cmpi .slt arg2 c0_i32_108
  let v241 : BitVec 32 := Scalar.extui v240
  let v242 : BitVec 32 := Scalar.subi v239 v241
  let c2_i32_106 : BitVec 32 := 2#32
  let c0_i32_109 : BitVec 32 := 0#32
  let v243 : BitVec 1 := Scalar.cmpi .sgt c2_i32_106 c0_i32_109
  let v244 : BitVec 32 := Scalar.extui v243
  let c0_i32_110 : BitVec 32 := 0#32
  let v245 : BitVec 1 := Scalar.cmpi .slt c2_i32_106 c0_i32_110
  let v246 : BitVec 32 := Scalar.extui v245
  let v247 : BitVec 32 := Scalar.subi v244 v246
  let v248 : BitVec 1 := Scalar.cmpi .ne v242 v247
  let v249 : BitVec 32 := Scalar.remsi arg2 c2_i32_106
  let c0_i32_111 : BitVec 32 := 0#32
  let v250 : BitVec 1 := Scalar.cmpi .ne v249 c0_i32_111
  let v251 : BitVec 1 := Scalar.andi v248 v250
  let v237 : BitVec 32 := Scalar.divsi arg2 c2_i32_106
  let c1_i32_112 : BitVec 32 := 1#32
  let v252 : BitVec 32 := Scalar.subi v237 c1_i32_112
  let v253 : BitVec 32 := Scalar.select v251 v252 v237
  let v254 : BitVec 32 := Scalar.subi v253 c0_i32_113
  let c1_i32_115 : BitVec 32 := 1#32
  let v256 : BitVec 32 := Scalar.divsi v254 c1_i32_115
  let v257 : BitVec 32 := Scalar.muli v256 c1_i32_115
  let v258 : BitVec 32 := Scalar.addi c0_i32_113 v257
  let c1_i32_117 : BitVec 32 := 1#32
  let arg25 : BitVec 32 := Scf.iv v258 c1_i32_117 k0_t2
  let v349 : BitVec 32 := Scalar.muli c2_i32_189 arg25
  let v350 : BitVec 32 := Scalar.addi v349 c0_i32_190
  let c1_i32_191 : BitVec 32 := 1#32
  let v351 : BitVec 32 := Scalar.addi v350 c1_i32_191
  let c512_i32_192 : BitVec 32 := 512#32
  let v352 : BitVec 32 := Scalar.muli v351 c512_i32_192
  let v353 : BitVec 32 := Scalar.addi c128_i32_193 v352
  let v354 : BitVec 32 := v353
  let v355 : Index := Scalar.indexCast v354
  let c0_195 : Index := 0#32
  ![2, v355.toNat, 0]
def k0_mult16 (i : grid0.Coords) (k0_t2 : Fin (k0_t2_loop i).trips) : BitVec 32 :=
  let c128_i32_205 : BitVec 32 := 128#32
  let c2_i32_201 : BitVec 32 := 2#32
  let c0_i32_113 : BitVec 32 := 0#32
  let arg2 : BitVec 32 := BitVec.ofNat 32 (i 2).val
  let c0_i32_107 : BitVec 32 := 0#32
  let v238 : BitVec 1 := Scalar.cmpi .sgt arg2 c0_i32_107
  let v239 : BitVec 32 := Scalar.extui v238
  let c0_i32_108 : BitVec 32 := 0#32
  let v240 : BitVec 1 := Scalar.cmpi .slt arg2 c0_i32_108
  let v241 : BitVec 32 := Scalar.extui v240
  let v242 : BitVec 32 := Scalar.subi v239 v241
  let c2_i32_106 : BitVec 32 := 2#32
  let c0_i32_109 : BitVec 32 := 0#32
  let v243 : BitVec 1 := Scalar.cmpi .sgt c2_i32_106 c0_i32_109
  let v244 : BitVec 32 := Scalar.extui v243
  let c0_i32_110 : BitVec 32 := 0#32
  let v245 : BitVec 1 := Scalar.cmpi .slt c2_i32_106 c0_i32_110
  let v246 : BitVec 32 := Scalar.extui v245
  let v247 : BitVec 32 := Scalar.subi v244 v246
  let v248 : BitVec 1 := Scalar.cmpi .ne v242 v247
  let v249 : BitVec 32 := Scalar.remsi arg2 c2_i32_106
  let c0_i32_111 : BitVec 32 := 0#32
  let v250 : BitVec 1 := Scalar.cmpi .ne v249 c0_i32_111
  let v251 : BitVec 1 := Scalar.andi v248 v250
  let v237 : BitVec 32 := Scalar.divsi arg2 c2_i32_106
  let c1_i32_112 : BitVec 32 := 1#32
  let v252 : BitVec 32 := Scalar.subi v237 c1_i32_112
  let v253 : BitVec 32 := Scalar.select v251 v252 v237
  let v254 : BitVec 32 := Scalar.subi v253 c0_i32_113
  let c1_i32_115 : BitVec 32 := 1#32
  let v256 : BitVec 32 := Scalar.divsi v254 c1_i32_115
  let v257 : BitVec 32 := Scalar.muli v256 c1_i32_115
  let v258 : BitVec 32 := Scalar.addi c0_i32_113 v257
  let c1_i32_117 : BitVec 32 := 1#32
  let arg25 : BitVec 32 := Scf.iv v258 c1_i32_117 k0_t2
  let v362 : BitVec 32 := Scalar.muli c2_i32_201 arg25
  let c0_i32_202 : BitVec 32 := 0#32
  let v363 : BitVec 32 := Scalar.addi v362 c0_i32_202
  let c1_i32_203 : BitVec 32 := 1#32
  let v364 : BitVec 32 := Scalar.addi v363 c1_i32_203
  let c512_i32_204 : BitVec 32 := 512#32
  let v365 : BitVec 32 := Scalar.muli v364 c512_i32_204
  let v366 : BitVec 32 := Scalar.addi c128_i32_205 v365
  v366
def k0_off16 (i : grid0.Coords) (k0_t2 : Fin (k0_t2_loop i).trips) (c0_i32_202 : BitVec 32) : Fin 3 → Nat :=
  let c3_206 : Index := 3#32
  let c128_i32_205 : BitVec 32 := 128#32
  let c2_i32_201 : BitVec 32 := 2#32
  let c0_i32_113 : BitVec 32 := 0#32
  let arg2 : BitVec 32 := BitVec.ofNat 32 (i 2).val
  let c0_i32_107 : BitVec 32 := 0#32
  let v238 : BitVec 1 := Scalar.cmpi .sgt arg2 c0_i32_107
  let v239 : BitVec 32 := Scalar.extui v238
  let c0_i32_108 : BitVec 32 := 0#32
  let v240 : BitVec 1 := Scalar.cmpi .slt arg2 c0_i32_108
  let v241 : BitVec 32 := Scalar.extui v240
  let v242 : BitVec 32 := Scalar.subi v239 v241
  let c2_i32_106 : BitVec 32 := 2#32
  let c0_i32_109 : BitVec 32 := 0#32
  let v243 : BitVec 1 := Scalar.cmpi .sgt c2_i32_106 c0_i32_109
  let v244 : BitVec 32 := Scalar.extui v243
  let c0_i32_110 : BitVec 32 := 0#32
  let v245 : BitVec 1 := Scalar.cmpi .slt c2_i32_106 c0_i32_110
  let v246 : BitVec 32 := Scalar.extui v245
  let v247 : BitVec 32 := Scalar.subi v244 v246
  let v248 : BitVec 1 := Scalar.cmpi .ne v242 v247
  let v249 : BitVec 32 := Scalar.remsi arg2 c2_i32_106
  let c0_i32_111 : BitVec 32 := 0#32
  let v250 : BitVec 1 := Scalar.cmpi .ne v249 c0_i32_111
  let v251 : BitVec 1 := Scalar.andi v248 v250
  let v237 : BitVec 32 := Scalar.divsi arg2 c2_i32_106
  let c1_i32_112 : BitVec 32 := 1#32
  let v252 : BitVec 32 := Scalar.subi v237 c1_i32_112
  let v253 : BitVec 32 := Scalar.select v251 v252 v237
  let v254 : BitVec 32 := Scalar.subi v253 c0_i32_113
  let c1_i32_115 : BitVec 32 := 1#32
  let v256 : BitVec 32 := Scalar.divsi v254 c1_i32_115
  let v257 : BitVec 32 := Scalar.muli v256 c1_i32_115
  let v258 : BitVec 32 := Scalar.addi c0_i32_113 v257
  let c1_i32_117 : BitVec 32 := 1#32
  let arg25 : BitVec 32 := Scf.iv v258 c1_i32_117 k0_t2
  let v362 : BitVec 32 := Scalar.muli c2_i32_201 arg25
  let v363 : BitVec 32 := Scalar.addi v362 c0_i32_202
  let c1_i32_203 : BitVec 32 := 1#32
  let v364 : BitVec 32 := Scalar.addi v363 c1_i32_203
  let c512_i32_204 : BitVec 32 := 512#32
  let v365 : BitVec 32 := Scalar.muli v364 c512_i32_204
  let v366 : BitVec 32 := Scalar.addi c128_i32_205 v365
  let v367 : BitVec 32 := v366
  let v368 : Index := Scalar.indexCast v367
  let c0_207 : Index := 0#32
  ![3, v368.toNat, 0]
def k0_off17 (i : grid0.Coords) (k0_t2 : Fin (k0_t2_loop i).trips) (c0_i32_218 : BitVec 32) : Fin 4 → Nat :=
  let c0_219 : Index := 0#32
  let c2_i32_217 : BitVec 32 := 2#32
  let c0_i32_113 : BitVec 32 := 0#32
  let arg2 : BitVec 32 := BitVec.ofNat 32 (i 2).val
  let c0_i32_107 : BitVec 32 := 0#32
  let v238 : BitVec 1 := Scalar.cmpi .sgt arg2 c0_i32_107
  let v239 : BitVec 32 := Scalar.extui v238
  let c0_i32_108 : BitVec 32 := 0#32
  let v240 : BitVec 1 := Scalar.cmpi .slt arg2 c0_i32_108
  let v241 : BitVec 32 := Scalar.extui v240
  let v242 : BitVec 32 := Scalar.subi v239 v241
  let c2_i32_106 : BitVec 32 := 2#32
  let c0_i32_109 : BitVec 32 := 0#32
  let v243 : BitVec 1 := Scalar.cmpi .sgt c2_i32_106 c0_i32_109
  let v244 : BitVec 32 := Scalar.extui v243
  let c0_i32_110 : BitVec 32 := 0#32
  let v245 : BitVec 1 := Scalar.cmpi .slt c2_i32_106 c0_i32_110
  let v246 : BitVec 32 := Scalar.extui v245
  let v247 : BitVec 32 := Scalar.subi v244 v246
  let v248 : BitVec 1 := Scalar.cmpi .ne v242 v247
  let v249 : BitVec 32 := Scalar.remsi arg2 c2_i32_106
  let c0_i32_111 : BitVec 32 := 0#32
  let v250 : BitVec 1 := Scalar.cmpi .ne v249 c0_i32_111
  let v251 : BitVec 1 := Scalar.andi v248 v250
  let v237 : BitVec 32 := Scalar.divsi arg2 c2_i32_106
  let c1_i32_112 : BitVec 32 := 1#32
  let v252 : BitVec 32 := Scalar.subi v237 c1_i32_112
  let v253 : BitVec 32 := Scalar.select v251 v252 v237
  let v254 : BitVec 32 := Scalar.subi v253 c0_i32_113
  let c1_i32_115 : BitVec 32 := 1#32
  let v256 : BitVec 32 := Scalar.divsi v254 c1_i32_115
  let v257 : BitVec 32 := Scalar.muli v256 c1_i32_115
  let v258 : BitVec 32 := Scalar.addi c0_i32_113 v257
  let c1_i32_117 : BitVec 32 := 1#32
  let arg25 : BitVec 32 := Scf.iv v258 c1_i32_117 k0_t2
  let v377 : BitVec 32 := Scalar.muli c2_i32_217 arg25
  let v378 : BitVec 32 := Scalar.addi v377 c0_i32_218
  let v379 : Index := Scalar.indexCast v378
  let c0_220 : Index := 0#32
  let c0_221 : Index := 0#32
  ![0, v379.toNat, 0, 0]
def k0_off18 (i : grid0.Coords) (k0_t2 : Fin (k0_t2_loop i).trips) (c0_i32_248 : BitVec 32) : Fin 4 → Nat :=
  let c1_249 : Index := 1#32
  let c2_i32_247 : BitVec 32 := 2#32
  let c0_i32_113 : BitVec 32 := 0#32
  let arg2 : BitVec 32 := BitVec.ofNat 32 (i 2).val
  let c0_i32_107 : BitVec 32 := 0#32
  let v238 : BitVec 1 := Scalar.cmpi .sgt arg2 c0_i32_107
  let v239 : BitVec 32 := Scalar.extui v238
  let c0_i32_108 : BitVec 32 := 0#32
  let v240 : BitVec 1 := Scalar.cmpi .slt arg2 c0_i32_108
  let v241 : BitVec 32 := Scalar.extui v240
  let v242 : BitVec 32 := Scalar.subi v239 v241
  let c2_i32_106 : BitVec 32 := 2#32
  let c0_i32_109 : BitVec 32 := 0#32
  let v243 : BitVec 1 := Scalar.cmpi .sgt c2_i32_106 c0_i32_109
  let v244 : BitVec 32 := Scalar.extui v243
  let c0_i32_110 : BitVec 32 := 0#32
  let v245 : BitVec 1 := Scalar.cmpi .slt c2_i32_106 c0_i32_110
  let v246 : BitVec 32 := Scalar.extui v245
  let v247 : BitVec 32 := Scalar.subi v244 v246
  let v248 : BitVec 1 := Scalar.cmpi .ne v242 v247
  let v249 : BitVec 32 := Scalar.remsi arg2 c2_i32_106
  let c0_i32_111 : BitVec 32 := 0#32
  let v250 : BitVec 1 := Scalar.cmpi .ne v249 c0_i32_111
  let v251 : BitVec 1 := Scalar.andi v248 v250
  let v237 : BitVec 32 := Scalar.divsi arg2 c2_i32_106
  let c1_i32_112 : BitVec 32 := 1#32
  let v252 : BitVec 32 := Scalar.subi v237 c1_i32_112
  let v253 : BitVec 32 := Scalar.select v251 v252 v237
  let v254 : BitVec 32 := Scalar.subi v253 c0_i32_113
  let c1_i32_115 : BitVec 32 := 1#32
  let v256 : BitVec 32 := Scalar.divsi v254 c1_i32_115
  let v257 : BitVec 32 := Scalar.muli v256 c1_i32_115
  let v258 : BitVec 32 := Scalar.addi c0_i32_113 v257
  let c1_i32_117 : BitVec 32 := 1#32
  let arg25 : BitVec 32 := Scf.iv v258 c1_i32_117 k0_t2
  let v416 : BitVec 32 := Scalar.muli c2_i32_247 arg25
  let v417 : BitVec 32 := Scalar.addi v416 c0_i32_248
  let v418 : Index := Scalar.indexCast v417
  let c0_250 : Index := 0#32
  let c0_251 : Index := 0#32
  ![1, v418.toNat, 0, 0]
def k0_off19 (i : grid0.Coords) (k0_t2 : Fin (k0_t2_loop i).trips) (c0_i32_278 : BitVec 32) : Fin 4 → Nat :=
  let c2_279 : Index := 2#32
  let c2_i32_277 : BitVec 32 := 2#32
  let c0_i32_113 : BitVec 32 := 0#32
  let arg2 : BitVec 32 := BitVec.ofNat 32 (i 2).val
  let c0_i32_107 : BitVec 32 := 0#32
  let v238 : BitVec 1 := Scalar.cmpi .sgt arg2 c0_i32_107
  let v239 : BitVec 32 := Scalar.extui v238
  let c0_i32_108 : BitVec 32 := 0#32
  let v240 : BitVec 1 := Scalar.cmpi .slt arg2 c0_i32_108
  let v241 : BitVec 32 := Scalar.extui v240
  let v242 : BitVec 32 := Scalar.subi v239 v241
  let c2_i32_106 : BitVec 32 := 2#32
  let c0_i32_109 : BitVec 32 := 0#32
  let v243 : BitVec 1 := Scalar.cmpi .sgt c2_i32_106 c0_i32_109
  let v244 : BitVec 32 := Scalar.extui v243
  let c0_i32_110 : BitVec 32 := 0#32
  let v245 : BitVec 1 := Scalar.cmpi .slt c2_i32_106 c0_i32_110
  let v246 : BitVec 32 := Scalar.extui v245
  let v247 : BitVec 32 := Scalar.subi v244 v246
  let v248 : BitVec 1 := Scalar.cmpi .ne v242 v247
  let v249 : BitVec 32 := Scalar.remsi arg2 c2_i32_106
  let c0_i32_111 : BitVec 32 := 0#32
  let v250 : BitVec 1 := Scalar.cmpi .ne v249 c0_i32_111
  let v251 : BitVec 1 := Scalar.andi v248 v250
  let v237 : BitVec 32 := Scalar.divsi arg2 c2_i32_106
  let c1_i32_112 : BitVec 32 := 1#32
  let v252 : BitVec 32 := Scalar.subi v237 c1_i32_112
  let v253 : BitVec 32 := Scalar.select v251 v252 v237
  let v254 : BitVec 32 := Scalar.subi v253 c0_i32_113
  let c1_i32_115 : BitVec 32 := 1#32
  let v256 : BitVec 32 := Scalar.divsi v254 c1_i32_115
  let v257 : BitVec 32 := Scalar.muli v256 c1_i32_115
  let v258 : BitVec 32 := Scalar.addi c0_i32_113 v257
  let c1_i32_117 : BitVec 32 := 1#32
  let arg25 : BitVec 32 := Scf.iv v258 c1_i32_117 k0_t2
  let v455 : BitVec 32 := Scalar.muli c2_i32_277 arg25
  let v456 : BitVec 32 := Scalar.addi v455 c0_i32_278
  let v457 : Index := Scalar.indexCast v456
  let c0_280 : Index := 0#32
  let c0_281 : Index := 0#32
  ![2, v457.toNat, 0, 0]
def k0_off20 (i : grid0.Coords) (k0_t2 : Fin (k0_t2_loop i).trips) (c0_i32_308 : BitVec 32) : Fin 4 → Nat :=
  let c3_309 : Index := 3#32
  let c2_i32_307 : BitVec 32 := 2#32
  let c0_i32_113 : BitVec 32 := 0#32
  let arg2 : BitVec 32 := BitVec.ofNat 32 (i 2).val
  let c0_i32_107 : BitVec 32 := 0#32
  let v238 : BitVec 1 := Scalar.cmpi .sgt arg2 c0_i32_107
  let v239 : BitVec 32 := Scalar.extui v238
  let c0_i32_108 : BitVec 32 := 0#32
  let v240 : BitVec 1 := Scalar.cmpi .slt arg2 c0_i32_108
  let v241 : BitVec 32 := Scalar.extui v240
  let v242 : BitVec 32 := Scalar.subi v239 v241
  let c2_i32_106 : BitVec 32 := 2#32
  let c0_i32_109 : BitVec 32 := 0#32
  let v243 : BitVec 1 := Scalar.cmpi .sgt c2_i32_106 c0_i32_109
  let v244 : BitVec 32 := Scalar.extui v243
  let c0_i32_110 : BitVec 32 := 0#32
  let v245 : BitVec 1 := Scalar.cmpi .slt c2_i32_106 c0_i32_110
  let v246 : BitVec 32 := Scalar.extui v245
  let v247 : BitVec 32 := Scalar.subi v244 v246
  let v248 : BitVec 1 := Scalar.cmpi .ne v242 v247
  let v249 : BitVec 32 := Scalar.remsi arg2 c2_i32_106
  let c0_i32_111 : BitVec 32 := 0#32
  let v250 : BitVec 1 := Scalar.cmpi .ne v249 c0_i32_111
  let v251 : BitVec 1 := Scalar.andi v248 v250
  let v237 : BitVec 32 := Scalar.divsi arg2 c2_i32_106
  let c1_i32_112 : BitVec 32 := 1#32
  let v252 : BitVec 32 := Scalar.subi v237 c1_i32_112
  let v253 : BitVec 32 := Scalar.select v251 v252 v237
  let v254 : BitVec 32 := Scalar.subi v253 c0_i32_113
  let c1_i32_115 : BitVec 32 := 1#32
  let v256 : BitVec 32 := Scalar.divsi v254 c1_i32_115
  let v257 : BitVec 32 := Scalar.muli v256 c1_i32_115
  let v258 : BitVec 32 := Scalar.addi c0_i32_113 v257
  let c1_i32_117 : BitVec 32 := 1#32
  let arg25 : BitVec 32 := Scf.iv v258 c1_i32_117 k0_t2
  let v494 : BitVec 32 := Scalar.muli c2_i32_307 arg25
  let v495 : BitVec 32 := Scalar.addi v494 c0_i32_308
  let v496 : Index := Scalar.indexCast v495
  let c0_310 : Index := 0#32
  let c0_311 : Index := 0#32
  ![3, v496.toNat, 0, 0]
def k0_mult17 (i : grid0.Coords) (k0_t2 : Fin (k0_t2_loop i).trips) : BitVec 32 :=
  let c128_i32_337 : BitVec 32 := 128#32
  let c2_i32_333 : BitVec 32 := 2#32
  let c0_i32_113 : BitVec 32 := 0#32
  let arg2 : BitVec 32 := BitVec.ofNat 32 (i 2).val
  let c0_i32_107 : BitVec 32 := 0#32
  let v238 : BitVec 1 := Scalar.cmpi .sgt arg2 c0_i32_107
  let v239 : BitVec 32 := Scalar.extui v238
  let c0_i32_108 : BitVec 32 := 0#32
  let v240 : BitVec 1 := Scalar.cmpi .slt arg2 c0_i32_108
  let v241 : BitVec 32 := Scalar.extui v240
  let v242 : BitVec 32 := Scalar.subi v239 v241
  let c2_i32_106 : BitVec 32 := 2#32
  let c0_i32_109 : BitVec 32 := 0#32
  let v243 : BitVec 1 := Scalar.cmpi .sgt c2_i32_106 c0_i32_109
  let v244 : BitVec 32 := Scalar.extui v243
  let c0_i32_110 : BitVec 32 := 0#32
  let v245 : BitVec 1 := Scalar.cmpi .slt c2_i32_106 c0_i32_110
  let v246 : BitVec 32 := Scalar.extui v245
  let v247 : BitVec 32 := Scalar.subi v244 v246
  let v248 : BitVec 1 := Scalar.cmpi .ne v242 v247
  let v249 : BitVec 32 := Scalar.remsi arg2 c2_i32_106
  let c0_i32_111 : BitVec 32 := 0#32
  let v250 : BitVec 1 := Scalar.cmpi .ne v249 c0_i32_111
  let v251 : BitVec 1 := Scalar.andi v248 v250
  let v237 : BitVec 32 := Scalar.divsi arg2 c2_i32_106
  let c1_i32_112 : BitVec 32 := 1#32
  let v252 : BitVec 32 := Scalar.subi v237 c1_i32_112
  let v253 : BitVec 32 := Scalar.select v251 v252 v237
  let v254 : BitVec 32 := Scalar.subi v253 c0_i32_113
  let c1_i32_115 : BitVec 32 := 1#32
  let v256 : BitVec 32 := Scalar.divsi v254 c1_i32_115
  let v257 : BitVec 32 := Scalar.muli v256 c1_i32_115
  let v258 : BitVec 32 := Scalar.addi c0_i32_113 v257
  let c1_i32_117 : BitVec 32 := 1#32
  let arg25 : BitVec 32 := Scf.iv v258 c1_i32_117 k0_t2
  let v531 : BitVec 32 := Scalar.muli c2_i32_333 arg25
  let c1_i32_334 : BitVec 32 := 1#32
  let v532 : BitVec 32 := Scalar.addi v531 c1_i32_334
  let c1_i32_335 : BitVec 32 := 1#32
  let v533 : BitVec 32 := Scalar.addi v532 c1_i32_335
  let c512_i32_336 : BitVec 32 := 512#32
  let v534 : BitVec 32 := Scalar.muli v533 c512_i32_336
  let v535 : BitVec 32 := Scalar.addi c128_i32_337 v534
  v535
def k0_mult18 (i : grid0.Coords) (k0_t2 : Fin (k0_t2_loop i).trips) : BitVec 32 :=
  let c128_i32_349 : BitVec 32 := 128#32
  let c2_i32_345 : BitVec 32 := 2#32
  let c0_i32_113 : BitVec 32 := 0#32
  let arg2 : BitVec 32 := BitVec.ofNat 32 (i 2).val
  let c0_i32_107 : BitVec 32 := 0#32
  let v238 : BitVec 1 := Scalar.cmpi .sgt arg2 c0_i32_107
  let v239 : BitVec 32 := Scalar.extui v238
  let c0_i32_108 : BitVec 32 := 0#32
  let v240 : BitVec 1 := Scalar.cmpi .slt arg2 c0_i32_108
  let v241 : BitVec 32 := Scalar.extui v240
  let v242 : BitVec 32 := Scalar.subi v239 v241
  let c2_i32_106 : BitVec 32 := 2#32
  let c0_i32_109 : BitVec 32 := 0#32
  let v243 : BitVec 1 := Scalar.cmpi .sgt c2_i32_106 c0_i32_109
  let v244 : BitVec 32 := Scalar.extui v243
  let c0_i32_110 : BitVec 32 := 0#32
  let v245 : BitVec 1 := Scalar.cmpi .slt c2_i32_106 c0_i32_110
  let v246 : BitVec 32 := Scalar.extui v245
  let v247 : BitVec 32 := Scalar.subi v244 v246
  let v248 : BitVec 1 := Scalar.cmpi .ne v242 v247
  let v249 : BitVec 32 := Scalar.remsi arg2 c2_i32_106
  let c0_i32_111 : BitVec 32 := 0#32
  let v250 : BitVec 1 := Scalar.cmpi .ne v249 c0_i32_111
  let v251 : BitVec 1 := Scalar.andi v248 v250
  let v237 : BitVec 32 := Scalar.divsi arg2 c2_i32_106
  let c1_i32_112 : BitVec 32 := 1#32
  let v252 : BitVec 32 := Scalar.subi v237 c1_i32_112
  let v253 : BitVec 32 := Scalar.select v251 v252 v237
  let v254 : BitVec 32 := Scalar.subi v253 c0_i32_113
  let c1_i32_115 : BitVec 32 := 1#32
  let v256 : BitVec 32 := Scalar.divsi v254 c1_i32_115
  let v257 : BitVec 32 := Scalar.muli v256 c1_i32_115
  let v258 : BitVec 32 := Scalar.addi c0_i32_113 v257
  let c1_i32_117 : BitVec 32 := 1#32
  let arg25 : BitVec 32 := Scf.iv v258 c1_i32_117 k0_t2
  let v544 : BitVec 32 := Scalar.muli c2_i32_345 arg25
  let c1_i32_346 : BitVec 32 := 1#32
  let v545 : BitVec 32 := Scalar.addi v544 c1_i32_346
  let c1_i32_347 : BitVec 32 := 1#32
  let v546 : BitVec 32 := Scalar.addi v545 c1_i32_347
  let c512_i32_348 : BitVec 32 := 512#32
  let v547 : BitVec 32 := Scalar.muli v546 c512_i32_348
  let v548 : BitVec 32 := Scalar.addi c128_i32_349 v547
  v548
def k0_mult19 (i : grid0.Coords) (k0_t2 : Fin (k0_t2_loop i).trips) : BitVec 32 :=
  let c128_i32_361 : BitVec 32 := 128#32
  let c2_i32_357 : BitVec 32 := 2#32
  let c0_i32_113 : BitVec 32 := 0#32
  let arg2 : BitVec 32 := BitVec.ofNat 32 (i 2).val
  let c0_i32_107 : BitVec 32 := 0#32
  let v238 : BitVec 1 := Scalar.cmpi .sgt arg2 c0_i32_107
  let v239 : BitVec 32 := Scalar.extui v238
  let c0_i32_108 : BitVec 32 := 0#32
  let v240 : BitVec 1 := Scalar.cmpi .slt arg2 c0_i32_108
  let v241 : BitVec 32 := Scalar.extui v240
  let v242 : BitVec 32 := Scalar.subi v239 v241
  let c2_i32_106 : BitVec 32 := 2#32
  let c0_i32_109 : BitVec 32 := 0#32
  let v243 : BitVec 1 := Scalar.cmpi .sgt c2_i32_106 c0_i32_109
  let v244 : BitVec 32 := Scalar.extui v243
  let c0_i32_110 : BitVec 32 := 0#32
  let v245 : BitVec 1 := Scalar.cmpi .slt c2_i32_106 c0_i32_110
  let v246 : BitVec 32 := Scalar.extui v245
  let v247 : BitVec 32 := Scalar.subi v244 v246
  let v248 : BitVec 1 := Scalar.cmpi .ne v242 v247
  let v249 : BitVec 32 := Scalar.remsi arg2 c2_i32_106
  let c0_i32_111 : BitVec 32 := 0#32
  let v250 : BitVec 1 := Scalar.cmpi .ne v249 c0_i32_111
  let v251 : BitVec 1 := Scalar.andi v248 v250
  let v237 : BitVec 32 := Scalar.divsi arg2 c2_i32_106
  let c1_i32_112 : BitVec 32 := 1#32
  let v252 : BitVec 32 := Scalar.subi v237 c1_i32_112
  let v253 : BitVec 32 := Scalar.select v251 v252 v237
  let v254 : BitVec 32 := Scalar.subi v253 c0_i32_113
  let c1_i32_115 : BitVec 32 := 1#32
  let v256 : BitVec 32 := Scalar.divsi v254 c1_i32_115
  let v257 : BitVec 32 := Scalar.muli v256 c1_i32_115
  let v258 : BitVec 32 := Scalar.addi c0_i32_113 v257
  let c1_i32_117 : BitVec 32 := 1#32
  let arg25 : BitVec 32 := Scf.iv v258 c1_i32_117 k0_t2
  let v557 : BitVec 32 := Scalar.muli c2_i32_357 arg25
  let c1_i32_358 : BitVec 32 := 1#32
  let v558 : BitVec 32 := Scalar.addi v557 c1_i32_358
  let c1_i32_359 : BitVec 32 := 1#32
  let v559 : BitVec 32 := Scalar.addi v558 c1_i32_359
  let c512_i32_360 : BitVec 32 := 512#32
  let v560 : BitVec 32 := Scalar.muli v559 c512_i32_360
  let v561 : BitVec 32 := Scalar.addi c128_i32_361 v560
  v561
def k0_mult20 (i : grid0.Coords) (k0_t2 : Fin (k0_t2_loop i).trips) : BitVec 32 :=
  let c128_i32_373 : BitVec 32 := 128#32
  let c2_i32_369 : BitVec 32 := 2#32
  let c0_i32_113 : BitVec 32 := 0#32
  let arg2 : BitVec 32 := BitVec.ofNat 32 (i 2).val
  let c0_i32_107 : BitVec 32 := 0#32
  let v238 : BitVec 1 := Scalar.cmpi .sgt arg2 c0_i32_107
  let v239 : BitVec 32 := Scalar.extui v238
  let c0_i32_108 : BitVec 32 := 0#32
  let v240 : BitVec 1 := Scalar.cmpi .slt arg2 c0_i32_108
  let v241 : BitVec 32 := Scalar.extui v240
  let v242 : BitVec 32 := Scalar.subi v239 v241
  let c2_i32_106 : BitVec 32 := 2#32
  let c0_i32_109 : BitVec 32 := 0#32
  let v243 : BitVec 1 := Scalar.cmpi .sgt c2_i32_106 c0_i32_109
  let v244 : BitVec 32 := Scalar.extui v243
  let c0_i32_110 : BitVec 32 := 0#32
  let v245 : BitVec 1 := Scalar.cmpi .slt c2_i32_106 c0_i32_110
  let v246 : BitVec 32 := Scalar.extui v245
  let v247 : BitVec 32 := Scalar.subi v244 v246
  let v248 : BitVec 1 := Scalar.cmpi .ne v242 v247
  let v249 : BitVec 32 := Scalar.remsi arg2 c2_i32_106
  let c0_i32_111 : BitVec 32 := 0#32
  let v250 : BitVec 1 := Scalar.cmpi .ne v249 c0_i32_111
  let v251 : BitVec 1 := Scalar.andi v248 v250
  let v237 : BitVec 32 := Scalar.divsi arg2 c2_i32_106
  let c1_i32_112 : BitVec 32 := 1#32
  let v252 : BitVec 32 := Scalar.subi v237 c1_i32_112
  let v253 : BitVec 32 := Scalar.select v251 v252 v237
  let v254 : BitVec 32 := Scalar.subi v253 c0_i32_113
  let c1_i32_115 : BitVec 32 := 1#32
  let v256 : BitVec 32 := Scalar.divsi v254 c1_i32_115
  let v257 : BitVec 32 := Scalar.muli v256 c1_i32_115
  let v258 : BitVec 32 := Scalar.addi c0_i32_113 v257
  let c1_i32_117 : BitVec 32 := 1#32
  let arg25 : BitVec 32 := Scf.iv v258 c1_i32_117 k0_t2
  let v570 : BitVec 32 := Scalar.muli c2_i32_369 arg25
  let c1_i32_370 : BitVec 32 := 1#32
  let v571 : BitVec 32 := Scalar.addi v570 c1_i32_370
  let c1_i32_371 : BitVec 32 := 1#32
  let v572 : BitVec 32 := Scalar.addi v571 c1_i32_371
  let c512_i32_372 : BitVec 32 := 512#32
  let v573 : BitVec 32 := Scalar.muli v572 c512_i32_372
  let v574 : BitVec 32 := Scalar.addi c128_i32_373 v573
  v574
def k0_cond2 (i : grid0.Coords) : BitVec 1 :=
  let arg2 : BitVec 32 := BitVec.ofNat 32 (i 2).val
  let c2_i32_118 : BitVec 32 := 2#32
  let c0_i32_119 : BitVec 32 := 0#32
  let v261 : BitVec 1 := Scalar.cmpi .eq c2_i32_118 c0_i32_119
  let c1_i32_120 : BitVec 32 := 1#32
  let v262 : BitVec 32 := Scalar.select v261 c1_i32_120 c2_i32_118
  let v263 : BitVec 32 := Scalar.remsi arg2 v262
  let c0_i32_122 : BitVec 32 := 0#32
  let v265 : BitVec 1 := Scalar.cmpi .slt v263 c0_i32_122
  let c0_i32_123 : BitVec 32 := 0#32
  let v266 : BitVec 1 := Scalar.cmpi .slt v262 c0_i32_123
  let v267 : BitVec 1 := Scalar.xori v265 v266
  let c0_i32_121 : BitVec 32 := 0#32
  let v264 : BitVec 1 := Scalar.cmpi .ne v263 c0_i32_121
  let v268 : BitVec 1 := Scalar.andi v267 v264
  let v269 : BitVec 32 := Scalar.addi v263 v262
  let v270 : BitVec 32 := Scalar.select v268 v269 v263
  let c0_i32_124 : BitVec 32 := 0#32
  let v271 : BitVec 1 := Scalar.cmpi .eq v270 c0_i32_124
  let v272 : BitVec 32 := Scalar.extui v271
  let c0_i32_125 : BitVec 32 := 0#32
  let v273 : BitVec 1 := Scalar.cmpi .ne v272 c0_i32_125
  v273

def k0_off21 (i : grid0.Coords) : Fin 4 → Nat :=
  let c0_191 : Index := 0#32
  let arg2 : BitVec 32 := BitVec.ofNat 32 (i 2).val
  let v350 : Index := Scalar.indexCast arg2
  let c0_192 : Index := 0#32
  let c0_193 : Index := 0#32
  ![0, v350.toNat, 0, 0]
def k0_off22 (i : grid0.Coords) : Fin 4 → Nat :=
  let c1_224 : Index := 1#32
  let arg2 : BitVec 32 := BitVec.ofNat 32 (i 2).val
  let v395 : Index := Scalar.indexCast arg2
  let c0_225 : Index := 0#32
  let c0_226 : Index := 0#32
  ![1, v395.toNat, 0, 0]
def k0_off23 (i : grid0.Coords) : Fin 4 → Nat :=
  let c2_257 : Index := 2#32
  let arg2 : BitVec 32 := BitVec.ofNat 32 (i 2).val
  let v440 : Index := Scalar.indexCast arg2
  let c0_258 : Index := 0#32
  let c0_259 : Index := 0#32
  ![2, v440.toNat, 0, 0]
def k0_off24 (i : grid0.Coords) : Fin 4 → Nat :=
  let c3_290 : Index := 3#32
  let arg2 : BitVec 32 := BitVec.ofNat 32 (i 2).val
  let v485 : Index := Scalar.indexCast arg2
  let c0_291 : Index := 0#32
  let c0_292 : Index := 0#32
  ![3, v485.toNat, 0, 0]
def k0_cond3 (i : grid0.Coords) : BitVec 1 :=
  let arg2 : BitVec 32 := BitVec.ofNat 32 (i 2).val
  let c2_i32_126 : BitVec 32 := 2#32
  let c0_i32_127 : BitVec 32 := 0#32
  let v274 : BitVec 1 := Scalar.cmpi .eq c2_i32_126 c0_i32_127
  let c1_i32_128 : BitVec 32 := 1#32
  let v275 : BitVec 32 := Scalar.select v274 c1_i32_128 c2_i32_126
  let v276 : BitVec 32 := Scalar.remsi arg2 v275
  let c0_i32_130 : BitVec 32 := 0#32
  let v278 : BitVec 1 := Scalar.cmpi .slt v276 c0_i32_130
  let c0_i32_131 : BitVec 32 := 0#32
  let v279 : BitVec 1 := Scalar.cmpi .slt v275 c0_i32_131
  let v280 : BitVec 1 := Scalar.xori v278 v279
  let c0_i32_129 : BitVec 32 := 0#32
  let v277 : BitVec 1 := Scalar.cmpi .ne v276 c0_i32_129
  let v281 : BitVec 1 := Scalar.andi v280 v277
  let v282 : BitVec 32 := Scalar.addi v276 v275
  let v283 : BitVec 32 := Scalar.select v281 v282 v276
  let c1_i32_132 : BitVec 32 := 1#32
  let v284 : BitVec 1 := Scalar.cmpi .eq v283 c1_i32_132
  let v285 : BitVec 32 := Scalar.extui v284
  let c0_i32_133 : BitVec 32 := 0#32
  let v286 : BitVec 1 := Scalar.cmpi .ne v285 c0_i32_133
  v286

def k0_mult21 (i : grid0.Coords) : BitVec 32 :=
  let c128_i32_166 : BitVec 32 := 128#32
  let arg2 : BitVec 32 := BitVec.ofNat 32 (i 2).val
  let c512_i32 : BitVec 32 := 512#32
  let v323 : BitVec 32 := Scalar.muli arg2 c512_i32
  let v324 : BitVec 32 := Scalar.addi c128_i32_166 v323
  v324
def k0_off25 (i : grid0.Coords) : Fin 3 → Nat :=
  let c0_167 : Index := 0#32
  let c128_i32_166 : BitVec 32 := 128#32
  let arg2 : BitVec 32 := BitVec.ofNat 32 (i 2).val
  let c512_i32 : BitVec 32 := 512#32
  let v323 : BitVec 32 := Scalar.muli arg2 c512_i32
  let v324 : BitVec 32 := Scalar.addi c128_i32_166 v323
  let v325 : BitVec 32 := v324
  let v326 : Index := Scalar.indexCast v325
  let c0_168 : Index := 0#32
  ![0, v326.toNat, 0]
def k0_mult22 (i : grid0.Coords) : BitVec 32 :=
  let c128_i32_175 : BitVec 32 := 128#32
  let arg2 : BitVec 32 := BitVec.ofNat 32 (i 2).val
  let c512_i32_174 : BitVec 32 := 512#32
  let v333 : BitVec 32 := Scalar.muli arg2 c512_i32_174
  let v334 : BitVec 32 := Scalar.addi c128_i32_175 v333
  v334
def k0_off26 (i : grid0.Coords) : Fin 3 → Nat :=
  let c1_176 : Index := 1#32
  let c128_i32_175 : BitVec 32 := 128#32
  let arg2 : BitVec 32 := BitVec.ofNat 32 (i 2).val
  let c512_i32_174 : BitVec 32 := 512#32
  let v333 : BitVec 32 := Scalar.muli arg2 c512_i32_174
  let v334 : BitVec 32 := Scalar.addi c128_i32_175 v333
  let v335 : BitVec 32 := v334
  let v336 : Index := Scalar.indexCast v335
  let c0_177 : Index := 0#32
  ![1, v336.toNat, 0]
def k0_mult23 (i : grid0.Coords) : BitVec 32 :=
  let c128_i32_184 : BitVec 32 := 128#32
  let arg2 : BitVec 32 := BitVec.ofNat 32 (i 2).val
  let c512_i32_183 : BitVec 32 := 512#32
  let v343 : BitVec 32 := Scalar.muli arg2 c512_i32_183
  let v344 : BitVec 32 := Scalar.addi c128_i32_184 v343
  v344
def k0_off27 (i : grid0.Coords) : Fin 3 → Nat :=
  let c2_185 : Index := 2#32
  let c128_i32_184 : BitVec 32 := 128#32
  let arg2 : BitVec 32 := BitVec.ofNat 32 (i 2).val
  let c512_i32_183 : BitVec 32 := 512#32
  let v343 : BitVec 32 := Scalar.muli arg2 c512_i32_183
  let v344 : BitVec 32 := Scalar.addi c128_i32_184 v343
  let v345 : BitVec 32 := v344
  let v346 : Index := Scalar.indexCast v345
  let c0_186 : Index := 0#32
  ![2, v346.toNat, 0]
def k0_mult24 (i : grid0.Coords) : BitVec 32 :=
  let c128_i32_193 : BitVec 32 := 128#32
  let arg2 : BitVec 32 := BitVec.ofNat 32 (i 2).val
  let c512_i32_192 : BitVec 32 := 512#32
  let v353 : BitVec 32 := Scalar.muli arg2 c512_i32_192
  let v354 : BitVec 32 := Scalar.addi c128_i32_193 v353
  v354
def k0_off28 (i : grid0.Coords) : Fin 3 → Nat :=
  let c3_194 : Index := 3#32
  let c128_i32_193 : BitVec 32 := 128#32
  let arg2 : BitVec 32 := BitVec.ofNat 32 (i 2).val
  let c512_i32_192 : BitVec 32 := 512#32
  let v353 : BitVec 32 := Scalar.muli arg2 c512_i32_192
  let v354 : BitVec 32 := Scalar.addi c128_i32_193 v353
  let v355 : BitVec 32 := v354
  let v356 : Index := Scalar.indexCast v355
  let c0_195 : Index := 0#32
  ![3, v356.toNat, 0]
def k0_off29 (i : grid0.Coords) : Fin 4 → Nat :=
  let c0_206 : Index := 0#32
  let arg2 : BitVec 32 := BitVec.ofNat 32 (i 2).val
  let c1_i32_205 : BitVec 32 := 1#32
  let v365 : BitVec 32 := Scalar.subi arg2 c1_i32_205
  let v366 : Index := Scalar.indexCast v365
  let c0_207 : Index := 0#32
  let c0_208 : Index := 0#32
  ![0, v366.toNat, 0, 0]
def k0_off30 (i : grid0.Coords) : Fin 4 → Nat :=
  let c1_235 : Index := 1#32
  let arg2 : BitVec 32 := BitVec.ofNat 32 (i 2).val
  let c1_i32_234 : BitVec 32 := 1#32
  let v403 : BitVec 32 := Scalar.subi arg2 c1_i32_234
  let v404 : Index := Scalar.indexCast v403
  let c0_236 : Index := 0#32
  let c0_237 : Index := 0#32
  ![1, v404.toNat, 0, 0]
def k0_off31 (i : grid0.Coords) : Fin 4 → Nat :=
  let c2_264 : Index := 2#32
  let arg2 : BitVec 32 := BitVec.ofNat 32 (i 2).val
  let c1_i32_263 : BitVec 32 := 1#32
  let v441 : BitVec 32 := Scalar.subi arg2 c1_i32_263
  let v442 : Index := Scalar.indexCast v441
  let c0_265 : Index := 0#32
  let c0_266 : Index := 0#32
  ![2, v442.toNat, 0, 0]
def k0_off32 (i : grid0.Coords) : Fin 4 → Nat :=
  let c3_293 : Index := 3#32
  let arg2 : BitVec 32 := BitVec.ofNat 32 (i 2).val
  let c1_i32_292 : BitVec 32 := 1#32
  let v479 : BitVec 32 := Scalar.subi arg2 c1_i32_292
  let v480 : Index := Scalar.indexCast v479
  let c0_294 : Index := 0#32
  let c0_295 : Index := 0#32
  ![3, v480.toNat, 0, 0]
def k0_off33 (i : grid0.Coords) : Fin 4 → Nat :=
  let c0_342 : Index := 0#32
  let arg2 : BitVec 32 := BitVec.ofNat 32 (i 2).val
  let v542 : Index := Scalar.indexCast arg2
  let c0_343 : Index := 0#32
  let c0_344 : Index := 0#32
  ![0, v542.toNat, 0, 0]
def k0_off34 (i : grid0.Coords) : Fin 4 → Nat :=
  let c1_375 : Index := 1#32
  let arg2 : BitVec 32 := BitVec.ofNat 32 (i 2).val
  let v587 : Index := Scalar.indexCast arg2
  let c0_376 : Index := 0#32
  let c0_377 : Index := 0#32
  ![1, v587.toNat, 0, 0]
def k0_off35 (i : grid0.Coords) : Fin 4 → Nat :=
  let c2_408 : Index := 2#32
  let arg2 : BitVec 32 := BitVec.ofNat 32 (i 2).val
  let v632 : Index := Scalar.indexCast arg2
  let c0_409 : Index := 0#32
  let c0_410 : Index := 0#32
  ![2, v632.toNat, 0, 0]
def k0_off36 (i : grid0.Coords) : Fin 4 → Nat :=
  let c3_441 : Index := 3#32
  let arg2 : BitVec 32 := BitVec.ofNat 32 (i 2).val
  let v677 : Index := Scalar.indexCast arg2
  let c0_442 : Index := 0#32
  let c0_443 : Index := 0#32
  ![3, v677.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_5 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c8_i32 : BitVec 32 := 8#32
  let v2 : BitVec 32 := Scalar.muli v1 c8_i32
  let v3 : BitVec 32 := Scalar.addi v2 arg2
  let c0_i32 : BitVec 32 := 0#32
  let c0_i32_0 : BitVec 32 := 0#32
  let c0_i32_1 : BitVec 32 := 0#32
  ![c0_i32.toNat, v3.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c8_i32 : BitVec 32 := 8#32
  let v2 : BitVec 32 := Scalar.muli v1 c8_i32
  let v3 : BitVec 32 := Scalar.addi v2 arg2
  let c0_i32 : BitVec 32 := 0#32
  let c0_i32_0 : BitVec 32 := 0#32
  let c0_i32_1 : BitVec 32 := 0#32
  ![c0_i32.toNat, v3.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c8_i32 : BitVec 32 := 8#32
  let v2 : BitVec 32 := Scalar.muli v1 c8_i32
  let v3 : BitVec 32 := Scalar.addi v2 arg2
  let c0_i32 : BitVec 32 := 0#32
  let c0_i32_0 : BitVec 32 := 0#32
  let c0_i32_1 : BitVec 32 := 0#32
  ![c0_i32.toNat, v3.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c8_i32 : BitVec 32 := 8#32
  let v2 : BitVec 32 := Scalar.muli v1 c8_i32
  let v3 : BitVec 32 := Scalar.addi v2 arg2
  let c0_i32 : BitVec 32 := 0#32
  let c0_i32_0 : BitVec 32 := 0#32
  let c0_i32_1 : BitVec 32 := 0#32
  ![c0_i32.toNat, v3.toNat, c0_i32_0.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c8_i32 : BitVec 32 := 8#32
  let v2 : BitVec 32 := Scalar.muli v1 c8_i32
  let v3 : BitVec 32 := Scalar.addi v2 arg2
  let c0_i32 : BitVec 32 := 0#32
  let c0_i32_0 : BitVec 32 := 0#32
  let c0_i32_1 : BitVec 32 := 0#32
  ![c0_i32.toNat, v3.toNat, c0_i32_0.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c8_i32 : BitVec 32 := 8#32
  let v2 : BitVec 32 := Scalar.muli v1 c8_i32
  let v3 : BitVec 32 := Scalar.addi v2 arg2
  let c0_i32 : BitVec 32 := 0#32
  let c0_i32_0 : BitVec 32 := 0#32
  let c0_i32_1 : BitVec 32 := 0#32
  ![c0_i32.toNat, v3.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x4x8x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x4x1x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S4x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x32x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x32x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x64x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x32x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S1x32x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 2 → Memref sig .tc .vmem S1x64x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]
-- ==== FoxIdeal.lean ====
variable {F : FTy → Type} [FloatOps F] [Named F]
def κ : String → Option EReal := fun
  | "log2e" => some (((Real.log 2)⁻¹ : ℝ) : EReal)
  | "mask" => some ⊥
  | "neg_log2e" => some ((-((Real.log 2)⁻¹) : ℝ) : EReal)
  | "q_units" => some (((Real.sqrt 128)⁻¹ * (Real.log 2)⁻¹ : ℝ) : EReal)
  | _ => none
-- ==== Ffn1.lean ====
abbrev S2x4096x2048 : Shape := ⟨3, ![2, 4096, 2048]⟩
abbrev S16x2048 : Shape := ⟨2, ![16, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S8192x2048 : Shape := ⟨2, ![8192, 2048]⟩
abbrev S2048 : Shape := ⟨1, ![2048]⟩
abbrev S1024x2048 : Shape := ⟨2, ![1024, 2048]⟩
abbrev S1x2048x256 : Shape := ⟨3, ![1, 2048, 256]⟩
abbrev S1x256x2048 : Shape := ⟨3, ![1, 256, 2048]⟩
abbrev S1040x2048 : Shape := ⟨2, ![1040, 2048]⟩
abbrev S1024 : Shape := ⟨1, ![1024]⟩
abbrev S1024x1 : Shape := ⟨2, ![1024, 1]⟩
abbrev S16 : Shape := ⟨1, ![16]⟩
abbrev S16x1 : Shape := ⟨2, ![16, 1]⟩
abbrev S2048x256 : Shape := ⟨2, ![2048, 256]⟩
abbrev S1040x256 : Shape := ⟨2, ![1040, 256]⟩
abbrev S256x2048 : Shape := ⟨2, ![256, 2048]⟩

abbrev nBuf : Space → Nat
  | .hbm => 11
  | .vmem => 14
  | .smem => 0
  | _ => 0

abbrev bufTy : (tb : Table) → Fin (tcTables nBuf tb) → BufTy
  | .hbm, ⟨0, _⟩ => ⟨S2x4096x2048, .f32⟩
  | .hbm, ⟨1, _⟩ => ⟨S16x2048, .f32⟩
  | .hbm, ⟨2, _⟩ => ⟨S1x2048, .f32⟩
  | .hbm, ⟨3, _⟩ => ⟨S1x2048x5632, .f32⟩
  | .hbm, ⟨4, _⟩ => ⟨S1x2048x5632, .f32⟩
  | .hbm, ⟨5, _⟩ => ⟨S1x5632x2048, .f32⟩
  | .hbm, ⟨6, _⟩ => ⟨S8192x2048, .f32⟩
  | .hbm, ⟨7, _⟩ => ⟨S2048, .f32⟩
  | .hbm, ⟨8, _⟩ => ⟨S1x2048, .f32⟩
  | .hbm, ⟨9, _⟩ => ⟨S8192x2048, .f32⟩
  | .hbm, ⟨10, _⟩ => ⟨S16x2048, .f32⟩
  | .local _ .vmem, ⟨0, _⟩ => ⟨S1024x2048, .f32⟩
  | .local _ .vmem, ⟨1, _⟩ => ⟨S1024x2048, .f32⟩
  | .local _ .vmem, ⟨2, _⟩ => ⟨S16x2048, .f32⟩
  | .local _ .vmem, ⟨3, _⟩ => ⟨S1x2048, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x2048x256, .f32⟩
  | .local _ .vmem, ⟨8, _⟩ => ⟨S1x256x2048, .f32⟩
  | .local _ .vmem, ⟨9, _⟩ => ⟨S1x256x2048, .f32⟩
  | .local _ .vmem, ⟨10, _⟩ => ⟨S1024x2048, .f32⟩
  | .local _ .vmem, ⟨11, _⟩ => ⟨S1024x2048, .f32⟩
  | .local _ .vmem, ⟨12, _⟩ => ⟨S16x2048, .f32⟩
  | .local _ .vmem, ⟨13, _⟩ => ⟨S1040x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![8, 22], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond3 (i : grid0.Coords) : BitVec 1 :=
  let arg1 : BitVec 32 := BitVec.ofNat 32 (i 1).val
  let c0_i32_1 : BitVec 32 := 0#32
  let v3 : BitVec 1 := Scalar.cmpi .sgt arg1 c0_i32_1
  let c21_i32 : BitVec 32 := 21#32
  let v4 : BitVec 1 := Scalar.cmpi .slt arg1 c21_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond5 (i : grid0.Coords) : BitVec 1 :=
  let arg1 : BitVec 32 := BitVec.ofNat 32 (i 1).val
  let c21_i32_3 : BitVec 32 := 21#32
  let v8 : BitVec 1 := Scalar.cmpi .eq arg1 c21_i32_3
  let v9 : BitVec 32 := Scalar.extui v8
  let c0_i32_4 : BitVec 32 := 0#32
  let v10 : BitVec 1 := Scalar.cmpi .ne v9 c0_i32_4
  v10

def k0_cond2 (i : grid0.Coords) : BitVec 1 :=
  let arg0 : BitVec 32 := BitVec.ofNat 32 (i 0).val
  let c0_i32_33 : BitVec 32 := 0#32
  let v66 : BitVec 1 := Scalar.cmpi .eq arg0 c0_i32_33
  let v67 : BitVec 32 := Scalar.extui v66
  let c0_i32_34 : BitVec 32 := 0#32
  let v68 : BitVec 1 := Scalar.cmpi .ne v67 c0_i32_34
  v68

def k0_cond4 (i : grid0.Coords) : BitVec 1 :=
  let arg0 : BitVec 32 := BitVec.ofNat 32 (i 0).val
  let c0_i32_21 : BitVec 32 := 0#32
  let v33 : BitVec 1 := Scalar.cmpi .eq arg0 c0_i32_21
  let v34 : BitVec 32 := Scalar.extui v33
  let c0_i32_22 : BitVec 32 := 0#32
  let v35 : BitVec 1 := Scalar.cmpi .ne v34 c0_i32_22
  v35

def k0_cond6 (i : grid0.Coords) : BitVec 1 :=
  let arg0 : BitVec 32 := BitVec.ofNat 32 (i 0).val
  let c0_i32_24 : BitVec 32 := 0#32
  let v38 : BitVec 1 := Scalar.cmpi .eq arg0 c0_i32_24
  let v39 : BitVec 32 := Scalar.extui v38
  let c0_i32_25 : BitVec 32 := 0#32
  let v40 : BitVec 1 := Scalar.cmpi .ne v39 c0_i32_25
  v40

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S16x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Ffn1RefIdeal.lean ====
abbrev S2x4096x2048 : Shape := ⟨3, ![2, 4096, 2048]⟩
abbrev S16x2048 : Shape := ⟨2, ![16, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x5632 : Shape := ⟨2, ![2048, 5632]⟩
abbrev S5632x2048 : Shape := ⟨2, ![5632, 2048]⟩
abbrev S8192x5632 : Shape := ⟨2, ![8192, 5632]⟩
abbrev S16 : Shape := ⟨1, ![16]⟩
abbrev S16x1 : Shape := ⟨2, ![16, 1]⟩
abbrev S16x5632 : Shape := ⟨2, ![16, 5632]⟩

abbrev nBuf : Space → Nat
  | .hbm => 81
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S16x2048, .f32⟩
  | .hbm, ⟨2, _⟩ => ⟨S1x2048, .f32⟩
  | .hbm, ⟨3, _⟩ => ⟨S1x2048x5632, .f32⟩
  | .hbm, ⟨4, _⟩ => ⟨S1x2048x5632, .f32⟩
  | .hbm, ⟨5, _⟩ => ⟨S1x5632x2048, .f32⟩
  | .hbm, ⟨6, _⟩ => ⟨S8192x2048, .f32⟩
  | .hbm, ⟨7, _⟩ => ⟨S2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S2048x5632, .f32⟩
  | .hbm, ⟨25, _⟩ => ⟨S2048x5632, .f32⟩
  | .hbm, ⟨26, _⟩ => ⟨S5632x2048, .f32⟩
  | .hbm, ⟨27, _⟩ => ⟨S8192x5632, .f32⟩
  | .hbm, ⟨28, _⟩ => ⟨S8192x5632, .f32⟩
  | .hbm, ⟨29, _⟩ => ⟨S8192x5632, .f32⟩
  | .hbm, ⟨30, _⟩ => ⟨S_, .f32⟩
  | .hbm, ⟨31, _⟩ => ⟨S8192x5632, .f32⟩
  | .hbm, ⟨32, _⟩ => ⟨S8192x5632, .f32⟩
  | .hbm, ⟨33, _⟩ => ⟨S_, .f32⟩
  | .hbm, ⟨34, _⟩ => ⟨S8192x5632, .f32⟩
  | .hbm, ⟨35, _⟩ => ⟨S8192x5632, .f32⟩
  | .hbm, ⟨36, _⟩ => ⟨S8192x5632, .f32⟩
  | .hbm, ⟨37, _⟩ => ⟨S8192x5632, .f32⟩
  | .hbm, ⟨38, _⟩ => ⟨S8192x5632, .f32⟩
  | .hbm, ⟨39, _⟩ => ⟨S8192x2048, .f32⟩
  | .hbm, ⟨40, _⟩ => ⟨S_, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S2048, .f32⟩
  | .hbm, ⟨45, _⟩ => ⟨S16x2048, .f32⟩
  | .hbm, ⟨46, _⟩ => ⟨S_, .f32⟩
  | .hbm, ⟨47, _⟩ => ⟨S16, .f32⟩
  | .hbm, ⟨48, _⟩ => ⟨S16x1, .f32⟩
  | .hbm, ⟨49, _⟩ => ⟨S_, .f32⟩
  | .hbm, ⟨50, _⟩ => ⟨S16x1, .f32⟩
  | .hbm, ⟨51, _⟩ => ⟨S16x1, .f32⟩
  | .hbm, ⟨52, _⟩ => ⟨S_, .f32⟩
  | .hbm, ⟨53, _⟩ => ⟨S16x1, .f32⟩
  | .hbm, ⟨54, _⟩ => ⟨S16x1, .f32⟩
  | .hbm, ⟨55, _⟩ => ⟨S16x1, .f32⟩
  | .hbm, ⟨56, _⟩ => ⟨S16x2048, .f32⟩
  | .hbm, ⟨57, _⟩ => ⟨S16x2048, .f32⟩
  | .hbm, ⟨58, _⟩ => ⟨S1x2048, .f32⟩
  | .hbm, ⟨59, _⟩ => ⟨S16x2048, .f32⟩
  | .hbm, ⟨60, _⟩ => ⟨S16x2048, .f32⟩
  | .hbm, ⟨61, _⟩ => ⟨S2048x5632, .f32⟩
  | .hbm, ⟨62, _⟩ => ⟨S2048x5632, .f32⟩
  | .hbm, ⟨63, _⟩ => ⟨S5632x2048, .f32⟩
  | .hbm, ⟨64, _⟩ => ⟨S16x5632, .f32⟩
  | .hbm, ⟨65, _⟩ => ⟨S16x5632, .f32⟩
  | .hbm, ⟨66, _⟩ => ⟨S16x5632, .f32⟩
  | .hbm, ⟨67, _⟩ => ⟨S_, .f32⟩
  | .hbm, ⟨68, _⟩ => ⟨S16x5632, .f32⟩
  | .hbm, ⟨69, _⟩ => ⟨S16x5632, .f32⟩
  | .hbm, ⟨70, _⟩ => ⟨S_, .f32⟩
  | .hbm, ⟨71, _⟩ => ⟨S16x5632, .f32⟩
  | .hbm, ⟨72, _⟩ => ⟨S16x5632, .f32⟩
  | .hbm, ⟨73, _⟩ => ⟨S16x5632, .f32⟩
  | .hbm, ⟨74, _⟩ => ⟨S16x5632, .f32⟩
  | .hbm, ⟨75, _⟩ => ⟨S16x5632, .f32⟩
  | .hbm, ⟨76, _⟩ => ⟨S16x2048, .f32⟩
  | .hbm, ⟨77, _⟩ => ⟨S_, .f32⟩
  | .hbm, ⟨78, _⟩ => ⟨S16x2048, .f32⟩
  | .hbm, ⟨79, _⟩ => ⟨S16x2048, .f32⟩
  | .hbm, ⟨80, _⟩ => ⟨S16x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_call1_v0 : Ref sig .tc := ⟨.hbm, 65, rfl⟩
abbrev main_call1_v1 : Ref sig .tc := ⟨.hbm, 66, rfl⟩
abbrev main_call1_cst : Ref sig .tc := ⟨.hbm, 67, rfl⟩
abbrev main_call1_v2 : Ref sig .tc := ⟨.hbm, 68, rfl⟩
abbrev main_call1_v3 : Ref sig .tc := ⟨.hbm, 69, rfl⟩
abbrev main_call1_cst_0 : Ref sig .tc := ⟨.hbm, 70, rfl⟩
abbrev main_call1_v4 : Ref sig .tc := ⟨.hbm, 71, rfl⟩
abbrev main_call1_v5 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_6 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩

abbrev nD : Nat := 1
abbrev τ : Topo := Topo.v7x

variable {F : FTy → Type} [FloatOps F]
-- ==== Ffn2.lean ====
abbrev S8192x2048 : Shape := ⟨2, ![8192, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S1024x2048 : Shape := ⟨2, ![1024, 2048]⟩
abbrev S1x2048x512 : Shape := ⟨3, ![1, 2048, 512]⟩
abbrev S1x512x2048 : Shape := ⟨3, ![1, 512, 2048]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 11
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S1x2048x5632, .bf16⟩
  | .hbm, ⟨6, _⟩ => ⟨S1x2048x5632, .bf16⟩
  | .hbm, ⟨7, _⟩ => ⟨S1x5632x2048, .bf16⟩
  | .hbm, ⟨8, _⟩ => ⟨S2048, .f32⟩
  | .hbm, ⟨9, _⟩ => ⟨S1x2048, .f32⟩
  | .hbm, ⟨10, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x512x2048, .bf16⟩
  | .local _ .vmem, ⟨8, _⟩ => ⟨S1x512x2048, .bf16⟩
  | .local _ .vmem, ⟨9, _⟩ => ⟨S1024x2048, .f32⟩
  | .local _ .vmem, ⟨10, _⟩ => ⟨S1024x2048, .f32⟩
  | .local _ .vmem, ⟨11, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c10_i32 : BitVec 32 := 10#32
  let v4 : BitVec 1 := Scalar.cmpi .slt arg1 c10_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Ffn2RefIdeal.lean ====
abbrev S8192x2048 : Shape := ⟨2, ![8192, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x5632 : Shape := ⟨2, ![2048, 5632]⟩
abbrev S5632x2048 : Shape := ⟨2, ![5632, 2048]⟩
abbrev S8192x5632 : Shape := ⟨2, ![8192, 5632]⟩

abbrev nBuf : Space → Nat
  | .hbm => 42
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S2048x5632, .f32⟩
  | .hbm, ⟨23, _⟩ => ⟨S2048x5632, .f32⟩
  | .hbm, ⟨24, _⟩ => ⟨S5632x2048, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S_, .f32⟩
  | .hbm, ⟨29, _⟩ => ⟨S8192x5632, .f32⟩
  | .hbm, ⟨30, _⟩ => ⟨S8192x5632, .f32⟩
  | .hbm, ⟨31, _⟩ => ⟨S_, .f32⟩
  | .hbm, ⟨32, _⟩ => ⟨S8192x5632, .f32⟩
  | .hbm, ⟨33, _⟩ => ⟨S8192x5632, .f32⟩
  | .hbm, ⟨34, _⟩ => ⟨S8192x5632, .f32⟩
  | .hbm, ⟨35, _⟩ => ⟨S8192x5632, .f32⟩
  | .hbm, ⟨36, _⟩ => ⟨S8192x5632, .f32⟩
  | .hbm, ⟨37, _⟩ => ⟨S8192x2048, .f32⟩
  | .hbm, ⟨38, _⟩ => ⟨S_, .f32⟩
  | .hbm, ⟨39, _⟩ => ⟨S8192x2048, .f32⟩
  | .hbm, ⟨40, _⟩ => ⟨S8192x2048, .f32⟩
  | .hbm, ⟨41, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩

abbrev nD : Nat := 1
abbrev τ : Topo := Topo.v7x

variable {F : FTy → Type} [FloatOps F]
-- ==== Merge.lean ====
abbrev S8192x2048 : Shape := ⟨2, ![8192, 2048]⟩
abbrev S8192x1024 : Shape := ⟨2, ![8192, 1024]⟩
abbrev S1x1024x2048 : Shape := ⟨3, ![1, 1024, 2048]⟩
abbrev S1x2048x2048 : Shape := ⟨3, ![1, 2048, 2048]⟩
abbrev S_ : Shape := ⟨0, ![]⟩
abbrev S8192x6144 : Shape := ⟨2, ![8192, 6144]⟩
abbrev S8192x4096 : Shape := ⟨2, ![8192, 4096]⟩
abbrev S8192x10240 : Shape := ⟨2, ![8192, 10240]⟩
abbrev S512x2048 : Shape := ⟨2, ![512, 2048]⟩
abbrev S512x1024 : Shape := ⟨2, ![512, 1024]⟩
abbrev S1024x2048 : Shape := ⟨2, ![1024, 2048]⟩
abbrev S2048x2048 : Shape := ⟨2, ![2048, 2048]⟩

abbrev nBuf : Space → Nat
  | .hbm => 20
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x1024, .f32⟩
  | .hbm, ⟨3, _⟩ => ⟨S8192x2048, .f32⟩
  | .hbm, ⟨4, _⟩ => ⟨S8192x2048, .f32⟩
  | .hbm, ⟨5, _⟩ => ⟨S1x1024x2048, .f32⟩
  | .hbm, ⟨6, _⟩ => ⟨S1x1024x2048, .f32⟩
  | .hbm, ⟨7, _⟩ => ⟨S1x2048x2048, .f32⟩
  | .hbm, ⟨8, _⟩ => ⟨S1x1024x2048, .bf16⟩
  | .hbm, ⟨9, _⟩ => ⟨S1x1024x2048, .bf16⟩
  | .hbm, ⟨10, _⟩ => ⟨S1x2048x2048, .bf16⟩
  | .hbm, ⟨11, _⟩ => ⟨S_, .bf16⟩
  | .hbm, ⟨12, _⟩ => ⟨S8192x6144, .bf16⟩
  | .hbm, ⟨13, _⟩ => ⟨S8192x2048, .bf16⟩
  | .hbm, ⟨14, _⟩ => ⟨S8192x2048, .bf16⟩
  | .hbm, ⟨15, _⟩ => ⟨S8192x4096, .bf16⟩
  | .hbm, ⟨16, _⟩ => ⟨S8192x10240, .bf16⟩
  | .hbm, ⟨17, _⟩ => ⟨S8192x1024, .bf16⟩
  | .hbm, ⟨18, _⟩ => ⟨S8192x1024, .bf16⟩
  | .hbm, ⟨19, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S1x1024x2048, .bf16⟩
  | .local _ .vmem, ⟨11, _⟩ => ⟨S1x1024x2048, .bf16⟩
  | .local _ .vmem, ⟨12, _⟩ => ⟨S1x2048x2048, .bf16⟩
  | .local _ .vmem, ⟨13, _⟩ => ⟨S512x2048, .f32⟩
  | .local _ .vmem, ⟨14, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeRefIdeal.lean ====
abbrev S8192x2048 : Shape := ⟨2, ![8192, 2048]⟩
abbrev S8192x1024 : Shape := ⟨2, ![8192, 1024]⟩
abbrev S1x1024x2048 : Shape := ⟨3, ![1, 1024, 2048]⟩
abbrev S1x2048x2048 : Shape := ⟨3, ![1, 2048, 2048]⟩
abbrev S_ : Shape := ⟨0, ![]⟩
abbrev S1024x2048 : Shape := ⟨2, ![1024, 2048]⟩
abbrev S2048x2048 : Shape := ⟨2, ![2048, 2048]⟩

abbrev nBuf : Space → Nat
  | .hbm => 34
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x1024, .f32⟩
  | .hbm, ⟨3, _⟩ => ⟨S8192x2048, .f32⟩
  | .hbm, ⟨4, _⟩ => ⟨S8192x2048, .f32⟩
  | .hbm, ⟨5, _⟩ => ⟨S1x1024x2048, .f32⟩
  | .hbm, ⟨6, _⟩ => ⟨S1x1024x2048, .f32⟩
  | .hbm, ⟨7, _⟩ => ⟨S1x2048x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S1024x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S1024x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S2048x2048, .f32⟩
  | .hbm, ⟨32, _⟩ => ⟨S8192x2048, .f32⟩
  | .hbm, ⟨33, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]
-- ==== Inproj.lean ====
abbrev S8192x2048 : Shape := ⟨2, ![8192, 2048]⟩
abbrev S16x2048 : Shape := ⟨2, ![16, 2048]⟩
abbrev S1x2048 : Shape := ⟨2, ![1, 2048]⟩
abbrev S1x2048x10248 : Shape := ⟨3, ![1, 2048, 10248]⟩
abbrev S1x8 : Shape := ⟨2, ![1, 8]⟩
abbrev S1x8x128 : Shape := ⟨3, ![1, 8, 128]⟩
abbrev S2048x10248 : Shape := ⟨2, ![2048, 10248]⟩
abbrev S10248x2048 : Shape := ⟨2, ![10248, 2048]⟩
abbrev S8x2048 : Shape := ⟨2, ![8, 2048]⟩
abbrev S_ : Shape := ⟨0, ![]⟩
abbrev S128x2048 : Shape := ⟨2, ![128, 2048]⟩
abbrev S8 : Shape := ⟨1, ![8]⟩
abbrev S128 : Shape := ⟨1, ![128]⟩
abbrev S1x128 : Shape := ⟨2, ![1, 128]⟩
abbrev S8x128 : Shape := ⟨2, ![8, 128]⟩
abbrev S1024 : Shape := ⟨1, ![1024]⟩
abbrev S2048 : Shape := ⟨1, ![2048]⟩
abbrev S8192x10240 : Shape := ⟨2, ![8192, 10240]⟩
abbrev S8192x128 : Shape := ⟨2, ![8192, 128]⟩
abbrev S8x128x10240 : Shape := ⟨3, ![8, 128, 10240]⟩
abbrev S16x128 : Shape := ⟨2, ![16, 128]⟩
abbrev S1024x2048 : Shape := ⟨2, ![1024, 2048]⟩
abbrev S1x1024 : Shape := ⟨2, ![1, 1024]⟩
abbrev S1024x1024 : Shape := ⟨2, ![1024, 1024]⟩
abbrev S1024x128 : Shape := ⟨2, ![1024, 128]⟩
abbrev S1x128x1024 : Shape := ⟨3, ![1, 128, 1024]⟩
abbrev S1040x2048 : Shape := ⟨2, ![1040, 2048]⟩
abbrev S1024x1 : Shape := ⟨2, ![1024, 1]⟩
abbrev S16 : Shape := ⟨1, ![16]⟩
abbrev S16x1 : Shape := ⟨2, ![16, 1]⟩
abbrev S16x16 : Shape := ⟨2, ![16, 16]⟩
abbrev S256x256 : Shape := ⟨2, ![256, 256]⟩
abbrev S256x128 : Shape := ⟨2, ![256, 128]⟩
abbrev S1040x1024 : Shape := ⟨2, ![1040, 1024]⟩
abbrev S1040x128 : Shape := ⟨2, ![1040, 128]⟩
abbrev S1040 : Shape := ⟨1, ![1040]⟩
abbrev S1040x1 : Shape := ⟨2, ![1040, 1]⟩
abbrev S16x1024 : Shape := ⟨2, ![16, 1024]⟩
abbrev S112x1024 : Shape := ⟨2, ![112, 1024]⟩
abbrev S128x1024 : Shape := ⟨2, ![128, 1024]⟩

abbrev nBuf : Space → Nat
  | .hbm => 34
  | .vmem => 20
  | .smem => 0
  | _ => 0

abbrev bufTy : (tb : Table) → Fin (tcTables nBuf tb) → BufTy
  | .hbm, ⟨0, _⟩ => ⟨S8192x2048, .f32⟩
  | .hbm, ⟨1, _⟩ => ⟨S16x2048, .f32⟩
  | .hbm, ⟨2, _⟩ => ⟨S1x2048, .f32⟩
  | .hbm, ⟨3, _⟩ => ⟨S1x2048x10248, .f32⟩
  | .hbm, ⟨4, _⟩ => ⟨S1x8, .f32⟩
  | .hbm, ⟨5, _⟩ => ⟨S1x8x128, .f32⟩
  | .hbm, ⟨6, _⟩ => ⟨S1x8x128, .f32⟩
  | .hbm, ⟨7, _⟩ => ⟨S2048x10248, .f32⟩
  | .hbm, ⟨8, _⟩ => ⟨S10248x2048, .f32⟩
  | .hbm, ⟨9, _⟩ => ⟨S8x2048, .f32⟩
  | .hbm, ⟨10, _⟩ => ⟨S_, .i32⟩
  | .hbm, ⟨11, _⟩ => ⟨S_, .f32⟩
  | .hbm, ⟨12, _⟩ => ⟨S128x2048, .f32⟩
  | .hbm, ⟨13, _⟩ => ⟨S128x2048, .bf16⟩
  | .hbm, ⟨14, _⟩ => ⟨S8, .f32⟩
  | .hbm, ⟨15, _⟩ => ⟨S_, .i32⟩
  | .hbm, ⟨16, _⟩ => ⟨S_, .f32⟩
  | .hbm, ⟨17, _⟩ => ⟨S128, .f32⟩
  | .hbm, ⟨18, _⟩ => ⟨S1x128, .f32⟩
  | .hbm, ⟨19, _⟩ => ⟨S8x128, .f32⟩
  | .hbm, ⟨20, _⟩ => ⟨S1024, .f32⟩
  | .hbm, ⟨21, _⟩ => ⟨S_, .f32⟩
  | .hbm, ⟨22, _⟩ => ⟨S1024, .f32⟩
  | .hbm, ⟨23, _⟩ => ⟨S1024, .f32⟩
  | .hbm, ⟨24, _⟩ => ⟨S8x128, .f32⟩
  | .hbm, ⟨25, _⟩ => ⟨S1024, .f32⟩
  | .hbm, ⟨26, _⟩ => ⟨S2048, .f32⟩
  | .hbm, ⟨27, _⟩ => ⟨S1x2048, .f32⟩
  | .hbm, ⟨28, _⟩ => ⟨S2048, .f32⟩
  | .hbm, ⟨29, _⟩ => ⟨S1x2048, .f32⟩
  | .hbm, ⟨30, _⟩ => ⟨S8192x10240, .bf16⟩
  | .hbm, ⟨31, _⟩ => ⟨S8192x128, .f32⟩
  | .hbm, ⟨32, _⟩ => ⟨S8x128x10240, .bf16⟩
  | .hbm, ⟨33, _⟩ => ⟨S16x128, .f32⟩
  | .local _ .vmem, ⟨0, _⟩ => ⟨S1024x2048, .f32⟩
  | .local _ .vmem, ⟨1, _⟩ => ⟨S1024x2048, .f32⟩
  | .local _ .vmem, ⟨2, _⟩ => ⟨S16x2048, .f32⟩
  | .local _ .vmem, ⟨3, _⟩ => ⟨S1x2048, .f32⟩
  | .local _ .vmem, ⟨4, _⟩ => ⟨S1024x2048, .f32⟩
  | .local _ .vmem, ⟨5, _⟩ => ⟨S1024x2048, .f32⟩
  | .local _ .vmem, ⟨6, _⟩ => ⟨S1x1024, .f32⟩
  | .local _ .vmem, ⟨7, _⟩ => ⟨S1x1024, .f32⟩
  | .local _ .vmem, ⟨8, _⟩ => ⟨S128x2048, .bf16⟩
  | .local _ .vmem, ⟨9, _⟩ => ⟨S1x128, .f32⟩
  | .local _ .vmem, ⟨10, _⟩ => ⟨S1024x1024, .bf16⟩
  | .local _ .vmem, ⟨11, _⟩ => ⟨S1024x1024, .bf16⟩
  | .local _ .vmem, ⟨12, _⟩ => ⟨S1024x128, .f32⟩
  | .local _ .vmem, ⟨13, _⟩ => ⟨S1024x128, .f32⟩
  | .local _ .vmem, ⟨14, _⟩ => ⟨S1x128x1024, .bf16⟩
  | .local _ .vmem, ⟨15, _⟩ => ⟨S1x128x1024, .bf16⟩
  | .local _ .vmem, ⟨16, _⟩ => ⟨S16x128, .f32⟩
  | .local _ .vmem, ⟨17, _⟩ => ⟨S1040x2048, .bf16⟩
  | .local _ .vmem, ⟨18, _⟩ => ⟨S1x128, .f32⟩
  | .local _ .vmem, ⟨19, _⟩ => ⟨S1x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_call1_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18_0 : Ref sig .tc := ⟨.hbm, 30, rfl⟩
abbrev main_v18_1 : Ref sig .tc := ⟨.hbm, 31, rfl⟩
abbrev main_v18_2 : Ref sig .tc := ⟨.hbm, 32, rfl⟩
abbrev main_v18_3 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨2, ![8, 10], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  let c3_i32 : BitVec 32 := 3#32
  let v1 : BitVec 1 := Scalar.cmpi .sge arg1 c3_i32
  let c8_i32 : BitVec 32 := 8#32
  let c0_i32 : BitVec 32 := 0#32
  let v2 : BitVec 32 := Scalar.select v1 c8_i32 c0_i32
  let v3 : BitVec 32 := Scalar.addi v0 v2
  v3
def k0_cond4 (i : grid0.Coords) : BitVec 1 :=
  let arg1 : BitVec 32 := BitVec.ofNat 32 (i 1).val
  let c2_i32 : BitVec 32 := 2#32
  let v3 : BitVec 1 := Scalar.cmpi .slt arg1 c2_i32
  let v4 : BitVec 32 := Scalar.extui v3
  let c0_i32_1 : BitVec 32 := 0#32
  let v5 : BitVec 1 := Scalar.cmpi .ne v4 c0_i32_1
  v5

def k0_cond5 (i : grid0.Coords) : BitVec 1 :=
  let arg1 : BitVec 32 := BitVec.ofNat 32 (i 1).val
  let c2_i32_2 : BitVec 32 := 2#32
  let v6 : BitVec 1 := Scalar.cmpi .sge arg1 c2_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_11 : BitVec 32 := 0#32
  let v28 : BitVec 1 := Scalar.cmpi .eq arg0 c0_i32_11
  let v29 : BitVec 32 := Scalar.extui v28
  let c0_i32_12 : BitVec 32 := 0#32
  let v30 : BitVec 1 := Scalar.cmpi .ne v29 c0_i32_12
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c3_i32 : BitVec 32 := 3#32
  let v1 : BitVec 1 := Scalar.cmpi .sge arg1 c3_i32
  let c8_i32 : BitVec 32 := 8#32
  let c0_i32 : BitVec 32 := 0#32
  let v2 : BitVec 32 := Scalar.select v1 c8_i32 c0_i32
  let v3 : BitVec 32 := Scalar.addi v0 v2
  let v4 : BitVec 32 := v3
  let c0_i32_0 : BitVec 32 := 0#32
  let c0_i32_1 : BitVec 32 := 0#32
  ![v4.toNat, c0_i32_0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S128x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S16x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== InprojRefIdeal.lean ====
abbrev S8192x2048 : Shape := ⟨2, ![8192, 2048]⟩
abbrev S16x2048 : Shape := ⟨2, ![16, 2048]⟩
abbrev S1x2048 : Shape := ⟨2, ![1, 2048]⟩
abbrev S1x2048x10248 : Shape := ⟨3, ![1, 2048, 10248]⟩
abbrev S1x8 : Shape := ⟨2, ![1, 8]⟩
abbrev S1x8x128 : Shape := ⟨3, ![1, 8, 128]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x10248 : Shape := ⟨2, ![2048, 10248]⟩
abbrev S8192x10248 : Shape := ⟨2, ![8192, 10248]⟩
abbrev S8192x1024 : Shape := ⟨2, ![8192, 1024]⟩
abbrev S8192x4096 : Shape := ⟨2, ![8192, 4096]⟩
abbrev S8192x8x128 : Shape := ⟨3, ![8192, 8, 128]⟩
abbrev S8x128 : Shape := ⟨2, ![8, 128]⟩
abbrev S8192x8 : Shape := ⟨2, ![8192, 8]⟩
abbrev S8192x8x1 : Shape := ⟨3, ![8192, 8, 1]⟩
abbrev S8192x10240 : Shape := ⟨2, ![8192, 10240]⟩

abbrev nBuf : Space → Nat
  | .hbm => 79
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S16x2048, .f32⟩
  | .hbm, ⟨2, _⟩ => ⟨S1x2048, .f32⟩
  | .hbm, ⟨3, _⟩ => ⟨S1x2048x10248, .f32⟩
  | .hbm, ⟨4, _⟩ => ⟨S1x8, .f32⟩
  | .hbm, ⟨5, _⟩ => ⟨S1x8x128, .f32⟩
  | .hbm, ⟨6, _⟩ => ⟨S1x8x128, .f32⟩
  | .hbm, ⟨7, _⟩ => ⟨S2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S2048x10248, .f32⟩
  | .hbm, ⟨25, _⟩ => ⟨S8192x10248, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x4096, .f32⟩
  | .hbm, ⟨33, _⟩ => ⟨S8192x8x128, .f32⟩
  | .hbm, ⟨34, _⟩ => ⟨S8x128, .f32⟩
  | .hbm, ⟨35, _⟩ => ⟨S8192x8x128, .f32⟩
  | .hbm, ⟨36, _⟩ => ⟨S_, .f32⟩
  | .hbm, ⟨37, _⟩ => ⟨S8192x8, .f32⟩
  | .hbm, ⟨38, _⟩ => ⟨S8192x8x1, .f32⟩
  | .hbm, ⟨39, _⟩ => ⟨S_, .f32⟩
  | .hbm, ⟨40, _⟩ => ⟨S8192x8x1, .f32⟩
  | .hbm, ⟨41, _⟩ => ⟨S8192x8x1, .f32⟩
  | .hbm, ⟨42, _⟩ => ⟨S_, .f32⟩
  | .hbm, ⟨43, _⟩ => ⟨S8192x8x1, .f32⟩
  | .hbm, ⟨44, _⟩ => ⟨S8192x8x1, .f32⟩
  | .hbm, ⟨45, _⟩ => ⟨S8192x8x1, .f32⟩
  | .hbm, ⟨46, _⟩ => ⟨S8192x8x128, .f32⟩
  | .hbm, ⟨47, _⟩ => ⟨S8192x8x128, .f32⟩
  | .hbm, ⟨48, _⟩ => ⟨S1x8x128, .f32⟩
  | .hbm, ⟨49, _⟩ => ⟨S8192x8x128, .f32⟩
  | .hbm, ⟨50, _⟩ => ⟨S8192x8x128, .f32⟩
  | .hbm, ⟨51, _⟩ => ⟨S8192x1024, .f32⟩
  | .hbm, ⟨52, _⟩ => ⟨S_, .f32⟩
  | .hbm, ⟨53, _⟩ => ⟨S8192x1024, .f32⟩
  | .hbm, ⟨54, _⟩ => ⟨S8192x1024, .f32⟩
  | .hbm, ⟨55, _⟩ => ⟨S8192x8x128, .f32⟩
  | .hbm, ⟨56, _⟩ => ⟨S8x128, .f32⟩
  | .hbm, ⟨57, _⟩ => ⟨S8192x8x128, .f32⟩
  | .hbm, ⟨58, _⟩ => ⟨S_, .f32⟩
  | .hbm, ⟨59, _⟩ => ⟨S8192x8, .f32⟩
  | .hbm, ⟨60, _⟩ => ⟨S8192x8x1, .f32⟩
  | .hbm, ⟨61, _⟩ => ⟨S_, .f32⟩
  | .hbm, ⟨62, _⟩ => ⟨S8192x8x1, .f32⟩
  | .hbm, ⟨63, _⟩ => ⟨S8192x8x1, .f32⟩
  | .hbm, ⟨64, _⟩ => ⟨S_, .f32⟩
  | .hbm, ⟨65, _⟩ => ⟨S8192x8x1, .f32⟩
  | .hbm, ⟨66, _⟩ => ⟨S8192x8x1, .f32⟩
  | .hbm, ⟨67, _⟩ => ⟨S8192x8x1, .f32⟩
  | .hbm, ⟨68, _⟩ => ⟨S8192x8x128, .f32⟩
  | .hbm, ⟨69, _⟩ => ⟨S8192x8x128, .f32⟩
  | .hbm, ⟨70, _⟩ => ⟨S1x8x128, .f32⟩
  | .hbm, ⟨71, _⟩ => ⟨S8192x8x128, .f32⟩
  | .hbm, ⟨72, _⟩ => ⟨S8192x8x128, .f32⟩
  | .hbm, ⟨73, _⟩ => ⟨S8192x1024, .f32⟩
  | .hbm, ⟨74, _⟩ => ⟨S_, .f32⟩
  | .hbm, ⟨75, _⟩ => ⟨S8192x1024, .f32⟩
  | .hbm, ⟨76, _⟩ => ⟨S8192x1024, .f32⟩
  | .hbm, ⟨77, _⟩ => ⟨S8192x10240, .f32⟩
  | .hbm, ⟨78, _⟩ => ⟨S8192x10240, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_6 : Ref sig .tc := ⟨.hbm, 58, rfl⟩
abbrev main_v44 : Ref sig .tc := ⟨.hbm, 59, rfl⟩
abbrev main_v45 : Ref sig .tc := ⟨.hbm, 60, rfl⟩
abbrev main_cst_7 : Ref sig .tc := ⟨.hbm, 61, rfl⟩
abbrev main_v46 : Ref sig .tc := ⟨.hbm, 62, rfl⟩
abbrev main_v47 : Ref sig .tc := ⟨.hbm, 63, rfl⟩
abbrev main_cst_8 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_9 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩

abbrev nD : Nat := 1
abbrev τ : Topo := Topo.v7x

variable {F : FTy → Type} [FloatOps F]
-- ==== Proof.FoxIdeal.RunA.lean ====
module

public import proofs.«01_k».proof.Proof.Gen.FoxIdeal.Frame
public import proofs.«01_k».proof.Proof.Gen.FoxIdeal.Loops
@[expose] public section

set_option maxRecDepth 16384

noncomputable section

namespace Cert.FoxIdeal.Body

open Cert.FoxIdeal Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The body's first test, of the grid's third coordinate against zero. -/
abbrev k0_first (i : grid0.Coords) : Prop :=
  Scalar.cmpi .ne (Scalar.extui (Scalar.cmpi .eq (BitVec.ofNat 32 (i 2).val) 0#32)) 0#32 = 1#1

set_option maxHeartbeats 16000000 in
/-- The body at the first query block, from any contents of its buffers: the loops make no trip; the pieces that each written buffer ends
    with, with the proof that the body leaves them and changes no other buffer. -/
@[irreducible] def runA (c : Dev nD) (i : grid0.Coords) (arg3 : Memref sig .tc .vmem S512x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S1x4x8x1x512 .f32) (harg8 : arg8.IsWhole) (arg9 : Memref sig .tc .vmem S1x4x1x4096 .f32) (harg9 : arg9.IsWhole) (arg10 : Memref sig .tc .vmem S4x1x128 .f32) (harg10 : arg10.IsWhole) (arg11 : Memref sig .tc .vmem S1x32x2048 .f32) (harg11 : arg11.IsWhole) (arg12 : Memref sig .tc .vmem S1x32x2048 .f32) (harg12 : arg12.IsWhole) (arg13 : Memref sig .tc .vmem S1x64x2048 .f32) (harg13 : arg13.IsWhole) (arg14 : Memref sig .tc .vmem S512x512 .bf16) (harg14 : arg14.IsWhole) (arg15 : Memref sig .tc .vmem S1x32x2048 .bf16) (harg15 : arg15.IsWhole) (arg16 : Memref sig .tc .vmem S1x32x2048 .bf16) (harg16 : arg16.IsWhole) (arg17 : Memref sig .tc .vmem S1x64x2048 .bf16) (harg17 : arg17.IsWhole) (arg18 : Memref sig .tc .vmem S4x4224x256 .bf16) (harg18 : arg18.IsWhole) (arg19 : Memref sig .tc .vmem S4x8x128x512 .bf16) (harg19 : arg19.IsWhole) (arg20 : Memref sig .tc .vmem S4x128x128 .bf16) (harg20 : arg20.IsWhole) (arg21 : Memref sig .tc .vmem S4x2x512x512 .f32) (harg21 : arg21.IsWhole) (arg22 : Memref sig .tc .vmem S4x1x512 .f32) (harg22 : arg22.IsWhole) (arg23 : Memref sig .tc .vmem S4x1x512 .f32) (harg23 : arg23.IsWhole) (arg24 : Memref sig .tc .vmem S4x128x512 .f32) (harg24 : arg24.IsWhole) (hc0 : k0_first i) (hc1 : k0_cond2 i = 1#1) (hc2 : ¬k0_cond3 i = 1#1) (htr1 : (k0_t1_loop i).trips = 0) (htr2 : (k0_t2_loop i).trips = 0)
    (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) (f23 : BufTy.Contents (Elt F) arg23.view.ty) (f24 : BufTy.Contents (Elt F) arg24.view.ty) :
    Σ' (L14 : List (View.Piece (Elt F) S512x512 .bf16)) (L15 : List (View.Piece (Elt F) S1x32x2048 .bf16)) (L16 : List (View.Piece (Elt F) S1x32x2048 .bf16)) (L17 : List (View.Piece (Elt F) S1x64x2048 .bf16)) (L18 : List (View.Piece (Elt F) S4x4224x256 .bf16)) (L19 : List (View.Piece (Elt F) S4x8x128x512 .bf16)) (L20 : List (View.Piece (Elt F) S4x128x128 .bf16)) (L21 : List (View.Piece (Elt F) S4x2x512x512 .f32)) (L22 : List (View.Piece (Elt F) S4x1x512 .f32)) (L23 : List (View.Piece (Elt F) S4x1x512 .f32)), { L24 : List (View.Piece (Elt F) S4x128x512 .f32) //
      ∀ (E : Set ℕ) (K : PUnit → sProp 𝕄),
        iprop(((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23) ∗ (arg24.view.loc (c : Thread nD τ) ↦[arg24.view.set]{fullShare} f24))
            ∗ (iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17) ∗ (∃ f, arg18.view.loc (c : Thread nD τ) ↦[arg18.view.set]{fullShare} arg18.view.writes (Elt F) f L18) ∗ (∃ f, arg19.view.loc (c : Thread nD τ) ↦[arg19.view.set]{fullShare} arg19.view.writes (Elt F) f L19) ∗ (∃ f, arg20.view.loc (c : Thread nD τ) ↦[arg20.view.set]{fullShare} arg20.view.writes (Elt F) f L20) ∗ (∃ f, arg21.view.loc (c : Thread nD τ) ↦[arg21.view.set]{fullShare} arg21.view.writes (Elt F) f L21) ∗ (∃ f, arg22.view.loc (c : Thread nD τ) ↦[arg22.view.set]{fullShare} arg22.view.writes (Elt F) f L22) ∗ (∃ f, arg23.view.loc (c : Thread nD τ) ↦[arg23.view.set]{fullShare} arg23.view.writes (Elt F) f L23) ∗ (∃ f, arg24.view.loc (c : Thread nD τ) ↦[arg24.view.set]{fullShare} arg24.view.writes (Elt F) f L24)) -∗ K ⟨⟩))
          ⊢ wp frame (wpE (defs₀ (F := F)) Variants.none c none) E (cc0_fox_attention i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, ?_, ?_, ?_, ?_, ?_, ?_, ?_, ?_, ?_, fun E K => ?run⟩
  case run =>
    simp only [cc0_fox_attention_eq_skeleton]; unfold cc0_fox_attention_skel
    iintro ⟨⟨H3, H4, H5, H6, H7, H8, H9, H10, H11, H12, H13, H14, H15, H16, H17, H18, H19, H20, H21, H22, H23, H24⟩, Hk⟩
    sl_exec_parts (disch := first | sl_exact hc0 | sl_exact hc1 | sl_exact hc2)
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    iexists _; iexact H24

end Cert.FoxIdeal.Body

end
-- ==== Proof.FoxIdeal.LoopAt.lean ====
module

public import proofs.«01_k».proof.Proof.Gen.FoxIdeal.Loops

@[expose] public section

set_option maxRecDepth 16384

noncomputable section

namespace Cert.FoxIdeal.Body

open Cert.FoxIdeal Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

set_option warn.classDefReducibility false in
/-- The first loop by the invariant that it changes the scores, the running maximum, the running sum and the
    accumulator alone, leaving something in each. -/
@[sl_loop] def loopAt1 (𝒱 : Variants) (c : Dev nD) (bd : Option 𝒱.V) (E : Set ℕ) (i : grid0.Coords) (arg3 : Memref sig .tc .vmem S512x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S1x4x8x1x512 .f32) (harg8 : arg8.IsWhole) (arg9 : Memref sig .tc .vmem S1x4x1x4096 .f32) (harg9 : arg9.IsWhole) (arg10 : Memref sig .tc .vmem S4x1x128 .f32) (harg10 : arg10.IsWhole) (arg11 : Memref sig .tc .vmem S1x32x2048 .f32) (harg11 : arg11.IsWhole) (arg12 : Memref sig .tc .vmem S1x32x2048 .f32) (harg12 : arg12.IsWhole) (arg13 : Memref sig .tc .vmem S1x64x2048 .f32) (harg13 : arg13.IsWhole) (arg14 : Memref sig .tc .vmem S512x512 .bf16) (harg14 : arg14.IsWhole) (arg15 : Memref sig .tc .vmem S1x32x2048 .bf16) (harg15 : arg15.IsWhole) (arg16 : Memref sig .tc .vmem S1x32x2048 .bf16) (harg16 : arg16.IsWhole) (arg17 : Memref sig .tc .vmem S1x64x2048 .bf16) (harg17 : arg17.IsWhole) (arg18 : Memref sig .tc .vmem S4x4224x256 .bf16) (harg18 : arg18.IsWhole) (arg19 : Memref sig .tc .vmem S4x8x128x512 .bf16) (harg19 : arg19.IsWhole) (arg20 : Memref sig .tc .vmem S4x128x128 .bf16) (harg20 : arg20.IsWhole) (arg21 : Memref sig .tc .vmem S4x2x512x512 .f32) (harg21 : arg21.IsWhole) (arg22 : Memref sig .tc .vmem S4x1x512 .f32) (harg22 : arg22.IsWhole) (arg23 : Memref sig .tc .vmem S4x1x512 .f32) (harg23 : arg23.IsWhole) (arg24 : Memref sig .tc .vmem S4x128x512 .f32) (harg24 : arg24.IsWhole) (v63 : FVec F S256x512 .bf16) (v106 : FVec F S256x512 .bf16) (v149 : FVec F S256x512 .bf16) (v192 : FVec F S256x512 .bf16) (X_arg18 : BufTy.Contents (Elt F) arg18.view.ty) (X_arg19 : BufTy.Contents (Elt F) arg19.view.ty) (init : BitVec 32) :
  Idealize.ShloMosaic.LoopInv (M := MT nD τ sig Unit (Elt F) ℕ (UR sig nD τ) ℕ) Idealize.ShloMosaic.frame (wpE defs₀ 𝒱 (c : Thread nD τ) bd) E
    (k0_t1_loop i).lb (k0_t1_loop i).ub (k0_t1_loop i).st (k0_t1_ok i) init (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 0#32 v63 v106 v149 v192 k0_pay402) where
  inv := fun _ _ => iprop((arg18.view.loc (c : Thread nD τ) ↦[arg18.view.set]{fullShare} X_arg18) ∗ (arg19.view.loc (c : Thread nD τ) ↦[arg19.view.set]{fullShare} X_arg19)
    ∗ (∃ f, arg21.view.loc (c : Thread nD τ) ↦[arg21.view.set]{fullShare} f) ∗ (∃ f, arg22.view.loc (c : Thread nD τ) ↦[arg22.view.set]{fullShare} f)
    ∗ (∃ f, arg23.view.loc (c : Thread nD τ) ↦[arg23.view.set]{fullShare} f) ∗ (∃ f, arg24.view.loc (c : Thread nD τ) ↦[arg24.view.set]{fullShare} f))
  step k acc := by
    iintro ⟨H18, H19, ⟨%f21, H21⟩, ⟨%f22, H22⟩, ⟨%f23, H23⟩, ⟨%f24, H24⟩⟩
    iapply (wp_wand_r Idealize.ShloMosaic.frame (wpE (defs₀ (F := F)) 𝒱 (c : Thread nD τ) bd) E)
    isplitl [H18 H19 H21 H22 H23 H24]
    · iapply ((trip_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 0#32 v63 v106 v149 v192 k0_pay402 X_arg18 X_arg19 k).2.2.2.2.2 E acc f21 f22 f23 f24)
      isplitl [H18]; · iexact H18
      isplitl [H19]; · iexact H19
      isplitl [H21]; · iexact H21
      isplitl [H22]; · iexact H22
      isplitl [H23]; · iexact H23
      iexact H24
    · iintro %yld ⟨%h_res, H18, H19, H21, H22, H23, H24⟩
      isplitl [H18]; · iexact H18
      isplitl [H19]; · iexact H19
      isplitl [H21]; · iexists _; iexact H21
      isplitl [H22]; · iexists _; iexact H22
      isplitl [H23]; · iexists _; iexact H23
      iexists _; iexact H24

set_option warn.classDefReducibility false in
/-- The second loop by the invariant that it changes the scores, the running maximum, the running sum and the
    accumulator alone, leaving something in each. -/
@[sl_loop] def loopAt2 (𝒱 : Variants) (c : Dev nD) (bd : Option 𝒱.V) (E : Set ℕ) (i : grid0.Coords) (arg3 : Memref sig .tc .vmem S512x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S1x4x8x1x512 .f32) (harg8 : arg8.IsWhole) (arg9 : Memref sig .tc .vmem S1x4x1x4096 .f32) (harg9 : arg9.IsWhole) (arg10 : Memref sig .tc .vmem S4x1x128 .f32) (harg10 : arg10.IsWhole) (arg11 : Memref sig .tc .vmem S1x32x2048 .f32) (harg11 : arg11.IsWhole) (arg12 : Memref sig .tc .vmem S1x32x2048 .f32) (harg12 : arg12.IsWhole) (arg13 : Memref sig .tc .vmem S1x64x2048 .f32) (harg13 : arg13.IsWhole) (arg14 : Memref sig .tc .vmem S512x512 .bf16) (harg14 : arg14.IsWhole) (arg15 : Memref sig .tc .vmem S1x32x2048 .bf16) (harg15 : arg15.IsWhole) (arg16 : Memref sig .tc .vmem S1x32x2048 .bf16) (harg16 : arg16.IsWhole) (arg17 : Memref sig .tc .vmem S1x64x2048 .bf16) (harg17 : arg17.IsWhole) (arg18 : Memref sig .tc .vmem S4x4224x256 .bf16) (harg18 : arg18.IsWhole) (arg19 : Memref sig .tc .vmem S4x8x128x512 .bf16) (harg19 : arg19.IsWhole) (arg20 : Memref sig .tc .vmem S4x128x128 .bf16) (harg20 : arg20.IsWhole) (arg21 : Memref sig .tc .vmem S4x2x512x512 .f32) (harg21 : arg21.IsWhole) (arg22 : Memref sig .tc .vmem S4x1x512 .f32) (harg22 : arg22.IsWhole) (arg23 : Memref sig .tc .vmem S4x1x512 .f32) (harg23 : arg23.IsWhole) (arg24 : Memref sig .tc .vmem S4x128x512 .f32) (harg24 : arg24.IsWhole) (v63 : FVec F S256x512 .bf16) (v106 : FVec F S256x512 .bf16) (v149 : FVec F S256x512 .bf16) (v192 : FVec F S256x512 .bf16) (v258 : BitVec 32) (X_arg18 : BufTy.Contents (Elt F) arg18.view.ty) (X_arg19 : BufTy.Contents (Elt F) arg19.view.ty) (init : BitVec 32) :
  Idealize.ShloMosaic.LoopInv (M := MT nD τ sig Unit (Elt F) ℕ (UR sig nD τ) ℕ) Idealize.ShloMosaic.frame (wpE defs₀ 𝒱 (c : Thread nD τ) bd) E
    (k0_t2_loop i).lb (k0_t2_loop i).ub (k0_t2_loop i).st (k0_t2_ok i) init (k0_t2_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 0#32 v63 v106 v149 v192 k0_pay402 v258) where
  inv := fun _ _ => iprop((arg18.view.loc (c : Thread nD τ) ↦[arg18.view.set]{fullShare} X_arg18) ∗ (arg19.view.loc (c : Thread nD τ) ↦[arg19.view.set]{fullShare} X_arg19)
    ∗ (∃ f, arg21.view.loc (c : Thread nD τ) ↦[arg21.view.set]{fullShare} f) ∗ (∃ f, arg22.view.loc (c : Thread nD τ) ↦[arg22.view.set]{fullShare} f)
    ∗ (∃ f, arg23.view.loc (c : Thread nD τ) ↦[arg23.view.set]{fullShare} f) ∗ (∃ f, arg24.view.loc (c : Thread nD τ) ↦[arg24.view.set]{fullShare} f))
  step k acc := by
    iintro ⟨H18, H19, ⟨%f21, H21⟩, ⟨%f22, H22⟩, ⟨%f23, H23⟩, ⟨%f24, H24⟩⟩
    iapply (wp_wand_r Idealize.ShloMosaic.frame (wpE (defs₀ (F := F)) 𝒱 (c : Thread nD τ) bd) E)
    isplitl [H18 H19 H21 H22 H23 H24]
    · iapply ((trip_k0_t2 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 0#32 v63 v106 v149 v192 k0_pay402 v258 X_arg18 X_arg19 k).2.2.2.2.2 E acc f21 f22 f23 f24)
      isplitl [H18]; · iexact H18
      isplitl [H19]; · iexact H19
      isplitl [H21]; · iexact H21
      isplitl [H22]; · iexact H22
      isplitl [H23]; · iexact H23
      iexact H24
    · iintro %yld ⟨%h_res, H18, H19, H21, H22, H23, H24⟩
      isplitl [H18]; · iexact H18
      isplitl [H19]; · iexact H19
      isplitl [H21]; · iexists _; iexact H21
      isplitl [H22]; · iexists _; iexact H22
      isplitl [H23]; · iexists _; iexact H23
      iexists _; iexact H24

end Cert.FoxIdeal.Body

end
-- ==== Proof.FoxIdeal.RunB.lean ====
module

public import proofs.«01_k».proof.Proof.Gen.FoxIdeal.Frame
public import proofs.«01_k».proof.Proof.FoxIdeal.RunA
public import proofs.«01_k».proof.Proof.FoxIdeal.LoopAt
@[expose] public section

set_option maxRecDepth 16384

noncomputable section

namespace Cert.FoxIdeal.Body

open Cert.FoxIdeal Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 16000000 in
/-- The body at an even query block after the first, from any contents of its buffers: the pieces that the three converted slices end with;
    the attention output, the scores and the running values end at something; no other buffer changes. -/
@[irreducible] def runB (c : Dev nD) (i : grid0.Coords) (arg3 : Memref sig .tc .vmem S512x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S1x4x8x1x512 .f32) (harg8 : arg8.IsWhole) (arg9 : Memref sig .tc .vmem S1x4x1x4096 .f32) (harg9 : arg9.IsWhole) (arg10 : Memref sig .tc .vmem S4x1x128 .f32) (harg10 : arg10.IsWhole) (arg11 : Memref sig .tc .vmem S1x32x2048 .f32) (harg11 : arg11.IsWhole) (arg12 : Memref sig .tc .vmem S1x32x2048 .f32) (harg12 : arg12.IsWhole) (arg13 : Memref sig .tc .vmem S1x64x2048 .f32) (harg13 : arg13.IsWhole) (arg14 : Memref sig .tc .vmem S512x512 .bf16) (harg14 : arg14.IsWhole) (arg15 : Memref sig .tc .vmem S1x32x2048 .bf16) (harg15 : arg15.IsWhole) (arg16 : Memref sig .tc .vmem S1x32x2048 .bf16) (harg16 : arg16.IsWhole) (arg17 : Memref sig .tc .vmem S1x64x2048 .bf16) (harg17 : arg17.IsWhole) (arg18 : Memref sig .tc .vmem S4x4224x256 .bf16) (harg18 : arg18.IsWhole) (arg19 : Memref sig .tc .vmem S4x8x128x512 .bf16) (harg19 : arg19.IsWhole) (arg20 : Memref sig .tc .vmem S4x128x128 .bf16) (harg20 : arg20.IsWhole) (arg21 : Memref sig .tc .vmem S4x2x512x512 .f32) (harg21 : arg21.IsWhole) (arg22 : Memref sig .tc .vmem S4x1x512 .f32) (harg22 : arg22.IsWhole) (arg23 : Memref sig .tc .vmem S4x1x512 .f32) (harg23 : arg23.IsWhole) (arg24 : Memref sig .tc .vmem S4x128x512 .f32) (harg24 : arg24.IsWhole) (hc0 : ¬k0_first i) (hc1 : k0_cond2 i = 1#1) (hc2 : ¬k0_cond3 i = 1#1)
    (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) (f23 : BufTy.Contents (Elt F) arg23.view.ty) (f24 : BufTy.Contents (Elt F) arg24.view.ty) :
    Σ' (L15 : List (View.Piece (Elt F) S1x32x2048 .bf16)) (L16 : List (View.Piece (Elt F) S1x32x2048 .bf16)), { L17 : List (View.Piece (Elt F) S1x64x2048 .bf16) //
      ∀ (E : Set ℕ) (K : PUnit → sProp 𝕄),
        iprop(((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23) ∗ (arg24.view.loc (c : Thread nD τ) ↦[arg24.view.set]{fullShare} f24))
            ∗ (iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (∃ f, arg14.view.loc (c : Thread nD τ) ↦[arg14.view.set]{fullShare} f) ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (∃ f, arg21.view.loc (c : Thread nD τ) ↦[arg21.view.set]{fullShare} f) ∗ (∃ f, arg22.view.loc (c : Thread nD τ) ↦[arg22.view.set]{fullShare} f) ∗ (∃ f, arg23.view.loc (c : Thread nD τ) ↦[arg23.view.set]{fullShare} f) ∗ (∃ f, arg24.view.loc (c : Thread nD τ) ↦[arg24.view.set]{fullShare} f)) -∗ K ⟨⟩))
          ⊢ wp frame (wpE (defs₀ (F := F)) Variants.none c none) E (cc0_fox_attention i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, ?_, fun E K => ?run⟩
  case run =>
    simp only [cc0_fox_attention_eq_skeleton]; unfold cc0_fox_attention_skel
    iintro ⟨⟨H3, H4, H5, H6, H7, H8, H9, H10, H11, H12, H13, H14, H15, H16, H17, H18, H19, H20, H21, H22, H23, H24⟩, Hk⟩
    sl_exec_parts (disch := first | sl_exact hc0 | sl_exact hc1 | sl_exact hc2)
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexists _; iexact H15
    isplitl [H16]; · iexists _; iexact H16
    isplitl [H17]; · iexists _; iexact H17
    isplitl [H18]; · iexact H18
    isplitl [H19]; · iexact H19
    isplitl [H20]; · iexact H20
    isplitl [H21]; · iexists _; iexact H21
    isplitl [H22]; · iexists _; iexact H22
    isplitl [H23]; · iexists _; iexact H23
    iexists _; iexact H24

end Cert.FoxIdeal.Body

end
-- ==== Proof.FoxIdeal.RunC.lean ====
module

public import proofs.«01_k».proof.Proof.Gen.FoxIdeal.Frame
public import proofs.«01_k».proof.Proof.FoxIdeal.RunB
public import proofs.«01_k».proof.Proof.FoxIdeal.LoopAt
@[expose] public section

set_option maxRecDepth 16384

noncomputable section

namespace Cert.FoxIdeal.Body

open Cert.FoxIdeal Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 16000000 in
/-- The body at an odd query block, from any contents of its buffers: the pieces that the three converted slices end with; the attention
    output, the scores and the running values end at something; no other buffer changes. -/
@[irreducible] def runC (c : Dev nD) (i : grid0.Coords) (arg3 : Memref sig .tc .vmem S512x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S1x4x8x1x512 .f32) (harg8 : arg8.IsWhole) (arg9 : Memref sig .tc .vmem S1x4x1x4096 .f32) (harg9 : arg9.IsWhole) (arg10 : Memref sig .tc .vmem S4x1x128 .f32) (harg10 : arg10.IsWhole) (arg11 : Memref sig .tc .vmem S1x32x2048 .f32) (harg11 : arg11.IsWhole) (arg12 : Memref sig .tc .vmem S1x32x2048 .f32) (harg12 : arg12.IsWhole) (arg13 : Memref sig .tc .vmem S1x64x2048 .f32) (harg13 : arg13.IsWhole) (arg14 : Memref sig .tc .vmem S512x512 .bf16) (harg14 : arg14.IsWhole) (arg15 : Memref sig .tc .vmem S1x32x2048 .bf16) (harg15 : arg15.IsWhole) (arg16 : Memref sig .tc .vmem S1x32x2048 .bf16) (harg16 : arg16.IsWhole) (arg17 : Memref sig .tc .vmem S1x64x2048 .bf16) (harg17 : arg17.IsWhole) (arg18 : Memref sig .tc .vmem S4x4224x256 .bf16) (harg18 : arg18.IsWhole) (arg19 : Memref sig .tc .vmem S4x8x128x512 .bf16) (harg19 : arg19.IsWhole) (arg20 : Memref sig .tc .vmem S4x128x128 .bf16) (harg20 : arg20.IsWhole) (arg21 : Memref sig .tc .vmem S4x2x512x512 .f32) (harg21 : arg21.IsWhole) (arg22 : Memref sig .tc .vmem S4x1x512 .f32) (harg22 : arg22.IsWhole) (arg23 : Memref sig .tc .vmem S4x1x512 .f32) (harg23 : arg23.IsWhole) (arg24 : Memref sig .tc .vmem S4x128x512 .f32) (harg24 : arg24.IsWhole) (hc0 : ¬k0_first i) (hc1 : ¬k0_cond2 i = 1#1) (hc2 : k0_cond3 i = 1#1)
    (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) (f23 : BufTy.Contents (Elt F) arg23.view.ty) (f24 : BufTy.Contents (Elt F) arg24.view.ty) :
    Σ' (L15 : List (View.Piece (Elt F) S1x32x2048 .bf16)) (L16 : List (View.Piece (Elt F) S1x32x2048 .bf16)), { L17 : List (View.Piece (Elt F) S1x64x2048 .bf16) //
      ∀ (E : Set ℕ) (K : PUnit → sProp 𝕄),
        iprop(((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23) ∗ (arg24.view.loc (c : Thread nD τ) ↦[arg24.view.set]{fullShare} f24))
            ∗ (iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (∃ f, arg14.view.loc (c : Thread nD τ) ↦[arg14.view.set]{fullShare} f) ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (∃ f, arg21.view.loc (c : Thread nD τ) ↦[arg21.view.set]{fullShare} f) ∗ (∃ f, arg22.view.loc (c : Thread nD τ) ↦[arg22.view.set]{fullShare} f) ∗ (∃ f, arg23.view.loc (c : Thread nD τ) ↦[arg23.view.set]{fullShare} f) ∗ (∃ f, arg24.view.loc (c : Thread nD τ) ↦[arg24.view.set]{fullShare} f)) -∗ K ⟨⟩))
          ⊢ wp frame (wpE (defs₀ (F := F)) Variants.none c none) E (cc0_fox_attention i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, ?_, fun E K => ?run⟩
  case run =>
    simp only [cc0_fox_attention_eq_skeleton]; unfold cc0_fox_attention_skel
    iintro ⟨⟨H3, H4, H5, H6, H7, H8, H9, H10, H11, H12, H13, H14, H15, H16, H17, H18, H19, H20, H21, H22, H23, H24⟩, Hk⟩
    sl_exec_parts (disch := first | sl_exact hc0 | sl_exact hc1 | sl_exact hc2)
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexists _; iexact H15
    isplitl [H16]; · iexists _; iexact H16
    isplitl [H17]; · iexists _; iexact H17
    isplitl [H18]; · iexact H18
    isplitl [H19]; · iexact H19
    isplitl [H20]; · iexact H20
    isplitl [H21]; · iexists _; iexact H21
    isplitl [H22]; · iexists _; iexact H22
    isplitl [H23]; · iexists _; iexact H23
    iexists _; iexact H24

end Cert.FoxIdeal.Body

end
-- ==== Proof.FoxIdeal.Frame.lean ====
module

public import proofs.«01_k».proof.Proof.Gen.FoxIdeal.Frame
public import proofs.«01_k».proof.Proof.FoxIdeal.RunC
public import Idealize.ShloMosaic.Lib.Pipeline.DatRel
public import Idealize.ShloMosaic.Lib.Pipeline.ReadBack
@[expose] public section

set_option maxRecDepth 16384

noncomputable section

namespace Cert.FoxIdeal.Body

open Cert.FoxIdeal Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The tests of the body, by the point's number -/

/-- The grid's third coordinate at point `t` is the query block's number `t mod 8`. -/
theorem third (t : Fin cfg0.N) : (grid0.coords t 2).val = t.val % 8 := by
  have e2 : (grid0.coords t 2).val = t.val / 1 % 8 := Pipeline.Grid.coords_val t 2 (by decide) rfl
  rw [e2, Nat.div_one]

/-- The first test holds at the first query block alone. -/
theorem first_iff (t : Fin cfg0.N) : k0_first (grid0.coords t) ↔ t.val % 8 = 0 := by
  have h : t.val % 8 < 8 := Nat.mod_lt _ (by decide)
  simp only [k0_first, third]
  generalize t.val % 8 = n at h
  revert h; revert n; decide

/-- The second test holds at the even query blocks. -/
theorem even_iff (t : Fin cfg0.N) : k0_cond2 (grid0.coords t) = 1#1 ↔ t.val % 8 % 2 = 0 := by
  have h : t.val % 8 < 8 := Nat.mod_lt _ (by decide)
  simp only [k0_cond2, third]
  generalize t.val % 8 = n at h
  revert h; revert n; decide

/-- The third test holds at the odd query blocks. -/
theorem odd_iff (t : Fin cfg0.N) : k0_cond3 (grid0.coords t) = 1#1 ↔ t.val % 8 % 2 = 1 := by
  have h : t.val % 8 < 8 := Nat.mod_lt _ (by decide)
  simp only [k0_cond3, third]
  generalize t.val % 8 = n at h
  revert h; revert n; decide

/-- At the first query block the first loop makes no trip. -/
theorem trips1 (t : Fin cfg0.N) (h : t.val % 8 = 0) : (k0_t1_loop (grid0.coords t)).trips = 0 := by
  unfold k0_t1_loop
  simp only [third, h]
  decide

/-- At the first query block the second loop makes no trip. -/
theorem trips2 (t : Fin cfg0.N) (h : t.val % 8 = 0) : (k0_t2_loop (grid0.coords t)).trips = 0 := by
  unfold k0_t2_loop
  simp only [third, h]
  decide

/-! ## The proof data -/

/-- Which windows' contents are described by a relation: the four outputs. -/
def fgt : Fin 15 → Bool
  | ⟨11, _⟩ => true
  | ⟨12, _⟩ => true
  | ⟨13, _⟩ => true
  | ⟨14, _⟩ => true
  | _ => false

/-- The proof data: the arrays as the region finds them, each input's buffer at its block after every point; windows on one array share it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
  Φ _ := Pipeline.ΦA spec0 c
  q w := Pipeline.shareOf spec0 w
  owed _ := 0

/-- What the body leaves in the attention output's buffer at the first query block: what the run of that case stores. -/
def RlO (c : Dev nD) (t : Fin cfg0.N) (X : (cfg0.win 11).block.Idx → Elt F (cfg0.win 11).elt) : Prop :=
  ∀ (hc0 : k0_first (grid0.coords t)) (hc1 : k0_cond2 (grid0.coords t) = 1#1) (hc2 : ¬k0_cond3 (grid0.coords t) = 1#1)
    (ht1 : (k0_t1_loop (grid0.coords t)).trips = 0) (ht2 : (k0_t2_loop (grid0.coords t)).trips = 0),
    ∃ (g14 : BufTy.Contents (Elt F) (win0_11.stage (cfg0.slots t 11)).view.ty) (g15 : BufTy.Contents (Elt F) (win0_12.stage (cfg0.slots t 12)).view.ty) (g16 : BufTy.Contents (Elt F) (win0_13.stage (cfg0.slots t 13)).view.ty) (g17 : BufTy.Contents (Elt F) (win0_14.stage (cfg0.slots t 14)).view.ty) (g18 : BufTy.Contents (Elt F) (Memref.whole cc0_scratch0 : Memref sig .tc _ _ _).view.ty) (g19 : BufTy.Contents (Elt F) (Memref.whole cc0_scratch1 : Memref sig .tc _ _ _).view.ty) (g20 : BufTy.Contents (Elt F) (Memref.whole cc0_scratch2 : Memref sig .tc _ _ _).view.ty) (g21 : BufTy.Contents (Elt F) (Memref.whole cc0_scratch3 : Memref sig .tc _ _ _).view.ty) (g22 : BufTy.Contents (Elt F) (Memref.whole cc0_scratch4 : Memref sig .tc _ _ _).view.ty) (g23 : BufTy.Contents (Elt F) (Memref.whole cc0_scratch5 : Memref sig .tc _ _ _).view.ty) (g24 : BufTy.Contents (Elt F) (Memref.whole cc0_scratch6 : Memref sig .tc _ _ _).view.ty) (e : BufTy.Contents (Elt F) (win0_11.stage (cfg0.slots t 11)).view.ty),
      X = (win0_11.stage (cfg0.slots t 11)).view.read (Elt F) ((win0_11.stage (cfg0.slots t 11)).view.writes (Elt F) e
        (runA (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) hc0 hc1 hc2 ht1 ht2 ((hstage0_0 ((cfg0.slots t 0).cast nbuf0_0)).unread (iblk m c 0 t)) ((hstage0_1 ((cfg0.slots t 1).cast nbuf0_1)).unread (iblk m c 1 t)) ((hstage0_2 ((cfg0.slots t 2).cast nbuf0_2)).unread (iblk m c 2 t)) ((hstage0_3 ((cfg0.slots t 3).cast nbuf0_3)).unread (iblk m c 3 t)) ((hstage0_4 ((cfg0.slots t 4).cast nbuf0_4)).unread (iblk m c 4 t)) ((hstage0_5 ((cfg0.slots t 5).cast nbuf0_5)).unread (iblk m c 5 t)) ((hstage0_6 ((cfg0.slots t 6).cast nbuf0_6)).unread (iblk m c 6 t)) ((hstage0_7 ((cfg0.slots t 7).cast nbuf0_7)).unread (iblk m c 7 t)) ((hstage0_8 ((cfg0.slots t 8).cast nbuf0_8)).unread (iblk m c 8 t)) ((hstage0_9 ((cfg0.slots t 9).cast nbuf0_9)).unread (iblk m c 9 t)) ((hstage0_10 ((cfg0.slots t 10).cast nbuf0_10)).unread (iblk m c 10 t)) g14 g15 g16 g17 g18 g19 g20 g21 g22 g23 g24).1)

/-- The relation of each described window: `RlO` of the attention output, nothing of the converted slices. -/
def Rl (c : Dev nD) : (w : Fin cfg0.W) → Fin cfg0.N → ((cfg0.win w).block.Idx → Elt F (cfg0.win w).elt) → Prop
  | ⟨11, _⟩ => fun t X => RlO m c t X
  | _ => fun _ _ => True

/-- The proof data's arrays are the region's entry contents. -/
theorem A_eq (c : Dev nD) (w : Fin cfg0.W) : (dats m 0 c).A w = V m c (Pipeline.arrRef spec0 w) := by
  dsimp only [dats]

/-- Input 0's buffer holds its block at every point. -/
theorem before0_0 (c : Dev nD) (t : Fin cfg0.N) (d) : (dats m 0 c).before 0 t d = iblk m c 0 t :=
  before0_0_of m (dats m 0 c) (A_eq m c 0) (fun _ => rfl) t d

/-- Input 1's buffer holds its block at every point. -/
theorem before0_1 (c : Dev nD) (t : Fin cfg0.N) (d) : (dats m 0 c).before 1 t d = iblk m c 1 t :=
  before0_1_of m (dats m 0 c) (A_eq m c 1) (fun _ => rfl) t d

/-- Input 2's buffer holds its block at every point. -/
theorem before0_2 (c : Dev nD) (t : Fin cfg0.N) (d) : (dats m 0 c).before 2 t d = iblk m c 2 t :=
  before0_2_of m (dats m 0 c) (A_eq m c 2) (fun _ => rfl) t d

/-- Input 3's buffer holds its block at every point. -/
theorem before0_3 (c : Dev nD) (t : Fin cfg0.N) (d) : (dats m 0 c).before 3 t d = iblk m c 3 t :=
  before0_3_of m (dats m 0 c) (A_eq m c 3) (fun _ => rfl) t d

/-- Input 4's buffer holds its block at every point. -/
theorem before0_4 (c : Dev nD) (t : Fin cfg0.N) (d) : (dats m 0 c).before 4 t d = iblk m c 4 t :=
  before0_4_of m (dats m 0 c) (A_eq m c 4) (fun _ => rfl) t d

/-- Input 5's buffer holds its block at every point. -/
theorem before0_5 (c : Dev nD) (t : Fin cfg0.N) (d) : (dats m 0 c).before 5 t d = iblk m c 5 t :=
  before0_5_of m (dats m 0 c) (A_eq m c 5) (fun _ => rfl) t d

/-- Input 6's buffer holds its block at every point. -/
theorem before0_6 (c : Dev nD) (t : Fin cfg0.N) (d) : (dats m 0 c).before 6 t d = iblk m c 6 t :=
  before0_6_of m (dats m 0 c) (A_eq m c 6) (fun _ => rfl) t d

/-- Input 7's buffer holds its block at every point. -/
theorem before0_7 (c : Dev nD) (t : Fin cfg0.N) (d) : (dats m 0 c).before 7 t d = iblk m c 7 t :=
  before0_7_of m (dats m 0 c) (A_eq m c 7) (fun _ => rfl) t d

/-- Input 8's buffer holds its block at every point. -/
theorem before0_8 (c : Dev nD) (t : Fin cfg0.N) (d) : (dats m 0 c).before 8 t d = iblk m c 8 t :=
  before0_8_of m (dats m 0 c) (A_eq m c 8) (fun _ => rfl) t d

/-- Input 9's buffer holds its block at every point. -/
theorem before0_9 (c : Dev nD) (t : Fin cfg0.N) (d) : (dats m 0 c).before 9 t d = iblk m c 9 t :=
  before0_9_of m (dats m 0 c) (A_eq m c 9) (fun _ => rfl) t d

/-- Input 10's buffer holds its block at every point. -/
theorem before0_10 (c : Dev nD) (t : Fin cfg0.N) (d) : (dats m 0 c).before 10 t d = iblk m c 10 t :=
  before0_10_of m (dats m 0 c) (A_eq m c 10) (fun _ => rfl) t d

/-! ## The body at a point -/

/-- The invariant is the scratch buffers and the generator register at some contents. -/
theorem Phi_eq (c : Dev nD) : (Pipeline.ΦA spec0 c : sProp 𝕄) = iprop(iprop((∃ X, owns (c : Thread nD τ) (Memref.whole cc0_scratch0) fullShare X) ∗ (∃ X, owns (c : Thread nD τ) (Memref.whole cc0_scratch1) fullShare X) ∗ (∃ X, owns (c : Thread nD τ) (Memref.whole cc0_scratch2) fullShare X) ∗ (∃ X, owns (c : Thread nD τ) (Memref.whole cc0_scratch3) fullShare X) ∗ (∃ X, owns (c : Thread nD τ) (Memref.whole cc0_scratch4) fullShare X) ∗ (∃ X, owns (c : Thread nD τ) (Memref.whole cc0_scratch5) fullShare X) ∗ (∃ X, owns (c : Thread nD τ) (Memref.whole cc0_scratch6) fullShare X)) ∗ (∃ r, prngReg c r)) := by
  unfold Pipeline.ΦA; rw [scopedRest0_eq]; simp only [owns_whole]; try rfl

/-- What the body is called with at point `t`, the windows one by one, -/
def bodyPre (c : Dev nD) (t : Fin cfg0.N) : sProp 𝕄 :=
  iprop((dats m 0 c).Φ t.castSucc ∗ (dats m 0 c).owesAt () t.castSucc ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)) ∗ (∃ d, owns (c : Thread nD τ) (win0_8.stage (cfg0.slots t 8)) fullShare ((dats m 0 c).before 8 t d)) ∗ (∃ d, owns (c : Thread nD τ) (win0_9.stage (cfg0.slots t 9)) fullShare ((dats m 0 c).before 9 t d)) ∗ (∃ d, owns (c : Thread nD τ) (win0_10.stage (cfg0.slots t 10)) fullShare ((dats m 0 c).before 10 t d)) ∗ (∃ Y, ⌜((dats m 0 c).toRRel fgt (Rl m c)).Finds 11 t Y⌝ ∗ owns (c : Thread nD τ) (win0_11.stage (cfg0.slots t 11)) fullShare Y) ∗ (∃ Y, ⌜((dats m 0 c).toRRel fgt (Rl m c)).Finds 12 t Y⌝ ∗ owns (c : Thread nD τ) (win0_12.stage (cfg0.slots t 12)) fullShare Y) ∗ (∃ Y, ⌜((dats m 0 c).toRRel fgt (Rl m c)).Finds 13 t Y⌝ ∗ owns (c : Thread nD τ) (win0_13.stage (cfg0.slots t 13)) fullShare Y) ∗ (∃ Y, ⌜((dats m 0 c).toRRel fgt (Rl m c)).Finds 14 t Y⌝ ∗ owns (c : Thread nD τ) (win0_14.stage (cfg0.slots t 14)) fullShare Y))

/-- and what it returns. -/
def bodyPost (c : Dev nD) (t : Fin cfg0.N) : sProp 𝕄 :=
  iprop((dats m 0 c).Φ t.succ ∗ (dats m 0 c).owesAt () t.succ ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t) ∗ owns (c : Thread nD τ) (win0_6.stage (cfg0.slots t 6)) fullShare ((dats m 0 c).after 6 t) ∗ owns (c : Thread nD τ) (win0_7.stage (cfg0.slots t 7)) fullShare ((dats m 0 c).after 7 t) ∗ owns (c : Thread nD τ) (win0_8.stage (cfg0.slots t 8)) fullShare ((dats m 0 c).after 8 t) ∗ owns (c : Thread nD τ) (win0_9.stage (cfg0.slots t 9)) fullShare ((dats m 0 c).after 9 t) ∗ owns (c : Thread nD τ) (win0_10.stage (cfg0.slots t 10)) fullShare ((dats m 0 c).after 10 t) ∗ (∃ X, ⌜Rl m c 11 t X⌝ ∗ owns (c : Thread nD τ) (win0_11.stage (cfg0.slots t 11)) fullShare X) ∗ (∃ X, ⌜Rl m c 12 t X⌝ ∗ owns (c : Thread nD τ) (win0_12.stage (cfg0.slots t 12)) fullShare X) ∗ (∃ X, ⌜Rl m c 13 t X⌝ ∗ owns (c : Thread nD τ) (win0_13.stage (cfg0.slots t 13)) fullShare X) ∗ (∃ X, ⌜Rl m c 14 t X⌝ ∗ owns (c : Thread nD τ) (win0_14.stage (cfg0.slots t 14)) fullShare X))

set_option maxHeartbeats 16000000 in
/-- The body at any point: the query block's number says which run applies; the inputs' buffers hold their blocks, the outputs' and the
    scratch anything, and what is written is described by the relation. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl]
  rw [show (dats m 0 c).after 0 t = iblk m c 0 t from rfl]
  rw [show (dats m 0 c).after 1 t = iblk m c 1 t from rfl]
  rw [show (dats m 0 c).after 2 t = iblk m c 2 t from rfl]
  rw [show (dats m 0 c).after 3 t = iblk m c 3 t from rfl]
  rw [show (dats m 0 c).after 4 t = iblk m c 4 t from rfl]
  rw [show (dats m 0 c).after 5 t = iblk m c 5 t from rfl]
  rw [show (dats m 0 c).after 6 t = iblk m c 6 t from rfl]
  rw [show (dats m 0 c).after 7 t = iblk m c 7 t from rfl]
  rw [show (dats m 0 c).after 8 t = iblk m c 8 t from rfl]
  rw [show (dats m 0 c).after 9 t = iblk m c 9 t from rfl]
  rw [show (dats m 0 c).after 10 t = iblk m c 10 t from rfl]
  rw [Phi_eq]
  unfold owns
  iintro ⟨⟨⟨⟨%X18, %f18, %h18, H18⟩, ⟨%X19, %f19, %h19, H19⟩, ⟨%X20, %f20, %h20, H20⟩, ⟨%X21, %f21, %h21, H21⟩, ⟨%X22, %f22, %h22, H22⟩, ⟨%X23, %f23, %h23, H23⟩, ⟨%X24, %f24, %h24, H24⟩⟩, Hg⟩, Ho, ⟨%d3, %f3, %h3, H3⟩, ⟨%d4, %f4, %h4, H4⟩, ⟨%d5, %f5, %h5, H5⟩, ⟨%d6, %f6, %h6, H6⟩, ⟨%d7, %f7, %h7, H7⟩, ⟨%d8, %f8, %h8, H8⟩, ⟨%d9, %f9, %h9, H9⟩, ⟨%d10, %f10, %h10, H10⟩, ⟨%d11, %f11, %h11, H11⟩, ⟨%d12, %f12, %h12, H12⟩, ⟨%d13, %f13, %h13, H13⟩, ⟨%Y14, %hY14, %f14, %h14, H14⟩, ⟨%Y15, %hY15, %f15, %h15, H15⟩, ⟨%Y16, %hY16, %f16, %h16, H16⟩, ⟨%Y17, %hY17, %f17, %h17, H17⟩⟩
  obtain rfl := (hstage0_0 ((cfg0.slots t 0).cast nbuf0_0)).eq_unread h3
  obtain rfl := (hstage0_1 ((cfg0.slots t 1).cast nbuf0_1)).eq_unread h4
  obtain rfl := (hstage0_2 ((cfg0.slots t 2).cast nbuf0_2)).eq_unread h5
  obtain rfl := (hstage0_3 ((cfg0.slots t 3).cast nbuf0_3)).eq_unread h6
  obtain rfl := (hstage0_4 ((cfg0.slots t 4).cast nbuf0_4)).eq_unread h7
  obtain rfl := (hstage0_5 ((cfg0.slots t 5).cast nbuf0_5)).eq_unread h8
  obtain rfl := (hstage0_6 ((cfg0.slots t 6).cast nbuf0_6)).eq_unread h9
  obtain rfl := (hstage0_7 ((cfg0.slots t 7).cast nbuf0_7)).eq_unread h10
  obtain rfl := (hstage0_8 ((cfg0.slots t 8).cast nbuf0_8)).eq_unread h11
  obtain rfl := (hstage0_9 ((cfg0.slots t 9).cast nbuf0_9)).eq_unread h12
  obtain rfl := (hstage0_10 ((cfg0.slots t 10).cast nbuf0_10)).eq_unread h13
  by_cases h0 : t.val % 8 = 0
  · have hc0 := (first_iff t).mpr h0
    have hc1 := (even_iff t).mpr (by omega)
    have hc2 : ¬k0_cond3 (grid0.coords t) = 1#1 := fun h => by have := (odd_iff t).mp h; omega
    have ht1 := trips1 t h0
    have ht2 := trips2 t h0
    iapply ((runA (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) hc0 hc1 hc2 ht1 ht2 ((hstage0_0 ((cfg0.slots t 0).cast nbuf0_0)).unread (iblk m c 0 t)) ((hstage0_1 ((cfg0.slots t 1).cast nbuf0_1)).unread (iblk m c 1 t)) ((hstage0_2 ((cfg0.slots t 2).cast nbuf0_2)).unread (iblk m c 2 t)) ((hstage0_3 ((cfg0.slots t 3).cast nbuf0_3)).unread (iblk m c 3 t)) ((hstage0_4 ((cfg0.slots t 4).cast nbuf0_4)).unread (iblk m c 4 t)) ((hstage0_5 ((cfg0.slots t 5).cast nbuf0_5)).unread (iblk m c 5 t)) ((hstage0_6 ((cfg0.slots t 6).cast nbuf0_6)).unread (iblk m c 6 t)) ((hstage0_7 ((cfg0.slots t 7).cast nbuf0_7)).unread (iblk m c 7 t)) ((hstage0_8 ((cfg0.slots t 8).cast nbuf0_8)).unread (iblk m c 8 t)) ((hstage0_9 ((cfg0.slots t 9).cast nbuf0_9)).unread (iblk m c 9 t)) ((hstage0_10 ((cfg0.slots t 10).cast nbuf0_10)).unread (iblk m c 10 t)) f14 f15 f16 f17 f18 f19 f20 f21 f22 f23 f24).2.2.2.2.2.2.2.2.2.2).2 Set.univ _
    isplitl [H3 H4 H5 H6 H7 H8 H9 H10 H11 H12 H13 H14 H15 H16 H17 H18 H19 H20 H21 H22 H23 H24]
    · isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      iexact H24
    iintro ⟨H3, H4, H5, H6, H7, H8, H9, H10, H11, H12, H13, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩⟩
    isplitl [H18 H19 H20 H21 H22 H23 H24 Hg]
    · isplitl [H18 H19 H20 H21 H22 H23 H24]
      · isplitl [H18]
        · iexists _; iexists _; isplitr; swap; · iexact H18
          ipureintro; rfl
        isplitl [H19]
        · iexists _; iexists _; isplitr; swap; · iexact H19
          ipureintro; rfl
        isplitl [H20]
        · iexists _; iexists _; isplitr; swap; · iexact H20
          ipureintro; rfl
        isplitl [H21]
        · iexists _; iexists _; isplitr; swap; · iexact H21
          ipureintro; rfl
        isplitl [H22]
        · iexists _; iexists _; isplitr; swap; · iexact H22
          ipureintro; rfl
        isplitl [H23]
        · iexists _; iexists _; isplitr; swap; · iexact H23
          ipureintro; rfl
        iexists _; iexists _; isplitr; swap; · iexact H24
        ipureintro; rfl
      iexact Hg
    isplitl [Ho]; · iexact Ho
    isplitl [H3]
    · iexists _; isplitr; swap; · iexact H3
      ipureintro; exact h3
    isplitl [H4]
    · iexists _; isplitr; swap; · iexact H4
      ipureintro; exact h4
    isplitl [H5]
    · iexists _; isplitr; swap; · iexact H5
      ipureintro; exact h5
    isplitl [H6]
    · iexists _; isplitr; swap; · iexact H6
      ipureintro; exact h6
    isplitl [H7]
    · iexists _; isplitr; swap; · iexact H7
      ipureintro; exact h7
    isplitl [H8]
    · iexists _; isplitr; swap; · iexact H8
      ipureintro; exact h8
    isplitl [H9]
    · iexists _; isplitr; swap; · iexact H9
      ipureintro; exact h9
    isplitl [H10]
    · iexists _; isplitr; swap; · iexact H10
      ipureintro; exact h10
    isplitl [H11]
    · iexists _; isplitr; swap; · iexact H11
      ipureintro; exact h11
    isplitl [H12]
    · iexists _; isplitr; swap; · iexact H12
      ipureintro; exact h12
    isplitl [H13]
    · iexists _; isplitr; swap; · iexact H13
      ipureintro; exact h13
    isplitl [H14]
    · iexists _; isplitr; swap
      · iexists _; isplitr; swap; · iexact H14
        ipureintro; rfl
      ipureintro; exact fun _ _ _ _ _ => ⟨f14, f15, f16, f17, f18, f19, f20, f21, f22, f23, f24, e14, rfl⟩
    isplitl [H15]
    · iexists _; isplitr; swap
      · iexists _; isplitr; swap; · iexact H15
        ipureintro; rfl
      ipureintro; trivial
    isplitl [H16]
    · iexists _; isplitr; swap
      · iexists _; isplitr; swap; · iexact H16
        ipureintro; rfl
      ipureintro; trivial
    · iexists _; isplitr; swap
      · iexists _; isplitr; swap; · iexact H17
        ipureintro; rfl
      ipureintro; trivial
  · by_cases h1 : t.val % 8 % 2 = 0
    · iapply ((runB (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (fun h => h0 ((first_iff t).mp h)) ((even_iff t).mpr h1) (fun h => by have := (odd_iff t).mp h; omega) ((hstage0_0 ((cfg0.slots t 0).cast nbuf0_0)).unread (iblk m c 0 t)) ((hstage0_1 ((cfg0.slots t 1).cast nbuf0_1)).unread (iblk m c 1 t)) ((hstage0_2 ((cfg0.slots t 2).cast nbuf0_2)).unread (iblk m c 2 t)) ((hstage0_3 ((cfg0.slots t 3).cast nbuf0_3)).unread (iblk m c 3 t)) ((hstage0_4 ((cfg0.slots t 4).cast nbuf0_4)).unread (iblk m c 4 t)) ((hstage0_5 ((cfg0.slots t 5).cast nbuf0_5)).unread (iblk m c 5 t)) ((hstage0_6 ((cfg0.slots t 6).cast nbuf0_6)).unread (iblk m c 6 t)) ((hstage0_7 ((cfg0.slots t 7).cast nbuf0_7)).unread (iblk m c 7 t)) ((hstage0_8 ((cfg0.slots t 8).cast nbuf0_8)).unread (iblk m c 8 t)) ((hstage0_9 ((cfg0.slots t 9).cast nbuf0_9)).unread (iblk m c 9 t)) ((hstage0_10 ((cfg0.slots t 10).cast nbuf0_10)).unread (iblk m c 10 t)) f14 f15 f16 f17 f18 f19 f20 f21 f22 f23 f24).2.2).2 Set.univ _
      isplitl [H3 H4 H5 H6 H7 H8 H9 H10 H11 H12 H13 H14 H15 H16 H17 H18 H19 H20 H21 H22 H23 H24]
      · isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [H22]; · iexact H22
        isplitl [H23]; · iexact H23
        iexact H24
      iintro ⟨H3, H4, H5, H6, H7, H8, H9, H10, H11, H12, H13, ⟨%e14, H14⟩, ⟨%e15, H15⟩, ⟨%e16, H16⟩, ⟨%e17, H17⟩, H18, H19, H20, ⟨%e21, H21⟩, ⟨%e22, H22⟩, ⟨%e23, H23⟩, ⟨%e24, H24⟩⟩
      isplitl [H18 H19 H20 H21 H22 H23 H24 Hg]
      · isplitl [H18 H19 H20 H21 H22 H23 H24]
        · isplitl [H18]
          · iexists _; iexists _; isplitr; swap; · iexact H18
            ipureintro; rfl
          isplitl [H19]
          · iexists _; iexists _; isplitr; swap; · iexact H19
            ipureintro; rfl
          isplitl [H20]
          · iexists _; iexists _; isplitr; swap; · iexact H20
            ipureintro; rfl
          isplitl [H21]
          · iexists _; iexists _; isplitr; swap; · iexact H21
            ipureintro; rfl
          isplitl [H22]
          · iexists _; iexists _; isplitr; swap; · iexact H22
            ipureintro; rfl
          isplitl [H23]
          · iexists _; iexists _; isplitr; swap; · iexact H23
            ipureintro; rfl
          iexists _; iexists _; isplitr; swap; · iexact H24
          ipureintro; rfl
        iexact Hg
      isplitl [Ho]; · iexact Ho
      isplitl [H3]
      · iexists _; isplitr; swap; · iexact H3
        ipureintro; exact h3
      isplitl [H4]
      · iexists _; isplitr; swap; · iexact H4
        ipureintro; exact h4
      isplitl [H5]
      · iexists _; isplitr; swap; · iexact H5
        ipureintro; exact h5
      isplitl [H6]
      · iexists _; isplitr; swap; · iexact H6
        ipureintro; exact h6
      isplitl [H7]
      · iexists _; isplitr; swap; · iexact H7
        ipureintro; exact h7
      isplitl [H8]
      · iexists _; isplitr; swap; · iexact H8
        ipureintro; exact h8
      isplitl [H9]
      · iexists _; isplitr; swap; · iexact H9
        ipureintro; exact h9
      isplitl [H10]
      · iexists _; isplitr; swap; · iexact H10
        ipureintro; exact h10
      isplitl [H11]
      · iexists _; isplitr; swap; · iexact H11
        ipureintro; exact h11
      isplitl [H12]
      · iexists _; isplitr; swap; · iexact H12
        ipureintro; exact h12
      isplitl [H13]
      · iexists _; isplitr; swap; · iexact H13
        ipureintro; exact h13
      isplitl [H14]
      · iexists _; isplitr; swap
        · iexists _; isplitr; swap; · iexact H14
          ipureintro; rfl
        ipureintro; exact fun hc0 => absurd ((first_iff t).mp hc0) h0
      isplitl [H15]
      · iexists _; isplitr; swap
        · iexists _; isplitr; swap; · iexact H15
          ipureintro; rfl
        ipureintro; trivial
      isplitl [H16]
      · iexists _; isplitr; swap
        · iexists _; isplitr; swap; · iexact H16
          ipureintro; rfl
        ipureintro; trivial
      · iexists _; isplitr; swap
        · iexists _; isplitr; swap; · iexact H17
          ipureintro; rfl
        ipureintro; trivial
    · iapply ((runC (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (fun h => h0 ((first_iff t).mp h)) (fun h => h1 ((even_iff t).mp h)) ((odd_iff t).mpr (by omega)) ((hstage0_0 ((cfg0.slots t 0).cast nbuf0_0)).unread (iblk m c 0 t)) ((hstage0_1 ((cfg0.slots t 1).cast nbuf0_1)).unread (iblk m c 1 t)) ((hstage0_2 ((cfg0.slots t 2).cast nbuf0_2)).unread (iblk m c 2 t)) ((hstage0_3 ((cfg0.slots t 3).cast nbuf0_3)).unread (iblk m c 3 t)) ((hstage0_4 ((cfg0.slots t 4).cast nbuf0_4)).unread (iblk m c 4 t)) ((hstage0_5 ((cfg0.slots t 5).cast nbuf0_5)).unread (iblk m c 5 t)) ((hstage0_6 ((cfg0.slots t 6).cast nbuf0_6)).unread (iblk m c 6 t)) ((hstage0_7 ((cfg0.slots t 7).cast nbuf0_7)).unread (iblk m c 7 t)) ((hstage0_8 ((cfg0.slots t 8).cast nbuf0_8)).unread (iblk m c 8 t)) ((hstage0_9 ((cfg0.slots t 9).cast nbuf0_9)).unread (iblk m c 9 t)) ((hstage0_10 ((cfg0.slots t 10).cast nbuf0_10)).unread (iblk m c 10 t)) f14 f15 f16 f17 f18 f19 f20 f21 f22 f23 f24).2.2).2 Set.univ _
      isplitl [H3 H4 H5 H6 H7 H8 H9 H10 H11 H12 H13 H14 H15 H16 H17 H18 H19 H20 H21 H22 H23 H24]
      · isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [H22]; · iexact H22
        isplitl [H23]; · iexact H23
        iexact H24
      iintro ⟨H3, H4, H5, H6, H7, H8, H9, H10, H11, H12, H13, ⟨%e14, H14⟩, ⟨%e15, H15⟩, ⟨%e16, H16⟩, ⟨%e17, H17⟩, H18, H19, H20, ⟨%e21, H21⟩, ⟨%e22, H22⟩, ⟨%e23, H23⟩, ⟨%e24, H24⟩⟩
      isplitl [H18 H19 H20 H21 H22 H23 H24 Hg]
      · isplitl [H18 H19 H20 H21 H22 H23 H24]
        · isplitl [H18]
          · iexists _; iexists _; isplitr; swap; · iexact H18
            ipureintro; rfl
          isplitl [H19]
          · iexists _; iexists _; isplitr; swap; · iexact H19
            ipureintro; rfl
          isplitl [H20]
          · iexists _; iexists _; isplitr; swap; · iexact H20
            ipureintro; rfl
          isplitl [H21]
          · iexists _; iexists _; isplitr; swap; · iexact H21
            ipureintro; rfl
          isplitl [H22]
          · iexists _; iexists _; isplitr; swap; · iexact H22
            ipureintro; rfl
          isplitl [H23]
          · iexists _; iexists _; isplitr; swap; · iexact H23
            ipureintro; rfl
          iexists _; iexists _; isplitr; swap; · iexact H24
          ipureintro; rfl
        iexact Hg
      isplitl [Ho]; · iexact Ho
      isplitl [H3]
      · iexists _; isplitr; swap; · iexact H3
        ipureintro; exact h3
      isplitl [H4]
      · iexists _; isplitr; swap; · iexact H4
        ipureintro; exact h4
      isplitl [H5]
      · iexists _; isplitr; swap; · iexact H5
        ipureintro; exact h5
      isplitl [H6]
      · iexists _; isplitr; swap; · iexact H6
        ipureintro; exact h6
      isplitl [H7]
      · iexists _; isplitr; swap; · iexact H7
        ipureintro; exact h7
      isplitl [H8]
      · iexists _; isplitr; swap; · iexact H8
        ipureintro; exact h8
      isplitl [H9]
      · iexists _; isplitr; swap; · iexact H9
        ipureintro; exact h9
      isplitl [H10]
      · iexists _; isplitr; swap; · iexact H10
        ipureintro; exact h10
      isplitl [H11]
      · iexists _; isplitr; swap; · iexact H11
        ipureintro; exact h11
      isplitl [H12]
      · iexists _; isplitr; swap; · iexact H12
        ipureintro; exact h12
      isplitl [H13]
      · iexists _; isplitr; swap; · iexact H13
        ipureintro; exact h13
      isplitl [H14]
      · iexists _; isplitr; swap
        · iexists _; isplitr; swap; · iexact H14
          ipureintro; rfl
        ipureintro; exact fun hc0 => absurd ((first_iff t).mp hc0) h0
      isplitl [H15]
      · iexists _; isplitr; swap
        · iexists _; isplitr; swap; · iexact H15
          ipureintro; rfl
        ipureintro; trivial
      isplitl [H16]
      · iexists _; isplitr; swap
        · iexists _; isplitr; swap; · iexact H16
          ipureintro; rfl
        ipureintro; trivial
      · iexists _; isplitr; swap
        · iexists _; isplitr; swap; · iexact H17
          ipureintro; rfl
        ipureintro; trivial

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation with the outputs described by the relation: the body's triple restated. -/
theorem body_obligation (c : Dev nD) :
    Pipeline.BodyObligationRel (dats (F := F) m 0 c) (defs₀ (F := F)) Variants.none () Set.univ fgt (Rl m c) := fun t => by
  rw [bigSep_W0, bigSep_W0, defs₀_row]
  exact triple_restated (sound_body m c t) rfl .rfl fun _ => .rfl

/-! ## The run and the frame -/

/-- The proof data read relationally, of each core. -/
abbrev rdat (c : Dev nD) : Pipeline.RDat τ (Elt F) Unit ℕ (UR sig nD τ) ℕ cfg0 c := (dats m 0 c).toRRel fgt (Rl m c)

set_option backward.isDefEq.respectTransparency.types false in
/-- The launch: every array ends at contents that the relational data allows, every other buffer as the region found it, and every
    semaphore counter is zero at the end. -/
theorem run_main_quiescent : θ_run defs (onTc (τ := τ) (main (F := F))) (s₀ m ρ)
    (fun r => Pipeline.RDat.FramePost cfg0 (rdat m) (V m) r ∧ r.2.sem = fun _ => 0) :=
  Pipeline.RDat.θ_run_frame_track_shared (Q' := _) cfgs (0 : Fin 1) launch₀0 defs₀ Variants.none (rdat m) m ρ main
    (hbody := fun c => (body_obligation m c).toRRel) (hq := fun _ _ _ => rfl)
    (howed := fun _ _ => rfl) (V := V m) (hmain := hmain m Variants.none) (hA := A_eq m)
    (hin := fun c => .rfl) (hout := fun c => .rfl)

/-- The argument arrays end unchanged and every semaphore counter ends at zero, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9))
      ∧ r.2.sem = fun _ => 0) :=
  (θ_run defs _ _).mono (fun r h => ⟨fun c => ⟨((h.1 c).2 main_arg0 (Pipeline.mem_restRefs_of main_arg0 (by decide) (by decide))).trans (V_main_arg0 m c), ((h.1 c).2 main_arg1 (Pipeline.mem_restRefs_of main_arg1 (by decide) (by decide))).trans (V_main_arg1 m c), ((h.1 c).2 main_arg2 (Pipeline.mem_restRefs_of main_arg2 (by decide) (by decide))).trans (V_main_arg2 m c), ((h.1 c).2 main_arg3 (Pipeline.mem_restRefs_of main_arg3 (by decide) (by decide))).trans (V_main_arg3 m c), ((h.1 c).2 main_arg4 (Pipeline.mem_restRefs_of main_arg4 (by decide) (by decide))).trans (V_main_arg4 m c), ((h.1 c).2 main_arg5 (Pipeline.mem_restRefs_of main_arg5 (by decide) (by decide))).trans (V_main_arg5 m c), ((h.1 c).2 main_arg6 (Pipeline.mem_restRefs_of main_arg6 (by decide) (by decide))).trans (V_main_arg6 m c),
      (Pipeline.RDat.FramePost.arr_in h.1 c 8 rfl).trans ((A_eq m c 8).trans (V_main_arg7 m c)), (Pipeline.RDat.FramePost.arr_in h.1 c 9 rfl).trans ((A_eq m c 9).trans (V_main_arg8 m c)), (Pipeline.RDat.FramePost.arr_in h.1 c 10 rfl).trans ((A_eq m c 10).trans (V_main_arg9 m c))⟩, h.2⟩)
    (run_main_quiescent m ρ)

end Cert.FoxIdeal.Body

end
-- ==== Proof.FfnMath.lean ====
/-
  One row of a SwiGLU feed-forward over the reals: RMS norm, the two products with the gate and up weights, the gated
  activation, and the product with the down weights, whole and cut into equal tiles of the hidden width.
-/
module

public import Idealize.ShloMosaic.Lib.Pointwise

@[expose] public section

noncomputable section

open Idealize.ShloMosaic
open scoped BigOperators

namespace Cert.FfnMath

/-- A row after RMS norm: each entry times the reciprocal root of the mean square (plus the norm's epsilon), times the gain. -/
def normed (x g : Fin 2048 → EReal) (e : Fin 2048) : EReal :=
  x e * Ideal.rsqrt (Ideal.div (∑ k : Fin 2048, x k * x k) (Ideal.ofBits .f32 0x45000000#32)
    + Ideal.ofBits .f32 0x358637BD#32) * g e

/-- The gated activation of one hidden unit with gate column `a` and up column `b`: silu of the gate product times the up
    product. -/
def act (xn a b : Fin 2048 → EReal) : EReal :=
  (∑ e : Fin 2048, xn e * a e) * Ideal.logistic (∑ e : Fin 2048, xn e * a e) * ∑ e : Fin 2048, xn e * b e

/-- What tile `j` of `T` hidden units adds to output column `wd` of the row. -/
def tile (T : ℕ) (xn : Fin 2048 → EReal) (wg wu : Fin 2048 → Fin 5632 → EReal) (wd : Fin 5632 → EReal) (j : ℕ) : EReal :=
  ∑ k : Fin T, if h : j * T + k.val < 5632 then
    act xn (fun e => wg e ⟨j * T + k.val, h⟩) (fun e => wu e ⟨j * T + k.val, h⟩) * wd ⟨j * T + k.val, h⟩ else 0

/-- The whole product with the down weights' column. -/
def whole (xn : Fin 2048 → EReal) (wg wu : Fin 2048 → Fin 5632 → EReal) (wd : Fin 5632 → EReal) : EReal :=
  ∑ f : Fin 5632, act xn (fun e => wg e f) (fun e => wu e f) * wd f

/-- Adding up 11 tiles of 512 hidden units is the whole product. -/
theorem sum_tiles_512 (xn : Fin 2048 → EReal) (wg wu : Fin 2048 → Fin 5632 → EReal) (wd : Fin 5632 → EReal) :
    ∑ j ∈ Finset.range 11, tile 512 xn wg wu wd j = whole xn wg wu wd := by
  rw [Finset.sum_range, whole, Fin.sum_univ_tiles 11 512 rfl]
  refine Finset.sum_congr rfl fun j _ => Finset.sum_congr rfl fun k _ => ?_
  have h : j.val * 512 + k.val < 5632 := by omega
  rw [dif_pos h]

/-- Adding up 22 tiles of 256 hidden units is the whole product. -/
theorem sum_tiles_256 (xn : Fin 2048 → EReal) (wg wu : Fin 2048 → Fin 5632 → EReal) (wd : Fin 5632 → EReal) :
    ∑ j ∈ Finset.range 22, tile 256 xn wg wu wd j = whole xn wg wu wd := by
  rw [Finset.sum_range, whole, Fin.sum_univ_tiles 22 256 rfl]
  refine Finset.sum_congr rfl fun j _ => Finset.sum_congr rfl fun k _ => ?_
  have h : j.val * 256 + k.val < 5632 := by omega
  rw [dif_pos h]

end Cert.FfnMath

end
-- ==== Proof.Ffn1Ideal.Body.lean ====
module

public import proofs.«01_k».proof.Proof.Gen.Ffn1Ideal.Skeleton
public import proofs.«01_k».proof.Proof.Gen.Ffn1Ideal.Frame
public import Idealize.ShloMosaic.Lib.Pipeline.ValueKit
public import Idealize.ShloMosaic.Lib.Pipeline.ReadBack

/-! # The body of the first feed-forward block, case by case

At a grid point the body does one of three things for its tile of 256 hidden units: at the first tile of a block
of rows it normalises the rows, keeps them in scratch and stores the tile's contribution; at a middle tile it adds
the tile's contribution to what the output holds; at the last tile it adds, halves and adds the residual. The rows
of the meta tokens are treated in the same way, but only by the first block of rows. Each theorem below says what
the two outputs and the scratch hold afterwards, in terms of what all the memrefs held before. -/

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Ffn1Ideal Cert.Ffn1Ideal.Gen

namespace Cert.Ffn1Ideal.Body

variable {F : FTy → Type} [FloatOps F]

local notation "𝕄" => MT nD τ sig Unit (Elt F) ℕ (UR sig nD τ) ℕ

/-- The scratch after the first tile: the normalised rows of the block above those of the meta tokens. -/
def rows (x0 : Vec F S1024x2048 .f32) (x1 : Vec F S16x2048 .f32) (x2 : Vec F S1x2048 .f32) : Vec F S1040x2048 .bf16 :=
  k0_pay11 x0 x2 x1 x2

set_option maxHeartbeats 4000000 in
/-- The first tile of the first block of rows. -/
theorem run_first_meta (c : Dev nD) (i : grid0.Coords) (arg2 : Memref sig .tc .vmem S1024x2048 .f32) (harg2 : arg2.IsWhole) (arg3 : Memref sig .tc .vmem S16x2048 .f32) (harg3 : arg3.IsWhole) (arg4 : Memref sig .tc .vmem S1x2048 .f32) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S1x256x2048 .f32) (harg7 : arg7.IsWhole) (arg8 : Memref sig .tc .vmem S1024x2048 .f32) (harg8 : arg8.IsWhole) (arg9 : Memref sig .tc .vmem S16x2048 .f32) (harg9 : arg9.IsWhole) (arg10 : Memref sig .tc .vmem S1040x2048 .bf16) (harg10 : arg10.IsWhole)
    (hc1 : k0_cond1 i = 1#1) (hc2 : k0_cond2 i = 1#1) (hc3 : ¬k0_cond3 i = 1#1) (hc5 : ¬k0_cond5 i = 1#1)
    (x0 : Vec F S1024x2048 .f32) (x1 : Vec F S16x2048 .f32) (x2 : Vec F S1x2048 .f32) (x3 : Vec F S1x2048x256 .f32) (x4 : Vec F S1x2048x256 .f32) (x5 : Vec F S1x256x2048 .f32) (o6 : Vec F S1024x2048 .f32) (o7 : Vec F S16x2048 .f32) (s : Vec F S1040x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare o6 ∗ owns (c : Thread nD τ) arg9 fullShare o7 ∗ owns (c : Thread nD τ) arg10 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay2 (k0_pay10 x0 x2 x1 x2) (k0_pay12 x3) x4 x5) ∗ owns (c : Thread nD τ) arg9 fullShare (k0_pay3 (k0_pay10 x0 x2 x1 x2) (k0_pay12 x3) x4 x5) ∗ owns (c : Thread nD τ) arg10 fullShare (rows x0 x1 x2)) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10) K := by
  simp only [cc0_ffn_eq_skeleton]; unfold cc0_ffn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  sl_exec_parts (disch := first | sl_exact hc1 | sl_exact hc2 | sl_exact hc3 | sl_exact hc5)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    rw [View.read_writes_eq_canon _ _ _ (View.cover_of_tiledL _ S1024x2048.size (by sl_kernel_rfl))]
    delta run_first_meta.sl.r run_first_meta.sl.r_1
    simp (disch := decide) only [rows, View.canon_cons_unit_lit', View.ld_unit_lit', View.readAt_eq_ld, Memref.IsWhole.read_unread, View.readCov_unit_lit', View.readCov_cons_unit_lit']
  isplitl [H7]
  · iexists _; isplitr; swap; · iexact H7
    ipureintro
    rw [View.read_writes_eq_canon _ _ _ (View.cover_of_tiledL _ S16x2048.size (by sl_kernel_rfl))]
    delta run_first_meta.sl.r run_first_meta.sl.r_1
    simp (disch := decide) only [rows, View.canon_cons_unit_lit', View.ld_unit_lit', View.readAt_eq_ld, Memref.IsWhole.read_unread, View.readCov_unit_lit', View.readCov_cons_unit_lit']
  · iexists _; isplitr; swap; · iexact H8
    ipureintro
    rw [View.read_writes_eq_canon _ _ _ (View.cover_of_tiledL _ S1040x2048.size (by sl_kernel_rfl))]
    simp (disch := decide) only [rows, View.canon_cons_unit_lit', View.ld_unit_lit', View.readAt_eq_ld, Memref.IsWhole.read_unread, View.readCov_unit_lit', View.readCov_cons_unit_lit']

set_option maxHeartbeats 4000000 in
/-- A middle tile of the first block of rows. -/
theorem run_mid_meta (c : Dev nD) (i : grid0.Coords) (arg2 : Memref sig .tc .vmem S1024x2048 .f32) (harg2 : arg2.IsWhole) (arg3 : Memref sig .tc .vmem S16x2048 .f32) (harg3 : arg3.IsWhole) (arg4 : Memref sig .tc .vmem S1x2048 .f32) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S1x256x2048 .f32) (harg7 : arg7.IsWhole) (arg8 : Memref sig .tc .vmem S1024x2048 .f32) (harg8 : arg8.IsWhole) (arg9 : Memref sig .tc .vmem S16x2048 .f32) (harg9 : arg9.IsWhole) (arg10 : Memref sig .tc .vmem S1040x2048 .bf16) (harg10 : arg10.IsWhole)
    (hc1 : ¬k0_cond1 i = 1#1) (hc3 : k0_cond3 i = 1#1) (hc4 : k0_cond4 i = 1#1) (hc5 : ¬k0_cond5 i = 1#1)
    (x0 : Vec F S1024x2048 .f32) (x1 : Vec F S16x2048 .f32) (x2 : Vec F S1x2048 .f32) (x3 : Vec F S1x2048x256 .f32) (x4 : Vec F S1x2048x256 .f32) (x5 : Vec F S1x256x2048 .f32) (o6 : Vec F S1024x2048 .f32) (o7 : Vec F S16x2048 .f32) (s : Vec F S1040x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare o6 ∗ owns (c : Thread nD τ) arg9 fullShare o7 ∗ owns (c : Thread nD τ) arg10 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay5 s x3 x4 x5 o6) ∗ owns (c : Thread nD τ) arg9 fullShare (k0_pay6 s x3 x4 x5 o7) ∗ owns (c : Thread nD τ) arg10 fullShare s) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10) K := by
  simp only [cc0_ffn_eq_skeleton]; unfold cc0_ffn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  sl_exec_parts (disch := first | sl_exact hc1 | sl_exact hc3 | sl_exact hc4 | sl_exact hc5)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    rw [View.read_writes_eq_canon _ _ _ (View.cover_of_tiledL _ S1024x2048.size (by sl_kernel_rfl))]
    simp (disch := decide) only [rows, View.canon_cons_unit_lit', View.ld_unit_lit', View.readAt_eq_ld, Memref.IsWhole.read_unread, View.readCov_unit_lit', View.readCov_cons_unit_lit']
  isplitl [H7]
  · iexists _; isplitr; swap; · iexact H7
    ipureintro
    rw [View.read_writes_eq_canon _ _ _ (View.cover_of_tiledL _ S16x2048.size (by sl_kernel_rfl))]
    simp (disch := decide) only [rows, View.canon_cons_unit_lit', View.ld_unit_lit', View.readAt_eq_ld, Memref.IsWhole.read_unread, View.readCov_unit_lit', View.readCov_cons_unit_lit']
  · iexists _; isplitr; · ipureintro; exact harg10.read_unread _
    iexact H8

set_option maxHeartbeats 4000000 in
/-- The last tile of the first block of rows. -/
theorem run_last_meta (c : Dev nD) (i : grid0.Coords) (arg2 : Memref sig .tc .vmem S1024x2048 .f32) (harg2 : arg2.IsWhole) (arg3 : Memref sig .tc .vmem S16x2048 .f32) (harg3 : arg3.IsWhole) (arg4 : Memref sig .tc .vmem S1x2048 .f32) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S1x256x2048 .f32) (harg7 : arg7.IsWhole) (arg8 : Memref sig .tc .vmem S1024x2048 .f32) (harg8 : arg8.IsWhole) (arg9 : Memref sig .tc .vmem S16x2048 .f32) (harg9 : arg9.IsWhole) (arg10 : Memref sig .tc .vmem S1040x2048 .bf16) (harg10 : arg10.IsWhole)
    (hc1 : ¬k0_cond1 i = 1#1) (hc3 : ¬k0_cond3 i = 1#1) (hc5 : k0_cond5 i = 1#1) (hc6 : k0_cond6 i = 1#1)
    (x0 : Vec F S1024x2048 .f32) (x1 : Vec F S16x2048 .f32) (x2 : Vec F S1x2048 .f32) (x3 : Vec F S1x2048x256 .f32) (x4 : Vec F S1x2048x256 .f32) (x5 : Vec F S1x256x2048 .f32) (o6 : Vec F S1024x2048 .f32) (o7 : Vec F S16x2048 .f32) (s : Vec F S1040x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare o6 ∗ owns (c : Thread nD τ) arg9 fullShare o7 ∗ owns (c : Thread nD τ) arg10 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay8 s x3 x4 x5 o6 x0) ∗ owns (c : Thread nD τ) arg9 fullShare (k0_pay9 s x3 x4 x5 o7 x1) ∗ owns (c : Thread nD τ) arg10 fullShare s) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10) K := by
  simp only [cc0_ffn_eq_skeleton]; unfold cc0_ffn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  sl_exec_parts (disch := first | sl_exact hc1 | sl_exact hc3 | sl_exact hc5 | sl_exact hc6)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    rw [View.read_writes_eq_canon _ _ _ (View.cover_of_tiledL _ S1024x2048.size (by sl_kernel_rfl))]
    simp (disch := decide) only [rows, View.canon_cons_unit_lit', View.ld_unit_lit', View.readAt_eq_ld, Memref.IsWhole.read_unread, View.readCov_unit_lit', View.readCov_cons_unit_lit']
  isplitl [H7]
  · iexists _; isplitr; swap; · iexact H7
    ipureintro
    rw [View.read_writes_eq_canon _ _ _ (View.cover_of_tiledL _ S16x2048.size (by sl_kernel_rfl))]
    simp (disch := decide) only [rows, View.canon_cons_unit_lit', View.ld_unit_lit', View.readAt_eq_ld, Memref.IsWhole.read_unread, View.readCov_unit_lit', View.readCov_cons_unit_lit']
  · iexists _; isplitr; · ipureintro; exact harg10.read_unread _
    iexact H8

set_option maxHeartbeats 4000000 in
/-- The first tile of a later block of rows. -/
theorem run_first (c : Dev nD) (i : grid0.Coords) (arg2 : Memref sig .tc .vmem S1024x2048 .f32) (harg2 : arg2.IsWhole) (arg3 : Memref sig .tc .vmem S16x2048 .f32) (harg3 : arg3.IsWhole) (arg4 : Memref sig .tc .vmem S1x2048 .f32) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S1x256x2048 .f32) (harg7 : arg7.IsWhole) (arg8 : Memref sig .tc .vmem S1024x2048 .f32) (harg8 : arg8.IsWhole) (arg9 : Memref sig .tc .vmem S16x2048 .f32) (harg9 : arg9.IsWhole) (arg10 : Memref sig .tc .vmem S1040x2048 .bf16) (harg10 : arg10.IsWhole)
    (hc1 : k0_cond1 i = 1#1) (hc2 : ¬k0_cond2 i = 1#1) (hc3 : ¬k0_cond3 i = 1#1) (hc5 : ¬k0_cond5 i = 1#1)
    (x0 : Vec F S1024x2048 .f32) (x1 : Vec F S16x2048 .f32) (x2 : Vec F S1x2048 .f32) (x3 : Vec F S1x2048x256 .f32) (x4 : Vec F S1x2048x256 .f32) (x5 : Vec F S1x256x2048 .f32) (o6 : Vec F S1024x2048 .f32) (o7 : Vec F S16x2048 .f32) (s : Vec F S1040x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare o6 ∗ owns (c : Thread nD τ) arg9 fullShare o7 ∗ owns (c : Thread nD τ) arg10 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay2 (k0_pay10 x0 x2 x1 x2) (k0_pay12 x3) x4 x5) ∗ owns (c : Thread nD τ) arg9 fullShare o7 ∗ owns (c : Thread nD τ) arg10 fullShare (rows x0 x1 x2)) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10) K := by
  simp only [cc0_ffn_eq_skeleton]; unfold cc0_ffn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  sl_exec_parts (disch := first | sl_exact hc1 | sl_exact hc2 | sl_exact hc3 | sl_exact hc5)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    rw [View.read_writes_eq_canon _ _ _ (View.cover_of_tiledL _ S1024x2048.size (by sl_kernel_rfl))]
    delta run_first.sl.r run_first.sl.r_1
    simp (disch := decide) only [rows, View.canon_cons_unit_lit', View.ld_unit_lit', View.readAt_eq_ld, Memref.IsWhole.read_unread, View.readCov_unit_lit', View.readCov_cons_unit_lit']
  isplitl [H7]
  · iexists _; isplitr; · ipureintro; exact harg9.read_unread _
    iexact H7
  · iexists _; isplitr; swap; · iexact H8
    ipureintro
    rw [View.read_writes_eq_canon _ _ _ (View.cover_of_tiledL _ S1040x2048.size (by sl_kernel_rfl))]
    simp (disch := decide) only [rows, View.canon_cons_unit_lit', View.ld_unit_lit', View.readAt_eq_ld, Memref.IsWhole.read_unread, View.readCov_unit_lit', View.readCov_cons_unit_lit']

set_option maxHeartbeats 4000000 in
/-- A middle tile of a later block of rows. -/
theorem run_mid (c : Dev nD) (i : grid0.Coords) (arg2 : Memref sig .tc .vmem S1024x2048 .f32) (harg2 : arg2.IsWhole) (arg3 : Memref sig .tc .vmem S16x2048 .f32) (harg3 : arg3.IsWhole) (arg4 : Memref sig .tc .vmem S1x2048 .f32) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S1x256x2048 .f32) (harg7 : arg7.IsWhole) (arg8 : Memref sig .tc .vmem S1024x2048 .f32) (harg8 : arg8.IsWhole) (arg9 : Memref sig .tc .vmem S16x2048 .f32) (harg9 : arg9.IsWhole) (arg10 : Memref sig .tc .vmem S1040x2048 .bf16) (harg10 : arg10.IsWhole)
    (hc1 : ¬k0_cond1 i = 1#1) (hc3 : k0_cond3 i = 1#1) (hc4 : ¬k0_cond4 i = 1#1) (hc5 : ¬k0_cond5 i = 1#1)
    (x0 : Vec F S1024x2048 .f32) (x1 : Vec F S16x2048 .f32) (x2 : Vec F S1x2048 .f32) (x3 : Vec F S1x2048x256 .f32) (x4 : Vec F S1x2048x256 .f32) (x5 : Vec F S1x256x2048 .f32) (o6 : Vec F S1024x2048 .f32) (o7 : Vec F S16x2048 .f32) (s : Vec F S1040x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare o6 ∗ owns (c : Thread nD τ) arg9 fullShare o7 ∗ owns (c : Thread nD τ) arg10 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay5 s x3 x4 x5 o6) ∗ owns (c : Thread nD τ) arg9 fullShare o7 ∗ owns (c : Thread nD τ) arg10 fullShare s) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10) K := by
  simp only [cc0_ffn_eq_skeleton]; unfold cc0_ffn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  sl_exec_parts (disch := first | sl_exact hc1 | sl_exact hc3 | sl_exact hc4 | sl_exact hc5)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    rw [View.read_writes_eq_canon _ _ _ (View.cover_of_tiledL _ S1024x2048.size (by sl_kernel_rfl))]
    simp (disch := decide) only [rows, View.canon_cons_unit_lit', View.ld_unit_lit', View.readAt_eq_ld, Memref.IsWhole.read_unread, View.readCov_unit_lit', View.readCov_cons_unit_lit']
  isplitl [H7]
  · iexists _; isplitr; · ipureintro; exact harg9.read_unread _
    iexact H7
  · iexists _; isplitr; · ipureintro; exact harg10.read_unread _
    iexact H8

set_option maxHeartbeats 4000000 in
/-- The last tile of a later block of rows. -/
theorem run_last (c : Dev nD) (i : grid0.Coords) (arg2 : Memref sig .tc .vmem S1024x2048 .f32) (harg2 : arg2.IsWhole) (arg3 : Memref sig .tc .vmem S16x2048 .f32) (harg3 : arg3.IsWhole) (arg4 : Memref sig .tc .vmem S1x2048 .f32) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S1x256x2048 .f32) (harg7 : arg7.IsWhole) (arg8 : Memref sig .tc .vmem S1024x2048 .f32) (harg8 : arg8.IsWhole) (arg9 : Memref sig .tc .vmem S16x2048 .f32) (harg9 : arg9.IsWhole) (arg10 : Memref sig .tc .vmem S1040x2048 .bf16) (harg10 : arg10.IsWhole)
    (hc1 : ¬k0_cond1 i = 1#1) (hc3 : ¬k0_cond3 i = 1#1) (hc5 : k0_cond5 i = 1#1) (hc6 : ¬k0_cond6 i = 1#1)
    (x0 : Vec F S1024x2048 .f32) (x1 : Vec F S16x2048 .f32) (x2 : Vec F S1x2048 .f32) (x3 : Vec F S1x2048x256 .f32) (x4 : Vec F S1x2048x256 .f32) (x5 : Vec F S1x256x2048 .f32) (o6 : Vec F S1024x2048 .f32) (o7 : Vec F S16x2048 .f32) (s : Vec F S1040x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare o6 ∗ owns (c : Thread nD τ) arg9 fullShare o7 ∗ owns (c : Thread nD τ) arg10 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay8 s x3 x4 x5 o6 x0) ∗ owns (c : Thread nD τ) arg9 fullShare o7 ∗ owns (c : Thread nD τ) arg10 fullShare s) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10) K := by
  simp only [cc0_ffn_eq_skeleton]; unfold cc0_ffn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  sl_exec_parts (disch := first | sl_exact hc1 | sl_exact hc3 | sl_exact hc5 | sl_exact hc6)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    rw [View.read_writes_eq_canon _ _ _ (View.cover_of_tiledL _ S1024x2048.size (by sl_kernel_rfl))]
    simp (disch := decide) only [rows, View.canon_cons_unit_lit', View.ld_unit_lit', View.readAt_eq_ld, Memref.IsWhole.read_unread, View.readCov_unit_lit', View.readCov_cons_unit_lit']
  isplitl [H7]
  · iexists _; isplitr; · ipureintro; exact harg9.read_unread _
    iexact H7
  · iexists _; isplitr; · ipureintro; exact harg10.read_unread _
    iexact H8

end Cert.Ffn1Ideal.Body

end
-- ==== Proof.Ffn1Ideal.Frame.lean ====
module

public import proofs.«01_k».proof.Proof.Ffn1Ideal.Body
public import Idealize.ShloMosaic.Lib.Pipeline.TableIdle

/-! # The frame of the first feed-forward block

The contents of the two outputs and of the scratch after each grid point, as one recursion over the points
(`state`); the proof that the body, run at any point, takes the recursion one step; and from it the launch: every
run ends, every argument is unchanged, and each output array is what the write-backs of the recursion's values
make it. The second output, the rows of the meta tokens, is stored into only by the first block of rows and is
carried unchanged from there to the last point, where it is written back. -/

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Rounds
open Cert.Ffn1Ideal Cert.Ffn1Ideal.Gen

namespace Cert.Ffn1Ideal.Body

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tests of the body, by the point's number -/

/-- Test 1 of the body holds at exactly these points. -/
theorem test1 : ∀ t : Fin cfg0.N, k0_cond1 (grid0.coords t) = 1#1 ↔ t.val % 22 = 0 :=
  (by decide +kernel : ∀ t : Fin grid0.N, k0_cond1 (grid0.coords t) = 1#1 ↔ t.val % 22 = 0)

/-- Test 2 of the body holds at exactly these points. -/
theorem test2 : ∀ t : Fin cfg0.N, k0_cond2 (grid0.coords t) = 1#1 ↔ t.val < 22 :=
  (by decide +kernel : ∀ t : Fin grid0.N, k0_cond2 (grid0.coords t) = 1#1 ↔ t.val < 22)

/-- Test 3 of the body holds at exactly these points. -/
theorem test3 : ∀ t : Fin cfg0.N, k0_cond3 (grid0.coords t) = 1#1 ↔ (1 ≤ t.val % 22 ∧ t.val % 22 ≤ 20) :=
  (by decide +kernel : ∀ t : Fin grid0.N, k0_cond3 (grid0.coords t) = 1#1 ↔ (1 ≤ t.val % 22 ∧ t.val % 22 ≤ 20))

/-- Test 4 of the body holds at exactly these points. -/
theorem test4 : ∀ t : Fin cfg0.N, k0_cond4 (grid0.coords t) = 1#1 ↔ t.val < 22 :=
  (by decide +kernel : ∀ t : Fin grid0.N, k0_cond4 (grid0.coords t) = 1#1 ↔ t.val < 22)

/-- Test 5 of the body holds at exactly these points. -/
theorem test5 : ∀ t : Fin cfg0.N, k0_cond5 (grid0.coords t) = 1#1 ↔ t.val % 22 = 21 :=
  (by decide +kernel : ∀ t : Fin grid0.N, k0_cond5 (grid0.coords t) = 1#1 ↔ t.val % 22 = 21)

/-- Test 6 of the body holds at exactly these points. -/
theorem test6 : ∀ t : Fin cfg0.N, k0_cond6 (grid0.coords t) = 1#1 ↔ t.val < 22 :=
  (by decide +kernel : ∀ t : Fin grid0.N, k0_cond6 (grid0.coords t) = 1#1 ↔ t.val < 22)

/-- Every point stores into the first output's block. -/
theorem busy6 : ∀ t : Fin cfg0.N, cfg0.idle 6 (grid0.coords t) = false := by decide +kernel

/-- The points of the first block of rows store into the second output's block, -/
theorem busy7 : ∀ t : Fin cfg0.N, t.val < 22 → cfg0.idle 7 (grid0.coords t) = false := by decide +kernel

/-- and the others do not. -/
theorem idle7 : ∀ t : Fin cfg0.N, 22 ≤ t.val → cfg0.idle 7 (grid0.coords t) = true := by decide +kernel

/-- The first output's buffer holds nothing of the body's at the first tile of each block of rows, and only there. -/
def new6 (n : ℕ) : Bool := decide (n % 22 = 0)

theorem new6_step : ∀ t : Fin cfg0.N,
    new6 (t.val + 1) = ((cfg0.win 6).flush t || (cfg0.idle 6 (cfg0.grid.coords t) && new6 t.val)) := by decide +kernel

theorem fresh6 (t : Fin cfg0.N) : cfg0.fresh 6 t.val = new6 t.val :=
  Pipeline.Cfg.fresh_tab cfg0 6 new6 rfl new6_step t.val (Nat.le_of_lt t.isLt)

/-- The second output's buffer holds nothing of the body's before the first point, and after the last. -/
def new7 (n : ℕ) : Bool := decide (n % 176 = 0)

theorem new7_step : ∀ t : Fin cfg0.N,
    new7 (t.val + 1) = ((cfg0.win 7).flush t || (cfg0.idle 7 (cfg0.grid.coords t) && new7 t.val)) := by decide +kernel

theorem fresh7 (t : Fin cfg0.N) : cfg0.fresh 7 t.val = new7 t.val :=
  Pipeline.Cfg.fresh_tab cfg0 7 new7 rfl new7_step t.val (Nat.le_of_lt t.isLt)

abbrev mem0 (t : Fin cfg0.N) : Memref sig .tc .vmem S1024x2048 .f32 := win0_0.stage (cfg0.slots t 0)
abbrev whole0 (t : Fin cfg0.N) : (mem0 t).IsWhole := hstage0_0 ((cfg0.slots t 0).cast nbuf0_0)
abbrev mem1 (t : Fin cfg0.N) : Memref sig .tc .vmem S16x2048 .f32 := win0_1.stage (cfg0.slots t 1)
abbrev whole1 (t : Fin cfg0.N) : (mem1 t).IsWhole := hstage0_1 ((cfg0.slots t 1).cast nbuf0_1)
abbrev mem2 (t : Fin cfg0.N) : Memref sig .tc .vmem S1x2048 .f32 := win0_2.stage (cfg0.slots t 2)
abbrev whole2 (t : Fin cfg0.N) : (mem2 t).IsWhole := hstage0_2 ((cfg0.slots t 2).cast nbuf0_2)
abbrev mem3 (t : Fin cfg0.N) : Memref sig .tc .vmem S1x2048x256 .f32 := win0_3.stage (cfg0.slots t 3)
abbrev whole3 (t : Fin cfg0.N) : (mem3 t).IsWhole := hstage0_3 ((cfg0.slots t 3).cast nbuf0_3)
abbrev mem4 (t : Fin cfg0.N) : Memref sig .tc .vmem S1x2048x256 .f32 := win0_4.stage (cfg0.slots t 4)
abbrev whole4 (t : Fin cfg0.N) : (mem4 t).IsWhole := hstage0_4 ((cfg0.slots t 4).cast nbuf0_4)
abbrev mem5 (t : Fin cfg0.N) : Memref sig .tc .vmem S1x256x2048 .f32 := win0_5.stage (cfg0.slots t 5)
abbrev whole5 (t : Fin cfg0.N) : (mem5 t).IsWhole := hstage0_5 ((cfg0.slots t 5).cast nbuf0_5)
abbrev mem6 (t : Fin cfg0.N) : Memref sig .tc .vmem S1024x2048 .f32 := win0_6.stage (cfg0.slots t 6)
abbrev whole6 (t : Fin cfg0.N) : (mem6 t).IsWhole := hstage0_6 ((cfg0.slots t 6).cast nbuf0_6)
abbrev mem7 (t : Fin cfg0.N) : Memref sig .tc .vmem S16x2048 .f32 := win0_7.stage (cfg0.slots t 7)
abbrev whole7 (t : Fin cfg0.N) : (mem7 t).IsWhole := hstage0_7 ((cfg0.slots t 7).cast nbuf0_7)
/-- The scratch. -/
abbrev scr : Memref sig .tc .vmem S1040x2048 .bf16 := Memref.whole cc0_scratch0

/-- What the launch gives the first point: the scratch at some contents. -/
theorem scratch_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

/-! ## What the outputs and the scratch hold after each point -/

/-- One step: what the two outputs and the scratch hold after the body at point `t`, from what they held before it. -/
def next (c : Dev nD) (t : Fin cfg0.N) (o6 : Vec F S1024x2048 .f32) (o7 : Vec F S16x2048 .f32)
    (s : Vec F S1040x2048 .bf16) : Vec F S1024x2048 .f32 × Vec F S16x2048 .f32 × Vec F S1040x2048 .bf16 :=
  if t.val % 22 = 0 then
    (k0_pay2 (k0_pay10 (iblk m c 0 t) (iblk m c 2 t) (iblk m c 1 t) (iblk m c 2 t)) (k0_pay12 (iblk m c 3 t)) (iblk m c 4 t) (iblk m c 5 t),
      if t.val < 22 then k0_pay3 (k0_pay10 (iblk m c 0 t) (iblk m c 2 t) (iblk m c 1 t) (iblk m c 2 t)) (k0_pay12 (iblk m c 3 t)) (iblk m c 4 t) (iblk m c 5 t) else o7,
      rows (iblk m c 0 t) (iblk m c 1 t) (iblk m c 2 t))
  else if t.val % 22 = 21 then
    (k0_pay8 s (iblk m c 3 t) (iblk m c 4 t) (iblk m c 5 t) o6 (iblk m c 0 t),
      if t.val < 22 then k0_pay9 s (iblk m c 3 t) (iblk m c 4 t) (iblk m c 5 t) o7 (iblk m c 1 t) else o7, s)
  else
    (k0_pay5 s (iblk m c 3 t) (iblk m c 4 t) (iblk m c 5 t) o6, if t.val < 22 then k0_pay6 s (iblk m c 3 t) (iblk m c 4 t) (iblk m c 5 t) o7 else o7, s)

/-- What they hold after point `n`. -/
def state (c : Dev nD) : (n : ℕ) → n < cfg0.N → Vec F S1024x2048 .f32 × Vec F S16x2048 .f32 × Vec F S1040x2048 .bf16
  | 0, h => let t : Fin cfg0.N := ⟨0, h⟩
    (k0_pay2 (k0_pay10 (iblk m c 0 t) (iblk m c 2 t) (iblk m c 1 t) (iblk m c 2 t)) (k0_pay12 (iblk m c 3 t)) (iblk m c 4 t) (iblk m c 5 t),
      k0_pay3 (k0_pay10 (iblk m c 0 t) (iblk m c 2 t) (iblk m c 1 t) (iblk m c 2 t)) (k0_pay12 (iblk m c 3 t)) (iblk m c 4 t) (iblk m c 5 t), rows (iblk m c 0 t) (iblk m c 1 t) (iblk m c 2 t))
  | n + 1, h => next m c ⟨n + 1, h⟩ (state c n (by omega)).1 (state c n (by omega)).2.1 (state c n (by omega)).2.2

theorem state_zero (c : Dev nD) (t : Fin cfg0.N) (h : t.val = 0) (o6 : Vec F S1024x2048 .f32) (o7 : Vec F S16x2048 .f32)
    (s : Vec F S1040x2048 .bf16) : state m c t.val t.isLt = next m c t o6 o7 s := by
  obtain ⟨v, hv⟩ := t
  simp only at h
  subst h
  simp only [state, next, Nat.zero_mod, if_true, Nat.ofNat_pos]

theorem state_pos (c : Dev nD) (t : Fin cfg0.N) (h : t.val ≠ 0) :
    state m c t.val t.isLt = next m c t (state m c (t.val - 1) (by omega)).1
      (state m c (t.val - 1) (by omega)).2.1 (state m c (t.val - 1) (by omega)).2.2 := by
  obtain ⟨v, hv⟩ := t
  cases v with
  | zero => exact absurd rfl h
  | succ n => rfl

/-- A later block of rows leaves the second output as it was. -/
theorem state_keep (c : Dev nD) (t : Fin cfg0.N) (h : 22 ≤ t.val) :
    (state m c t.val t.isLt).2.1 = (state m c (t.val - 1) (by omega)).2.1 := by
  have hn : ¬ t.val < 22 := by omega
  rw [state_pos m c t (by omega)]
  unfold next
  split
  · simp only [if_neg hn]
  · split <;> simp only [if_neg hn]

/-! ## The pipeline's proof data -/

/-- What is owned before point `n` beside the windows: the scratch, at first at anything, then at the state. -/
def inv (c : Dev nD) : (n : ℕ) → n ≤ cfg0.N → sProp 𝕄
  | 0, _ => Pipeline.ΦA spec0 c
  | n + 1, hn => iprop(iprop(owns (c : Thread nD τ) scr fullShare ((state m c n hn).2.2)) ∗ (∃ r, prngReg c r))

theorem inv_zero (c : Dev nD) (n : ℕ) (h : n ≤ cfg0.N) (hz : n = 0) : inv m c n h = Pipeline.ΦA spec0 c := by
  subst hz; rfl

theorem inv_succ (c : Dev nD) (n : ℕ) (hn : n < cfg0.N) :
    inv m c (n + 1) hn = iprop(iprop(owns (c : Thread nD τ) scr fullShare ((state m c n hn).2.2)) ∗ (∃ r, prngReg c r)) := rfl

theorem inv_pos (c : Dev nD) (n : ℕ) (h : n ≤ cfg0.N) (hz : n ≠ 0) :
    inv m c n h = iprop(iprop(owns (c : Thread nD τ) scr fullShare ((state m c (n - 1) (by omega)).2.2)) ∗ (∃ r, prngReg c r)) := by
  cases n with
  | zero => exact absurd rfl hz
  | succ n => rfl

/-- The proof data: after point `t` the inputs' buffers at their blocks and the outputs' at the state. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (state m c t.val t.isLt).1
    | ⟨7, _⟩ => (state m c t.val t.isLt).2.1
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; exact Pipeline.Dat.Φ_castSucc (inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = (state m c t.val t.isLt).1 := by dsimp only [dats]
theorem after7 (c : Dev nD) (t : Fin cfg0.N) : (dats m 0 c).after 7 t = (state m c t.val t.isLt).2.1 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- Inside a block of rows the first output's buffer holds what the point before left. -/
theorem before6 (c : Dev nD) (t : Fin cfg0.N) (h : ¬ t.val % 22 = 0) (d) :
    (dats m 0 c).before 6 t d = (state m c (t.val - 1) (by omega)).1 := by
  rw [Dat.before_out_traj _ 6 rfl (fun _ _ => rfl)
      (fun t _ hi _ => absurd hi (by rw [show cfg0.idle 6 (cfg0.grid.coords t) = false from busy6 t]; exact Bool.false_ne_true)) t.val t rfl d,
    if_neg (by rw [fresh6]; simp only [new6, decide_eq_true_eq]; exact h)]
  dsimp only [dats]

/-- After the first point the second output's buffer holds what the point before left. -/
theorem before7 (c : Dev nD) (t : Fin cfg0.N) (h : t.val ≠ 0) (d) :
    (dats m 0 c).before 7 t d = (state m c (t.val - 1) (by omega)).2.1 := by
  have hN : t.val < 176 := lt_of_lt_of_eq t.isLt (show cfg0.N = 176 from N_0)
  rw [Dat.before_out_traj _ 7 rfl (fun _ _ => rfl)
      (fun t _ hi _ => by
        by_cases hlt : t.val < 22
        · exact absurd hi (by rw [show cfg0.idle 7 (cfg0.grid.coords t) = false from busy7 t hlt]; exact Bool.false_ne_true)
        · rw [after7, after7]; exact state_keep m c t (by omega)) t.val t rfl d,
    if_neg (by rw [fresh7]; simp only [new7, decide_eq_true_eq]; omega)]
  dsimp only [dats]

/-- The step from what the buffers hold before point `t` gives the state after it. -/
theorem next_before (c : Dev nD) (t : Fin cfg0.N) (h : t.val ≠ 0) (d6 d7) :
    next m c t ((dats m 0 c).before 6 t d6) ((dats m 0 c).before 7 t d7) (state m c (t.val - 1) (by omega)).2.2
      = state m c t.val t.isLt := by
  rw [before7 m c t h, state_pos m c t h]
  by_cases h0 : t.val % 22 = 0
  · unfold next; rw [if_pos h0, if_pos h0]
  · rw [before6 m c t h0]

/-- The second output's buffer at the state is what the pipeline asks for after point `t`. -/
theorem leaves7 (c : Dev nD) (t : Fin cfg0.N) :
    (owns (c : Thread nD τ) (mem7 t) fullShare (state m c t.val t.isLt).2.1 : sProp 𝕄) ⊢ (dats m 0 c).leavesExact 7 t := by
  by_cases hlt : t.val < 22
  · unfold Dat.leavesExact; rw [show cfg0.idle 7 (cfg0.grid.coords t) = false from busy7 t hlt, after7]
  · have hi : cfg0.idle 7 (cfg0.grid.coords t) = true := idle7 t (by omega)
    cases hf : (cfg0.win 7).flush t
    · rw [Dat.leavesExact_idle _ 7 t hi hf]
      iintro H
      iexists (state m c t.val t.isLt).2.1
      rw [before7 m c t (by omega), state_keep m c t (by omega)]
      iexact H
    · unfold Dat.leavesExact; rw [hi, hf, after7]

/-! ## The body at any point -/

/-- The body at point `t` takes the step `next`. -/
theorem body_next (c : Dev nD) (t : Fin cfg0.N) (o6 : Vec F S1024x2048 .f32) (o7 : Vec F S16x2048 .f32)
    (s : Vec F S1040x2048 .bf16) (K : PUnit → sProp 𝕄) :
    iprop(owns (c : Thread nD τ) (mem0 t) fullShare (iblk m c 0 t) ∗ owns (c : Thread nD τ) (mem1 t) fullShare (iblk m c 1 t) ∗ owns (c : Thread nD τ) (mem2 t) fullShare (iblk m c 2 t) ∗ owns (c : Thread nD τ) (mem3 t) fullShare (iblk m c 3 t) ∗ owns (c : Thread nD τ) (mem4 t) fullShare (iblk m c 4 t) ∗ owns (c : Thread nD τ) (mem5 t) fullShare (iblk m c 5 t) ∗ owns (c : Thread nD τ) (mem6 t) fullShare o6 ∗ owns (c : Thread nD τ) (mem7 t) fullShare o7 ∗ owns (c : Thread nD τ) scr fullShare s
        ∗ (iprop(owns (c : Thread nD τ) (mem0 t) fullShare (iblk m c 0 t) ∗ owns (c : Thread nD τ) (mem1 t) fullShare (iblk m c 1 t) ∗ owns (c : Thread nD τ) (mem2 t) fullShare (iblk m c 2 t) ∗ owns (c : Thread nD τ) (mem3 t) fullShare (iblk m c 3 t) ∗ owns (c : Thread nD τ) (mem4 t) fullShare (iblk m c 4 t) ∗ owns (c : Thread nD τ) (mem5 t) fullShare (iblk m c 5 t) ∗ owns (c : Thread nD τ) (mem6 t) fullShare (next m c t o6 o7 s).1 ∗ owns (c : Thread nD τ) (mem7 t) fullShare (next m c t o6 o7 s).2.1 ∗ owns (c : Thread nD τ) scr fullShare (next m c t o6 o7 s).2.2) -∗ K ⟨⟩))
      ⊢ wp frame (wpE (defs₀ (F := F)) Variants.none c none) Set.univ (bodyAt0 t) K := by
  have hN : t.val < 176 := lt_of_lt_of_eq t.isLt (show cfg0.N = 176 from N_0)
  unfold next
  by_cases h0 : t.val % 22 = 0
  · by_cases hm : t.val < 22
    · simp only [if_pos h0, if_pos hm]
      exact run_first_meta c (grid0.coords t) (mem0 t) (whole0 t) (mem1 t) (whole1 t) (mem2 t) (whole2 t) (mem3 t) (whole3 t) (mem4 t) (whole4 t) (mem5 t) (whole5 t) (mem6 t) (whole6 t) (mem7 t) (whole7 t) scr (Memref.isWhole_whole _) ((test1 t).mpr h0) ((test2 t).mpr hm) (fun h => absurd ((test3 t).mp h) (by omega)) (fun h => absurd ((test5 t).mp h) (by omega))
        (iblk m c 0 t) (iblk m c 1 t) (iblk m c 2 t) (iblk m c 3 t) (iblk m c 4 t) (iblk m c 5 t) o6 o7 s Set.univ K
    · simp only [if_pos h0, if_neg hm]
      exact run_first c (grid0.coords t) (mem0 t) (whole0 t) (mem1 t) (whole1 t) (mem2 t) (whole2 t) (mem3 t) (whole3 t) (mem4 t) (whole4 t) (mem5 t) (whole5 t) (mem6 t) (whole6 t) (mem7 t) (whole7 t) scr (Memref.isWhole_whole _) ((test1 t).mpr h0) (fun h => absurd ((test2 t).mp h) hm) (fun h => absurd ((test3 t).mp h) (by omega)) (fun h => absurd ((test5 t).mp h) (by omega))
        (iblk m c 0 t) (iblk m c 1 t) (iblk m c 2 t) (iblk m c 3 t) (iblk m c 4 t) (iblk m c 5 t) o6 o7 s Set.univ K
  · by_cases h1 : t.val % 22 = 21
    · by_cases hm : t.val < 22
      · simp only [if_neg h0, if_pos h1, if_pos hm]
        exact run_last_meta c (grid0.coords t) (mem0 t) (whole0 t) (mem1 t) (whole1 t) (mem2 t) (whole2 t) (mem3 t) (whole3 t) (mem4 t) (whole4 t) (mem5 t) (whole5 t) (mem6 t) (whole6 t) (mem7 t) (whole7 t) scr (Memref.isWhole_whole _) (fun h => absurd ((test1 t).mp h) h0) (fun h => absurd ((test3 t).mp h) (by omega)) ((test5 t).mpr h1) ((test6 t).mpr hm)
          (iblk m c 0 t) (iblk m c 1 t) (iblk m c 2 t) (iblk m c 3 t) (iblk m c 4 t) (iblk m c 5 t) o6 o7 s Set.univ K
      · simp only [if_neg h0, if_pos h1, if_neg hm]
        exact run_last c (grid0.coords t) (mem0 t) (whole0 t) (mem1 t) (whole1 t) (mem2 t) (whole2 t) (mem3 t) (whole3 t) (mem4 t) (whole4 t) (mem5 t) (whole5 t) (mem6 t) (whole6 t) (mem7 t) (whole7 t) scr (Memref.isWhole_whole _) (fun h => absurd ((test1 t).mp h) h0) (fun h => absurd ((test3 t).mp h) (by omega)) ((test5 t).mpr h1) (fun h => absurd ((test6 t).mp h) hm)
          (iblk m c 0 t) (iblk m c 1 t) (iblk m c 2 t) (iblk m c 3 t) (iblk m c 4 t) (iblk m c 5 t) o6 o7 s Set.univ K
    · by_cases hm : t.val < 22
      · simp only [if_neg h0, if_neg h1, if_pos hm]
        exact run_mid_meta c (grid0.coords t) (mem0 t) (whole0 t) (mem1 t) (whole1 t) (mem2 t) (whole2 t) (mem3 t) (whole3 t) (mem4 t) (whole4 t) (mem5 t) (whole5 t) (mem6 t) (whole6 t) (mem7 t) (whole7 t) scr (Memref.isWhole_whole _) (fun h => absurd ((test1 t).mp h) h0) ((test3 t).mpr (by omega)) ((test4 t).mpr hm) (fun h => absurd ((test5 t).mp h) h1)
          (iblk m c 0 t) (iblk m c 1 t) (iblk m c 2 t) (iblk m c 3 t) (iblk m c 4 t) (iblk m c 5 t) o6 o7 s Set.univ K
      · simp only [if_neg h0, if_neg h1, if_neg hm]
        exact run_mid c (grid0.coords t) (mem0 t) (whole0 t) (mem1 t) (whole1 t) (mem2 t) (whole2 t) (mem3 t) (whole3 t) (mem4 t) (whole4 t) (mem5 t) (whole5 t) (mem6 t) (whole6 t) (mem7 t) (whole7 t) scr (Memref.isWhole_whole _) (fun h => absurd ((test1 t).mp h) h0) ((test3 t).mpr (by omega)) (fun h => absurd ((test4 t).mp h) hm) (fun h => absurd ((test5 t).mp h) h1)
          (iblk m c 0 t) (iblk m c 1 t) (iblk m c 2 t) (iblk m c 3 t) (iblk m c 4 t) (iblk m c 5 t) o6 o7 s Set.univ K

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (mem0 t) fullShare ((dats m 0 c).before 0 t d)) ∗ (∃ d, owns (c : Thread nD τ) (mem1 t) fullShare ((dats m 0 c).before 1 t d)) ∗ (∃ d, owns (c : Thread nD τ) (mem2 t) fullShare ((dats m 0 c).before 2 t d)) ∗ (∃ d, owns (c : Thread nD τ) (mem3 t) fullShare ((dats m 0 c).before 3 t d)) ∗ (∃ d, owns (c : Thread nD τ) (mem4 t) fullShare ((dats m 0 c).before 4 t d)) ∗ (∃ d, owns (c : Thread nD τ) (mem5 t) fullShare ((dats m 0 c).before 5 t d)) ∗ (∃ d, owns (c : Thread nD τ) (mem6 t) fullShare ((dats m 0 c).before 6 t d)) ∗ (∃ d, owns (c : Thread nD τ) (mem7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t)

/-- The buffers and the scratch at the state, with what the core owes, are what the body has to return. -/
theorem returned (c : Dev nD) (t : Fin cfg0.N) :
    iprop((∃ r, prngReg c r) ∗ (dats m 0 c).owesAt () t.castSucc ∗ owns (c : Thread nD τ) (mem0 t) fullShare (iblk m c 0 t) ∗ owns (c : Thread nD τ) (mem1 t) fullShare (iblk m c 1 t) ∗ owns (c : Thread nD τ) (mem2 t) fullShare (iblk m c 2 t) ∗ owns (c : Thread nD τ) (mem3 t) fullShare (iblk m c 3 t) ∗ owns (c : Thread nD τ) (mem4 t) fullShare (iblk m c 4 t) ∗ owns (c : Thread nD τ) (mem5 t) fullShare (iblk m c 5 t) ∗ owns (c : Thread nD τ) (mem6 t) fullShare (state m c t.val t.isLt).1 ∗ owns (c : Thread nD τ) (mem7 t) fullShare (state m c t.val t.isLt).2.1 ∗ owns (c : Thread nD τ) scr fullShare (state m c t.val t.isLt).2.2) ⊢ bodyPost m c t := by
  unfold bodyPost
  rw [show (dats m 0 c).owesAt () t.succ = (dats m 0 c).owesAt () t.castSucc from rfl]
  rw [show (dats m 0 c).Φ t.succ = inv m c (t.val + 1) t.isLt from rfl, inv_succ]
  rw [show (dats m 0 c).leavesExact 0 t = owns (c : Thread nD τ) (mem0 t) fullShare ((dats m 0 c).after 0 t) from by
    unfold Dat.leavesExact; rw [show cfg0.idle 0 (cfg0.grid.coords t) = false from rfl], after0]
  rw [show (dats m 0 c).leavesExact 1 t = owns (c : Thread nD τ) (mem1 t) fullShare ((dats m 0 c).after 1 t) from by
    unfold Dat.leavesExact; rw [show cfg0.idle 1 (cfg0.grid.coords t) = false from rfl], after1]
  rw [show (dats m 0 c).leavesExact 2 t = owns (c : Thread nD τ) (mem2 t) fullShare ((dats m 0 c).after 2 t) from by
    unfold Dat.leavesExact; rw [show cfg0.idle 2 (cfg0.grid.coords t) = false from rfl], after2]
  rw [show (dats m 0 c).leavesExact 3 t = owns (c : Thread nD τ) (mem3 t) fullShare ((dats m 0 c).after 3 t) from by
    unfold Dat.leavesExact; rw [show cfg0.idle 3 (cfg0.grid.coords t) = false from rfl], after3]
  rw [show (dats m 0 c).leavesExact 4 t = owns (c : Thread nD τ) (mem4 t) fullShare ((dats m 0 c).after 4 t) from by
    unfold Dat.leavesExact; rw [show cfg0.idle 4 (cfg0.grid.coords t) = false from rfl], after4]
  rw [show (dats m 0 c).leavesExact 5 t = owns (c : Thread nD τ) (mem5 t) fullShare ((dats m 0 c).after 5 t) from by
    unfold Dat.leavesExact; rw [show cfg0.idle 5 (cfg0.grid.coords t) = false from rfl], after5]
  rw [show (dats m 0 c).leavesExact 6 t = owns (c : Thread nD τ) (mem6 t) fullShare ((dats m 0 c).after 6 t) from by
    unfold Dat.leavesExact; rw [show cfg0.idle 6 (cfg0.grid.coords t) = false from busy6 t], after6]
  iintro ⟨Hg, Ho, H0, H1, H2, H3, H4, H5, H6, H7, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (leaves7 m c t)
  iexact H7

set_option maxHeartbeats 1600000 in
/-- The body at any point. -/
theorem sound (c : Dev nD) (t : Fin cfg0.N) :
    bodyPre m c t ⊢ wp frame (wpE (defs₀ (F := F)) Variants.none c none) Set.univ (bodyAt0 t) (fun _ => bodyPost m c t) := by
  unfold bodyPre
  simp only [before0, before1, before2, before3, before4, before5]
  rw [inv_castSucc m c t]
  by_cases hz : t.val = 0
  · rw [inv_zero m c _ _ hz, scratch_eq]
    iintro ⟨⟨⟨%s, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_next m c t _ _ s _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, HS⟩
    iapply (returned m c t)
    rw [state_zero m c t hz ((dats m 0 c).before 6 t d6) ((dats m 0 c).before 7 t d7) s]
    isplitl [Hg]; · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact HS
  · rw [inv_pos m c _ _ hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_next m c t _ _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, HS⟩
    iapply (returned m c t)
    rw [← next_before m c t hz d6 d7]
    isplitl [Hg]; · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact HS

/-- The body the pipeline calls at point `t` is the body as written above. -/
theorem row (t : Fin cfg0.N) :
    defs₀ (F := F) .tc cfg0.body (cfg0.bodyArgs t (cfg0.slots t)) = bodyAt0 t := by
  unfold defs₀; rw [Defs.onTc_tc]

/-- The library's obligation of the body, at every point. -/
theorem obligation (c : Dev nD) : BodyObligation (dats (F := F) m 0 c) (defs₀ (F := F)) Variants.none () Set.univ := fun t => by
  rw [bigSep_W0, bigSep_W0, row]
  exact triple_restated (sound m c t) rfl .rfl fun _ => .rfl

/-- What the launch hands over is what is owned before the first point, -/
theorem enter (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

/-- and what is owned after the last point can be given back. -/
theorem leave (c : Dev nD) : (dats m 0 c).Φ (Fin.last cfg0.N) ⊢ Pipeline.ΦA spec0 c := by
  have hl : (Fin.last cfg0.N).val ≠ 0 := by rw [Fin.val_last]; have : cfg0.N = 176 := N_0; omega
  rw [show (dats m 0 c).Φ (Fin.last cfg0.N) = inv m c (Fin.last cfg0.N).val (Nat.le_of_lt_succ (Fin.last cfg0.N).isLt) from rfl,
    inv_pos m c _ _ hl, scratch_eq]
  iintro ⟨HS, Hg⟩
  isplitl [HS]
  · iexists _; iexact HS
  iexact Hg

/-! ## The launch -/

set_option backward.isDefEq.respectTransparency.types false in
/-- Every run ends, with every array of the pipeline as the proof data says, every other buffer as it was, and every
    semaphore counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := enter m) (hout := leave m)

/-- The same without the counters. -/
theorem run_main : θ_run defs (onTc (τ := τ) (main (F := F))) (s₀ m ρ) (Pipeline.FramePost cfgs (dats m) 0 (V m)) :=
  (θ_run defs _ _).mono (fun _ h => h.1) (run_quiescent m ρ)

/-- The frame: every run ends, the arguments are unchanged and the counters are zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_quiescent m ρ))

end Cert.Ffn1Ideal.Body

end
-- ==== Proof.Ffn1Value.lean ====
/-
  What the first feed-forward half-step computes over the reals: both results, the rows of the sequence and the rows of
  the meta tokens, are the reference's composed terms x + ½·swiglu(rmsnorm(x)) of the argument arrays. The kernel adds
  the down product up over 22 tiles of 256 hidden units, the normalised rows kept in a scratch from the first tile on,
  the meta tokens' rows below those of the row block; the meta tokens' result is finished by the first row block and
  carried to the last point, which writes it back.
-/
module

public import proofs.«01_k».proof.Proof.FfnMath
public import proofs.«01_k».proof.Proof.Ffn1Ideal.Frame
public import proofs.«01_k».proof.Proof.Gen.Ffn1RefIdeal.Run
public import Idealize.ShloMosaic.Lib.Pipeline.ValueKit
public import Idealize.ShloMosaic.Lib.Pipeline.ReadBack
public import Idealize.ShloMosaic.Lib.Pointwise
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.Ffn1RefIdeal.Whole

open Cert.Ffn1RefIdeal Cert.Ffn1RefIdeal.Gen

/-- The reference's first result as one term of the sequence's rows and the weights. -/
def refTerm (x : FVec Ideal S8192x2048 .f32) (a2 : FVec Ideal S1x2048 .f32)
    (a3 a4 : FVec Ideal S1x2048x5632 .f32) (a5 : FVec Ideal S1x5632x2048 .f32) : FVec Ideal S8192x2048 .f32 :=
  addf x (mulf (broadcastInDim S8192x2048 ![] bcast_S_S8192x2048 (constant S_ .f32 0x3F000000#32)) (Host.dotGeneral dot_S8192x5632_S5632x2048_S8192x2048_1_0_0_1_n_n none (mulf (mulf (Host.dotGeneral dot_S8192x2048_S2048x5632_S8192x5632_1_0_0_1_n_n none (mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ a2 shapeCasts_S1x2048_S2048)))) (shapeCast _ a3 shapeCasts_S1x2048x5632_S2048x5632)) (Host.divf (broadcastInDim S8192x5632 ![] bcast_S_S8192x5632 (constant S_ .f32 0x3F800000#32)) (addf (broadcastInDim S8192x5632 ![] bcast_S_S8192x5632 (constant S_ .f32 0x3F800000#32)) (Host.exp (Host.negf (Host.dotGeneral dot_S8192x2048_S2048x5632_S8192x5632_1_0_0_1_n_n none (mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ a2 shapeCasts_S1x2048_S2048)))) (shapeCast _ a3 shapeCasts_S1x2048x5632_S2048x5632))))))) (Host.dotGeneral dot_S8192x2048_S2048x5632_S8192x5632_1_0_0_1_n_n none (mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ a2 shapeCasts_S1x2048_S2048)))) (shapeCast _ a4 shapeCasts_S1x2048x5632_S2048x5632))) (shapeCast _ a5 shapeCasts_S1x5632x2048_S5632x2048)))

/-- The reference's second result as one term of the meta tokens' rows and the weights. -/
def metaTerm (x : FVec Ideal S16x2048 .f32) (a2 : FVec Ideal S1x2048 .f32)
    (a3 a4 : FVec Ideal S1x2048x5632 .f32) (a5 : FVec Ideal S1x5632x2048 .f32) : FVec Ideal S16x2048 .f32 :=
  addf x (mulf (broadcastInDim S16x2048 ![] bcast_S_S16x2048 (constant S_ .f32 0x3F000000#32)) (Host.dotGeneral dot_S16x5632_S5632x2048_S16x2048_1_0_0_1_n_n none (mulf (mulf (Host.dotGeneral dot_S16x2048_S2048x5632_S16x5632_1_0_0_1_n_n none (mulf (mulf x (broadcastInDim S16x2048 ![0, 1] bcast_S16x1_S16x2048_0_1 (Host.rsqrt (addf (Host.divf (broadcastInDim S16x1 ![0] bcast_S16_S16x1_0 (Host.reduceAdd (mulf x x) (constant S_ .f32 0x00000000#32) reducesTo_S16x2048_S16_d1 h_S_)) (broadcastInDim S16x1 ![] bcast_S_S16x1 (constant S_ .f32 0x45000000#32))) (broadcastInDim S16x1 ![] bcast_S_S16x1 (constant S_ .f32 0x358637BD#32)))))) (broadcastInDim S16x2048 ![0, 1] bcast_S1x2048_S16x2048_0_1 (broadcastInDim S1x2048 ![1] bcast_S2048_S1x2048_1 (shapeCast _ a2 shapeCasts_S1x2048_S2048)))) (shapeCast _ a3 shapeCasts_S1x2048x5632_S2048x5632)) (Host.divf (broadcastInDim S16x5632 ![] bcast_S_S16x5632 (constant S_ .f32 0x3F800000#32)) (addf (broadcastInDim S16x5632 ![] bcast_S_S16x5632 (constant S_ .f32 0x3F800000#32)) (Host.exp (Host.negf (Host.dotGeneral dot_S16x2048_S2048x5632_S16x5632_1_0_0_1_n_n none (mulf (mulf x (broadcastInDim S16x2048 ![0, 1] bcast_S16x1_S16x2048_0_1 (Host.rsqrt (addf (Host.divf (broadcastInDim S16x1 ![0] bcast_S16_S16x1_0 (Host.reduceAdd (mulf x x) (constant S_ .f32 0x00000000#32) reducesTo_S16x2048_S16_d1 h_S_)) (broadcastInDim S16x1 ![] bcast_S_S16x1 (constant S_ .f32 0x45000000#32))) (broadcastInDim S16x1 ![] bcast_S_S16x1 (constant S_ .f32 0x358637BD#32)))))) (broadcastInDim S16x2048 ![0, 1] bcast_S1x2048_S16x2048_0_1 (broadcastInDim S1x2048 ![1] bcast_S2048_S1x2048_1 (shapeCast _ a2 shapeCasts_S1x2048_S2048)))) (shapeCast _ a3 shapeCasts_S1x2048x5632_S2048x5632))))))) (Host.dotGeneral dot_S16x2048_S2048x5632_S16x5632_1_0_0_1_n_n none (mulf (mulf x (broadcastInDim S16x2048 ![0, 1] bcast_S16x1_S16x2048_0_1 (Host.rsqrt (addf (Host.divf (broadcastInDim S16x1 ![0] bcast_S16_S16x1_0 (Host.reduceAdd (mulf x x) (constant S_ .f32 0x00000000#32) reducesTo_S16x2048_S16_d1 h_S_)) (broadcastInDim S16x1 ![] bcast_S_S16x1 (constant S_ .f32 0x45000000#32))) (broadcastInDim S16x1 ![] bcast_S_S16x1 (constant S_ .f32 0x358637BD#32)))))) (broadcastInDim S16x2048 ![0, 1] bcast_S1x2048_S16x2048_0_1 (broadcastInDim S1x2048 ![1] bcast_S2048_S1x2048_1 (shapeCast _ a2 shapeCasts_S1x2048_S2048)))) (shapeCast _ a4 shapeCasts_S1x2048x5632_S2048x5632))) (shapeCast _ a5 shapeCasts_S1x5632x2048_S5632x2048)))

set_option maxHeartbeats 1600000 in
/-- The first result at row `r`, column `l`. -/
theorem ref_at (x : FVec Ideal S8192x2048 .f32) (a2 : FVec Ideal S1x2048 .f32)
    (a3 a4 : FVec Ideal S1x2048x5632 .f32) (a5 : FVec Ideal S1x5632x2048 .f32) (r : Fin 8192) (l : Fin 2048) :
    refTerm x a2 a3 a4 a5 (ix2 r l) = x (ix2 r l) + Ideal.ofBits .f32 0x3F000000#32 *
      FfnMath.whole (FfnMath.normed (fun k => x (ix2 r k)) (fun k => a2 (ix2 0 k)))
        (fun e f => a3 (ix3 0 e f)) (fun e f => a4 (ix3 0 e f)) (fun f => a5 (ix3 0 f l)) := by
  pointwise [refTerm, FfnMath.whole, FfnMath.act, FfnMath.normed, Ideal.logistic]

set_option maxHeartbeats 1600000 in
/-- The second result at row `r`, column `l`. -/
theorem meta_at (x : FVec Ideal S16x2048 .f32) (a2 : FVec Ideal S1x2048 .f32)
    (a3 a4 : FVec Ideal S1x2048x5632 .f32) (a5 : FVec Ideal S1x5632x2048 .f32) (r : Fin 16) (l : Fin 2048) :
    metaTerm x a2 a3 a4 a5 (ix2 r l) = x (ix2 r l) + Ideal.ofBits .f32 0x3F000000#32 *
      FfnMath.whole (FfnMath.normed (fun k => x (ix2 r k)) (fun k => a2 (ix2 0 k)))
        (fun e f => a3 (ix3 0 e f)) (fun e f => a4 (ix3 0 e f)) (fun f => a5 (ix3 0 f l)) := by
  pointwise [metaTerm, FfnMath.whole, FfnMath.act, FfnMath.normed, Ideal.logistic]

end Cert.Ffn1RefIdeal.Whole

namespace Cert.Ffn1Ideal.Whole

open Cert.Ffn1Ideal Cert.Ffn1Ideal.Gen Cert.Ffn1Ideal.Body

/-- The scratch's row of row `r` of the block, -/
abbrev up (r : Fin 1024) : Fin 1040 := ⟨r.val, by omega⟩

/-- and that of row `r` of the meta tokens. -/
abbrev low (r : Fin 16) : Fin 1040 := ⟨1024 + r.val, by omega⟩

/-- The normalised rows of the block, as a point stores them in the scratch. -/
theorem rows_up (x : FVec Ideal S1024x2048 .f32) (xm : FVec Ideal S16x2048 .f32) (g : FVec Ideal S1x2048 .f32)
    (r : Fin 1024) (e : Fin 2048) :
    k0_pay10 (F := Ideal) x g xm g (ix2 (up r) e) = FfnMath.normed (fun k => x (ix2 r k)) (fun k => g (ix2 0 k)) e := by
  pointwise [k0_pay10, FfnMath.normed]

/-- The normalised rows of the meta tokens. -/
theorem rows_low (x : FVec Ideal S1024x2048 .f32) (xm : FVec Ideal S16x2048 .f32) (g : FVec Ideal S1x2048 .f32)
    (r : Fin 16) (e : Fin 2048) :
    k0_pay10 (F := Ideal) x g xm g (ix2 (low r) e) = FfnMath.normed (fun k => xm (ix2 r k)) (fun k => g (ix2 0 k)) e := by
  pointwise [k0_pay10, FfnMath.normed]

theorem pay11_at (x : FVec Ideal S1024x2048 .f32) (xm : FVec Ideal S16x2048 .f32) (g : FVec Ideal S1x2048 .f32)
    (r : Fin 1040) (e : Fin 2048) : rows (F := Ideal) x xm g (ix2 r e) = k0_pay10 (F := Ideal) x g xm g (ix2 r e) := by
  pointwise [rows, k0_pay11]

/-- The product of a tile: gated activations of its hidden units times the down weights. -/
abbrev prod (xn : Fin 2048 → EReal) (a b : Fin 2048 → Fin 256 → EReal) (w : Fin 256 → EReal) : EReal :=
  ∑ k : Fin 256, FfnMath.act xn (fun e => a e k) (fun e => b e k) * w k

theorem pay1_at (s : FVec Ideal S1040x2048 .bf16) (a b : FVec Ideal S1x2048x256 .f32)
    (w : FVec Ideal S1x256x2048 .f32) (r : Fin 1040) (l : Fin 2048) :
    k0_pay1 (F := Ideal) s (k0_pay12 a) b w (ix2 r l) = prod (fun e => s (ix2 r e)) (fun e k => a (ix3 0 e k))
      (fun e k => b (ix3 0 e k)) (fun k => w (ix3 0 k l)) := by
  pointwise [prod, k0_pay1, k0_pay12, FfnMath.act]

theorem pay4_at (s : FVec Ideal S1040x2048 .bf16) (a b : FVec Ideal S1x2048x256 .f32)
    (w : FVec Ideal S1x256x2048 .f32) (r : Fin 1040) (l : Fin 2048) :
    k0_pay4 (F := Ideal) s a b w (ix2 r l) = prod (fun e => s (ix2 r e)) (fun e k => a (ix3 0 e k))
      (fun e k => b (ix3 0 e k)) (fun k => w (ix3 0 k l)) := by
  pointwise [prod, k0_pay4, FfnMath.act]

theorem pay7_at (s : FVec Ideal S1040x2048 .bf16) (a b : FVec Ideal S1x2048x256 .f32)
    (w : FVec Ideal S1x256x2048 .f32) (r : Fin 1040) (l : Fin 2048) :
    k0_pay7 (F := Ideal) s a b w (ix2 r l) = prod (fun e => s (ix2 r e)) (fun e k => a (ix3 0 e k))
      (fun e k => b (ix3 0 e k)) (fun k => w (ix3 0 k l)) := by
  pointwise [prod, k0_pay7, FfnMath.act]

/-- The first tile's product, stored into the block's rows, -/
theorem pay2_at (s : FVec Ideal S1040x2048 .bf16) (a b : FVec Ideal S1x2048x256 .f32)
    (w : FVec Ideal S1x256x2048 .f32) (r : Fin 1024) (l : Fin 2048) :
    k0_pay2 (F := Ideal) s (k0_pay12 a) b w (ix2 r l) = prod (fun e => s (ix2 (up r) e)) (fun e k => a (ix3 0 e k))
      (fun e k => b (ix3 0 e k)) (fun k => w (ix3 0 k l)) := by
  refine Eq.trans ?_ (pay1_at s a b w (up r) l)
  pointwise [k0_pay2]

/-- and into the meta tokens' rows. -/
theorem pay3_at (s : FVec Ideal S1040x2048 .bf16) (a b : FVec Ideal S1x2048x256 .f32)
    (w : FVec Ideal S1x256x2048 .f32) (r : Fin 16) (l : Fin 2048) :
    k0_pay3 (F := Ideal) s (k0_pay12 a) b w (ix2 r l) = prod (fun e => s (ix2 (low r) e)) (fun e k => a (ix3 0 e k))
      (fun e k => b (ix3 0 e k)) (fun k => w (ix3 0 k l)) := by
  refine Eq.trans ?_ (pay1_at s a b w (low r) l)
  pointwise [k0_pay3]

/-- A middle tile's product added to what the earlier tiles left, in the block's rows, -/
theorem pay5_at (s : FVec Ideal S1040x2048 .bf16) (a b : FVec Ideal S1x2048x256 .f32)
    (w : FVec Ideal S1x256x2048 .f32) (o : FVec Ideal S1024x2048 .f32) (r : Fin 1024) (l : Fin 2048) :
    k0_pay5 (F := Ideal) s a b w o (ix2 r l) = o (ix2 r l) + prod (fun e => s (ix2 (up r) e)) (fun e k => a (ix3 0 e k))
      (fun e k => b (ix3 0 e k)) (fun k => w (ix3 0 k l)) := by
  rw [← pay4_at s a b w (up r) l]
  pointwise [k0_pay5]

/-- and in the meta tokens'. -/
theorem pay6_at (s : FVec Ideal S1040x2048 .bf16) (a b : FVec Ideal S1x2048x256 .f32)
    (w : FVec Ideal S1x256x2048 .f32) (o : FVec Ideal S16x2048 .f32) (r : Fin 16) (l : Fin 2048) :
    k0_pay6 (F := Ideal) s a b w o (ix2 r l) = o (ix2 r l) + prod (fun e => s (ix2 (low r) e)) (fun e k => a (ix3 0 e k))
      (fun e k => b (ix3 0 e k)) (fun k => w (ix3 0 k l)) := by
  rw [← pay4_at s a b w (low r) l]
  pointwise [k0_pay6]

/-- The last tile: the sum of all tiles, halved, added to the residual, in the block's rows, -/
theorem pay8_at (s : FVec Ideal S1040x2048 .bf16) (a b : FVec Ideal S1x2048x256 .f32)
    (w : FVec Ideal S1x256x2048 .f32) (o x : FVec Ideal S1024x2048 .f32) (r : Fin 1024) (l : Fin 2048) :
    k0_pay8 (F := Ideal) s a b w o x (ix2 r l) = x (ix2 r l) + Ideal.ofBits .f32 0x3F000000#32 * (o (ix2 r l)
      + prod (fun e => s (ix2 (up r) e)) (fun e k => a (ix3 0 e k)) (fun e k => b (ix3 0 e k)) (fun k => w (ix3 0 k l))) := by
  rw [← pay7_at s a b w (up r) l]
  pointwise [k0_pay8]

/-- and in the meta tokens'. -/
theorem pay9_at (s : FVec Ideal S1040x2048 .bf16) (a b : FVec Ideal S1x2048x256 .f32)
    (w : FVec Ideal S1x256x2048 .f32) (o x : FVec Ideal S16x2048 .f32) (r : Fin 16) (l : Fin 2048) :
    k0_pay9 (F := Ideal) s a b w o x (ix2 r l) = x (ix2 r l) + Ideal.ofBits .f32 0x3F000000#32 * (o (ix2 r l)
      + prod (fun e => s (ix2 (low r) e)) (fun e k => a (ix3 0 e k)) (fun e k => b (ix3 0 e k)) (fun k => w (ix3 0 k l))) := by
  rw [← pay7_at s a b w (low r) l]
  pointwise [k0_pay9]

variable (m : (ℓ : Loc nD τ sig) → Buf (Elt Ideal) ℓ)

/-- Every window's block index at every grid point: 22 points per row block, one hidden tile each. -/
theorem blockIdx : ∀ t : Fin cfg0.N, win0_0.index t = ![t.val / 22, 0]
    ∧ win0_1.index t = ![0, 0]
    ∧ win0_2.index t = ![0, 0]
    ∧ win0_3.index t = ![0, 0, t.val % 22]
    ∧ win0_4.index t = ![0, 0, t.val % 22]
    ∧ win0_5.index t = ![0, t.val % 22, 0]
    ∧ win0_6.index t = ![t.val / 22, 0]
    ∧ win0_7.index t = ![0, 0] :=
  (by decide +kernel : ∀ t : Fin grid0.N, _)

/-- The grid has 176 points. -/
theorem lt_176 (t : Fin cfg0.N) : t.val < 176 := lt_of_lt_of_eq t.isLt N_0

/-- Row `r` of the row block of point `n`. -/
abbrev rowOf (n : ℕ) (hn : n < 176) (r : Fin 1024) : Fin 8192 := ⟨n / 22 * 1024 + r.val, by omega⟩

/-- The rows of the sequence, as the kernel and the reference read them. -/
abbrev seqRows (c : Dev nD) : FVec Ideal S8192x2048 .f32 :=
  shapeCast S8192x2048 (m ((c : Thread nD τ).loc main_arg0)) shapeCasts_S2x4096x2048_S8192x2048

/-- The row block at a point. -/
theorem blk_x (c : Dev nD) (t : Fin cfg0.N) (r : Fin 1024) (k : Fin 2048) :
    iblk m c 0 t (ix2 r k) = seqRows m c (ix2 (rowOf t.val (lt_176 t) r) k) := by
  have hV : V m c main_v0 = seqRows m c := by
    unfold V; simp only [hostOps0]; after_results_simp <;> rfl
  show V m c main_v0 _ = _
  rw [hV]
  blk_ext [blockIdx t]

/-- The meta tokens at a point. -/
theorem blk_m (c : Dev nD) (t : Fin cfg0.N) (r : Fin 16) (k : Fin 2048) :
    iblk m c 1 t (ix2 r k) = m ((c : Thread nD τ).loc main_arg1) (ix2 r k) := by
  blk_point [iblk, V, blockIdx t]

/-- The gain at a point. -/
theorem blk_g (c : Dev nD) (t : Fin cfg0.N) (k : Fin 2048) :
    iblk m c 2 t (ix2 0 k) = m ((c : Thread nD τ).loc main_arg2) (ix2 0 k) := by
  blk_point [iblk, V, blockIdx t]

/-- The gate weights' tile at a point. -/
theorem blk_wg (c : Dev nD) (t : Fin cfg0.N) (e : Fin 2048) (k : Fin 256) (h : t.val % 22 * 256 + k.val < 5632) :
    iblk m c 3 t (ix3 0 e k) = m ((c : Thread nD τ).loc main_arg3) (ix3 0 e ⟨t.val % 22 * 256 + k.val, h⟩) := by
  blk_point [iblk, V, blockIdx t]

/-- The up weights' tile at a point. -/
theorem blk_wu (c : Dev nD) (t : Fin cfg0.N) (e : Fin 2048) (k : Fin 256) (h : t.val % 22 * 256 + k.val < 5632) :
    iblk m c 4 t (ix3 0 e k) = m ((c : Thread nD τ).loc main_arg4) (ix3 0 e ⟨t.val % 22 * 256 + k.val, h⟩) := by
  blk_point [iblk, V, blockIdx t]

/-- The down weights' tile at a point. -/
theorem blk_wd (c : Dev nD) (t : Fin cfg0.N) (k : Fin 256) (l : Fin 2048) (h : t.val % 22 * 256 + k.val < 5632) :
    iblk m c 5 t (ix3 0 k l) = m ((c : Thread nD τ).loc main_arg5) (ix3 0 ⟨t.val % 22 * 256 + k.val, h⟩ l) := by
  blk_point [iblk, V, blockIdx t]

/-- The normalised row of the sequence a point works on, -/
abbrev xrow (c : Dev nD) (n : ℕ) (hn : n < 176) (r : Fin 1024) : Fin 2048 → EReal :=
  FfnMath.normed (fun k => seqRows m c (ix2 (rowOf n hn r) k)) (fun k => m ((c : Thread nD τ).loc main_arg2) (ix2 0 k))

/-- and that of a meta token. -/
abbrev mrow (c : Dev nD) (r : Fin 16) : Fin 2048 → EReal :=
  FfnMath.normed (fun k => m ((c : Thread nD τ).loc main_arg1) (ix2 r k)) (fun k => m ((c : Thread nD τ).loc main_arg2) (ix2 0 k))

/-- What hidden tile `j` adds to output column `l` of a normalised row. -/
abbrev part (c : Dev nD) (xn : Fin 2048 → EReal) (l : Fin 2048) (j : ℕ) : EReal :=
  FfnMath.tile 256 xn (fun e f => m ((c : Thread nD τ).loc main_arg3) (ix3 0 e f))
    (fun e f => m ((c : Thread nD τ).loc main_arg4) (ix3 0 e f))
    (fun f => m ((c : Thread nD τ).loc main_arg5) (ix3 0 f l)) j

/-- A point's product over its blocks is the tile's contribution. -/
theorem tile_at (c : Dev nD) (t : Fin cfg0.N) (l : Fin 2048) (xn xn' : Fin 2048 → EReal) (hx : xn' = xn) :
    prod xn' (fun e k => iblk m c 3 t (ix3 0 e k)) (fun e k => iblk m c 4 t (ix3 0 e k))
        (fun k => iblk m c 5 t (ix3 0 k l)) = part m c xn l (t.val % 22) := by
  subst hx
  refine Finset.sum_congr rfl fun k _ => ?_
  have h : t.val % 22 * 256 + k.val < 5632 := by omega
  rw [dif_pos h]
  exact congrArg₂ (· * ·) (congrArg₂ (FfnMath.act _) (funext fun e => blk_wg m c t e k h)
    (funext fun e => blk_wu m c t e k h)) (blk_wd m c t k l h)

/-- The rows a point stores in the scratch at a first tile are the normalised rows of the arrays. -/
theorem first_up (c : Dev nD) (t : Fin cfg0.N) (r : Fin 1024) (e : Fin 2048) :
    k0_pay10 (F := Ideal) (iblk m c 0 t) (iblk m c 2 t) (iblk m c 1 t) (iblk m c 2 t) (ix2 (up r) e)
      = xrow m c t.val (lt_176 t) r e :=
  (rows_up _ _ _ r e).trans (congrFun (congrArg₂ FfnMath.normed (funext fun k => blk_x m c t r k) (funext fun k => blk_g m c t k)) e)

theorem first_low (c : Dev nD) (t : Fin cfg0.N) (r : Fin 16) (e : Fin 2048) :
    k0_pay10 (F := Ideal) (iblk m c 0 t) (iblk m c 2 t) (iblk m c 1 t) (iblk m c 2 t) (ix2 (low r) e) = mrow m c r e :=
  (rows_low _ _ _ r e).trans (congrFun (congrArg₂ FfnMath.normed (funext fun k => blk_m m c t r k) (funext fun k => blk_g m c t k)) e)

/-- The sum of the first `n` tiles of a row, or, when there are 22, the finished row. -/
def upTo (c : Dev nD) (x : EReal) (xn : Fin 2048 → EReal) (l : Fin 2048) (n : ℕ) : EReal :=
  if n = 22 then x + Ideal.ofBits .f32 0x3F000000#32 * ∑ j ∈ Finset.range 22, part m c xn l j
  else ∑ j ∈ Finset.range n, part m c xn l j

theorem upTo_one (c : Dev nD) (x : EReal) (xn : Fin 2048 → EReal) (l : Fin 2048) :
    upTo m c x xn l 1 = part m c xn l 0 := by
  unfold upTo; rw [if_neg (by decide), Finset.sum_range_one]

theorem upTo_next (c : Dev nD) (x : EReal) (xn : Fin 2048 → EReal) (l : Fin 2048) (n : ℕ) (h : n < 21) :
    upTo m c x xn l (n + 1) = upTo m c x xn l n + part m c xn l n := by
  unfold upTo; rw [if_neg (by omega), if_neg (by omega), Finset.sum_range_succ]

theorem upTo_last (c : Dev nD) (x : EReal) (xn : Fin 2048 → EReal) (l : Fin 2048) :
    upTo m c x xn l 22 = x + Ideal.ofBits .f32 0x3F000000#32 * (upTo m c x xn l 21 + part m c xn l 21) := by
  unfold upTo; rw [if_pos rfl, if_neg (by decide), Finset.sum_range_succ]

/-- What a point leaves in the block's rows: the normalised rows in the scratch, the tiles so far in the output. -/
def LeavesX (c : Dev nD) (n : ℕ) (hn : n < 176) (o : Vec Ideal S1024x2048 .f32) (s : Vec Ideal S1040x2048 .bf16) : Prop :=
  ∀ r : Fin 1024, (∀ e : Fin 2048, s (ix2 (up r) e) = xrow m c n hn r e) ∧ ∀ l : Fin 2048,
    o (ix2 r l) = upTo m c (seqRows m c (ix2 (rowOf n hn r) l)) (xrow m c n hn r) l (n % 22 + 1)

/-- What it leaves in the meta tokens' rows: the same, the output finished once the first row block is. -/
def LeavesM (c : Dev nD) (n : ℕ) (o : Vec Ideal S16x2048 .f32) (s : Vec Ideal S1040x2048 .bf16) : Prop :=
  ∀ r : Fin 16, (∀ e : Fin 2048, s (ix2 (low r) e) = mrow m c r e) ∧ ∀ l : Fin 2048,
    o (ix2 r l) = upTo m c (m ((c : Thread nD τ).loc main_arg1) (ix2 r l)) (mrow m c r) l (min n 21 + 1)

/-- The step at a first tile, in the block's rows. -/
theorem stepX_first (c : Dev nD) (t : Fin cfg0.N) (h0 : t.val % 22 = 0) (o6 o7 s) :
    LeavesX m c t.val (lt_176 t) (next m c t o6 o7 s).1 (next m c t o6 o7 s).2.2 := by
  unfold next
  rw [if_pos h0]
  refine fun r => ⟨fun e => (pay11_at _ _ _ (up r) e).trans (first_up m c t r e), fun l => ?_⟩
  rw [h0, upTo_one]
  refine (pay2_at _ _ _ _ r l).trans ((tile_at m c t l _ _ (funext fun e => first_up m c t r e)).trans ?_)
  rw [h0]

/-- The step at a later tile, in the block's rows. -/
theorem stepX_next (c : Dev nD) (t : Fin cfg0.N) (h0 : ¬t.val % 22 = 0) (o6 o7 s)
    (ih : LeavesX m c (t.val - 1) (by have := lt_176 t; omega) o6 s) :
    LeavesX m c t.val (lt_176 t) (next m c t o6 o7 s).1 (next m c t o6 o7 s).2.2 := by
  have hrow : ∀ r, rowOf (t.val - 1) (by have := lt_176 t; omega) r = rowOf t.val (lt_176 t) r := fun r =>
    Fin.ext (by show (t.val - 1) / 22 * 1024 + r.val = t.val / 22 * 1024 + r.val; omega)
  have hn : (t.val - 1) % 22 + 1 = t.val % 22 := by omega
  unfold LeavesX xrow at ih
  simp only [hrow, hn] at ih
  unfold next
  rw [if_neg h0]
  by_cases h1 : t.val % 22 = 21
  · rw [if_pos h1]
    refine fun r => ⟨(ih r).1, fun l => ?_⟩
    rw [h1, upTo_last]
    refine (pay8_at _ _ _ _ _ _ r l).trans (Ideal.add_congr (blk_x m c t r l) (Ideal.mul_congr rfl (Ideal.add_congr ?_ ?_)))
    · rw [(ih r).2 l, h1]
    · rw [← h1]; exact tile_at m c t l _ _ (funext fun e => (ih r).1 e)
  · rw [if_neg h1]
    refine fun r => ⟨(ih r).1, fun l => ?_⟩
    rw [upTo_next m c _ _ l _ (by omega)]
    exact (pay5_at _ _ _ _ _ r l).trans (Ideal.add_congr ((ih r).2 l) (tile_at m c t l _ _ (funext fun e => (ih r).1 e)))

/-- The step at the first point, in the meta tokens' rows. -/
theorem stepM_first (c : Dev nD) (t : Fin cfg0.N) (h0 : t.val = 0) (o6 o7 s) :
    LeavesM m c t.val (next m c t o6 o7 s).2.1 (next m c t o6 o7 s).2.2 := by
  unfold next
  rw [if_pos (by omega), if_pos (by omega)]
  refine fun r => ⟨fun e => (pay11_at _ _ _ (low r) e).trans (first_low m c t r e), fun l => ?_⟩
  rw [show min t.val 21 + 1 = 1 by omega, upTo_one]
  refine (pay3_at _ _ _ _ r l).trans ((tile_at m c t l _ _ (funext fun e => first_low m c t r e)).trans ?_)
  rw [show t.val % 22 = 0 by omega]

/-- The step at a later point, in the meta tokens' rows. -/
theorem stepM_next (c : Dev nD) (t : Fin cfg0.N) (h0 : t.val ≠ 0) (o6 o7 s)
    (ih : LeavesM m c (t.val - 1) o7 s) :
    LeavesM m c t.val (next m c t o6 o7 s).2.1 (next m c t o6 o7 s).2.2 := by
  by_cases hm : t.val < 22
  · have hn : min (t.val - 1) 21 + 1 = t.val := by omega
    have hk : t.val % 22 = t.val := Nat.mod_eq_of_lt hm
    unfold LeavesM at ih
    simp only [hn] at ih
    unfold next
    rw [if_neg (by omega)]
    by_cases h1 : t.val % 22 = 21
    · rw [if_pos h1, if_pos hm]
      have ht : t.val = 21 := by omega
      refine fun r => ⟨(ih r).1, fun l => ?_⟩
      rw [show min t.val 21 + 1 = 22 by omega, upTo_last]
      refine (pay9_at _ _ _ _ _ _ r l).trans (Ideal.add_congr (blk_m m c t r l) (Ideal.mul_congr rfl (Ideal.add_congr ?_ ?_)))
      · rw [(ih r).2 l, ht]
      · rw [← h1]; exact tile_at m c t l _ _ (funext fun e => (ih r).1 e)
    · rw [if_neg h1, if_pos hm]
      refine fun r => ⟨(ih r).1, fun l => ?_⟩
      rw [show min t.val 21 + 1 = t.val + 1 by omega, upTo_next m c _ _ l _ (by omega)]
      refine (pay6_at _ _ _ _ _ r l).trans (Ideal.add_congr ((ih r).2 l) ?_)
      exact (tile_at m c t l _ _ (funext fun e => (ih r).1 e)).trans (by rw [hk])
  · have hn : min (t.val - 1) 21 = min t.val 21 := by omega
    unfold LeavesM at ih
    rw [hn] at ih
    unfold next
    by_cases h1 : t.val % 22 = 0
    · rw [if_pos h1, if_neg hm]
      exact fun r => ⟨fun e => (pay11_at _ _ _ (low r) e).trans (first_low m c t r e), (ih r).2⟩
    · rw [if_neg h1]
      by_cases h2 : t.val % 22 = 21
      · rw [if_pos h2, if_neg hm]; exact ih
      · rw [if_neg h2, if_neg hm]; exact ih

/-- Every point leaves what it should. -/
theorem leaves (c : Dev nD) : ∀ (n : ℕ) (hn : n < cfg0.N),
    LeavesX m c n (lt_of_lt_of_eq hn N_0) (state m c n hn).1 (state m c n hn).2.2
      ∧ LeavesM m c n (state m c n hn).2.1 (state m c n hn).2.2
  | 0, hn => by
    have e := state_zero m c ⟨0, hn⟩ rfl (state m c 0 hn).1 (state m c 0 hn).2.1 (state m c 0 hn).2.2
    rw [e]
    exact ⟨stepX_first m c ⟨0, hn⟩ rfl _ _ _, stepM_first m c ⟨0, hn⟩ rfl _ _ _⟩
  | n + 1, hn => by
    obtain ⟨ihx, ihm⟩ := leaves c n (Nat.lt_of_succ_lt hn)
    refine ⟨?_, stepM_next m c ⟨n + 1, hn⟩ (Nat.succ_ne_zero n) _ _ _ ihm⟩
    by_cases h0 : (n + 1) % 22 = 0
    · exact stepX_first m c ⟨n + 1, hn⟩ h0 _ _ _
    · exact stepX_next m c ⟨n + 1, hn⟩ h0 _ _ _ ihx

/-- The first result array after the run is the reference's term of the argument arrays. -/
theorem result_eq (c : Dev nD) : (dats m 0 c).arrAt 6 (cfgs 0).N
    = Cert.Ffn1RefIdeal.Whole.refTerm (seqRows m c) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t hf y => ?_
  have h21 : t.val % 22 = 21 := (flush0_6 t).mp hf
  blk_simp; rw [after6]
  idx_vars y
  refine (((leaves m c t.val t.isLt).1 y0).2 y1).trans ?_
  rw [h21]; unfold upTo
  rw [if_pos rfl, FfnMath.sum_tiles_256]
  have e : ((cfg0.win 6).blk t).view.emb (ix2 y0 y1) = ix2 (rowOf t.val (lt_176 t) y0) y1 := by blk_ext [blockIdx t]
  rw [e]
  exact (Cert.Ffn1RefIdeal.Whole.ref_at _ _ _ _ _ _ _).symm

/-- The second result array after the run is the reference's term of the argument arrays. -/
theorem meta_eq (c : Dev nD) : (dats m 0 c).arrAt 7 (cfgs 0).N
    = Cert.Ffn1RefIdeal.Whole.metaTerm (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 7 _ (by decide +kernel) fun t hf y => ?_
  have h21 : t.val % 176 = 175 := (flush0_7 t).mp hf
  blk_simp; rw [after7]
  idx_vars y
  refine (((leaves m c t.val t.isLt).2 y0).2 y1).trans ?_
  rw [show min t.val 21 + 1 = 22 by omega]; unfold upTo
  rw [if_pos rfl, FfnMath.sum_tiles_256]
  have e : ((cfg0.win 7).blk t).view.emb (ix2 y0 y1) = ix2 y0 y1 := by blk_ext [blockIdx t]
  rw [e]
  exact (Cert.Ffn1RefIdeal.Whole.meta_at _ _ _ _ _ _ _).symm

end Cert.Ffn1Ideal.Whole

end
-- ==== Proof.Ffn2Value.lean ====
/-
  What the second feed-forward half-step computes over the reals: the kernel's result array is the reference's composed
  term h + ½·swiglu(rmsnorm(h)) of the argument arrays. The kernel adds the down product up over 11 tiles of 512 hidden
  units, the normalised rows kept in a scratch from the first tile on.
-/
module

public import proofs.«01_k».proof.Proof.FfnMath
public import proofs.«01_k».proof.Proof.Gen.Ffn2Ideal.Frame
public import proofs.«01_k».proof.Proof.Gen.Ffn2RefIdeal.Run
public import Idealize.ShloMosaic.Lib.Pipeline.ValueKit
public import Idealize.ShloMosaic.Lib.Pipeline.ReadBack
public import Idealize.ShloMosaic.Lib.Pointwise
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.Ffn2RefIdeal.Whole

open Cert.Ffn2RefIdeal Cert.Ffn2RefIdeal.Gen

/-- The reference's result as one term of its five arguments. -/
def refTerm (a0 : FVec Ideal S8192x2048 .f32) (a1 : FVec Ideal S1x2048 .f32)
    (a2 a3 : FVec Ideal S1x2048x5632 .f32) (a4 : FVec Ideal S1x5632x2048 .f32) : FVec Ideal S8192x2048 .f32 :=
  addf a0 (mulf (broadcastInDim S8192x2048 ![] bcast_S_S8192x2048 (constant S_ .f32 0x3F000000#32)) (Host.dotGeneral dot_S8192x5632_S5632x2048_S8192x2048_1_0_0_1_n_n none (mulf (mulf (Host.dotGeneral dot_S8192x2048_S2048x5632_S8192x5632_1_0_0_1_n_n none (mulf (mulf a0 (broadcastInDim S8192x2048 ![0, 1] bcast_S8192x1_S8192x2048_0_1 (Host.rsqrt (addf (Host.divf (broadcastInDim S8192x1 ![0] bcast_S8192_S8192x1_0 (Host.reduceAdd (mulf a0 a0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ a1 shapeCasts_S1x2048_S2048)))) (shapeCast _ a2 shapeCasts_S1x2048x5632_S2048x5632)) (Host.divf (broadcastInDim S8192x5632 ![] bcast_S_S8192x5632 (constant S_ .f32 0x3F800000#32)) (addf (broadcastInDim S8192x5632 ![] bcast_S_S8192x5632 (constant S_ .f32 0x3F800000#32)) (Host.exp (Host.negf (Host.dotGeneral dot_S8192x2048_S2048x5632_S8192x5632_1_0_0_1_n_n none (mulf (mulf a0 (broadcastInDim S8192x2048 ![0, 1] bcast_S8192x1_S8192x2048_0_1 (Host.rsqrt (addf (Host.divf (broadcastInDim S8192x1 ![0] bcast_S8192_S8192x1_0 (Host.reduceAdd (mulf a0 a0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ a1 shapeCasts_S1x2048_S2048)))) (shapeCast _ a2 shapeCasts_S1x2048x5632_S2048x5632))))))) (Host.dotGeneral dot_S8192x2048_S2048x5632_S8192x5632_1_0_0_1_n_n none (mulf (mulf a0 (broadcastInDim S8192x2048 ![0, 1] bcast_S8192x1_S8192x2048_0_1 (Host.rsqrt (addf (Host.divf (broadcastInDim S8192x1 ![0] bcast_S8192_S8192x1_0 (Host.reduceAdd (mulf a0 a0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ a1 shapeCasts_S1x2048_S2048)))) (shapeCast _ a3 shapeCasts_S1x2048x5632_S2048x5632))) (shapeCast _ a4 shapeCasts_S1x5632x2048_S5632x2048)))

set_option maxHeartbeats 1600000 in
/-- The reference's result at row `r`, column `l`. -/
theorem ref_at (a0 : FVec Ideal S8192x2048 .f32) (a1 : FVec Ideal S1x2048 .f32)
    (a2 a3 : FVec Ideal S1x2048x5632 .f32) (a4 : FVec Ideal S1x5632x2048 .f32) (r : Fin 8192) (l : Fin 2048) :
    refTerm a0 a1 a2 a3 a4 (ix2 r l) = a0 (ix2 r l) + Ideal.ofBits .f32 0x3F000000#32 *
      FfnMath.whole (FfnMath.normed (fun k => a0 (ix2 r k)) (fun k => a1 (ix2 0 k)))
        (fun e f => a2 (ix3 0 e f)) (fun e f => a3 (ix3 0 e f)) (fun f => a4 (ix3 0 f l)) := by
  pointwise [refTerm, FfnMath.whole, FfnMath.act, FfnMath.normed, Ideal.logistic]

end Cert.Ffn2RefIdeal.Whole

namespace Cert.Ffn2Ideal.Whole

open Cert.Ffn2Ideal Cert.Ffn2Ideal.Gen

/-- The normalised row a point stores in the scratch. -/
theorem pay2_at (x : FVec Ideal S1024x2048 .f32) (g : FVec Ideal S1x2048 .f32) (r : Fin 1024) (e : Fin 2048) :
    k0_pay2 (F := Ideal) x g (ix2 r e) = FfnMath.normed (fun k => x (ix2 r k)) (fun k => g (ix2 0 k)) e := by
  pointwise [k0_pay2, k0_pay1, FfnMath.normed]

/-- The first tile's product, over the freshly normalised rows. -/
theorem pay3_at (x : FVec Ideal S1024x2048 .f32) (g : FVec Ideal S1x2048 .f32) (a b : FVec Ideal S1x2048x512 .bf16)
    (w : FVec Ideal S1x512x2048 .bf16) (r : Fin 1024) (l : Fin 2048) :
    k0_pay3 (F := Ideal) x g a b w (ix2 r l) = ∑ k : Fin 512,
      FfnMath.act (FfnMath.normed (fun k => x (ix2 r k)) (fun k => g (ix2 0 k))) (fun e => a (ix3 0 e k))
        (fun e => b (ix3 0 e k)) * w (ix3 0 k l) := by
  pointwise [k0_pay3, k0_pay1, FfnMath.normed, FfnMath.act]

/-- A middle tile's product added to what the earlier tiles left. -/
theorem pay4_at (xn : FVec Ideal S1024x2048 .bf16) (a b : FVec Ideal S1x2048x512 .bf16)
    (w : FVec Ideal S1x512x2048 .bf16) (o : FVec Ideal S1024x2048 .f32) (r : Fin 1024) (l : Fin 2048) :
    k0_pay4 xn a b w o (ix2 r l) = o (ix2 r l) + ∑ k : Fin 512,
      FfnMath.act (fun e => xn (ix2 r e)) (fun e => a (ix3 0 e k)) (fun e => b (ix3 0 e k)) * w (ix3 0 k l) := by
  pointwise [k0_pay4, FfnMath.act]

/-- The last tile: the sum of all tiles, halved, added to the residual row. -/
theorem pay5_at (xn : FVec Ideal S1024x2048 .bf16) (a b : FVec Ideal S1x2048x512 .bf16)
    (w : FVec Ideal S1x512x2048 .bf16) (o x : FVec Ideal S1024x2048 .f32) (r : Fin 1024) (l : Fin 2048) :
    k0_pay5 xn a b w o x (ix2 r l) = x (ix2 r l) + Ideal.ofBits .f32 0x3F000000#32 * (o (ix2 r l) + ∑ k : Fin 512,
      FfnMath.act (fun e => xn (ix2 r e)) (fun e => a (ix3 0 e k)) (fun e => b (ix3 0 e k)) * w (ix3 0 k l)) := by
  pointwise [k0_pay5, FfnMath.act]

variable (m : (ℓ : Loc nD τ sig) → Buf (Elt Ideal) ℓ)

/-- Every window's block index at every grid point: eleven points per row block, one hidden tile each. -/
theorem blockIdx : ∀ t : Fin cfg0.N, win0_0.index t = ![t.val / 11, 0]
    ∧ win0_1.index t = ![0, 0]
    ∧ win0_2.index t = ![0, 0, t.val % 11]
    ∧ win0_3.index t = ![0, 0, t.val % 11]
    ∧ win0_4.index t = ![0, t.val % 11, 0]
    ∧ win0_5.index t = ![t.val / 11, 0] :=
  (by decide +kernel : ∀ t : Fin grid0.N, _)

/-- The grid has 88 points. -/
theorem lt_88 (t : Fin cfg0.N) : t.val < 88 := lt_of_lt_of_eq t.isLt N_0

/-- Row `r` of row block `g`. -/
abbrev rowOf (n : ℕ) (hn : n < 88) (r : Fin 1024) : Fin 8192 := ⟨n / 11 * 1024 + r.val, by omega⟩

/-- The input row block at a point. -/
theorem blk_x (c : Dev nD) (t : Fin cfg0.N) (r : Fin 1024) (k : Fin 2048) :
    iblk m c 0 t (ix2 r k) = m ((c : Thread nD τ).loc main_arg0) (ix2 (rowOf t.val (lt_88 t) r) k) := by
  blk_ext [iblk, V, blockIdx t]

/-- The gain at a point. -/
theorem blk_g (c : Dev nD) (t : Fin cfg0.N) (k : Fin 2048) :
    iblk m c 1 t (ix2 0 k) = m ((c : Thread nD τ).loc main_arg1) (ix2 0 k) := by
  blk_point [iblk, V, blockIdx t]

/-- The gate weights' tile at a point. -/
theorem blk_wg (c : Dev nD) (t : Fin cfg0.N) (e : Fin 2048) (k : Fin 512) (h : t.val % 11 * 512 + k.val < 5632) :
    iblk m c 2 t (ix3 0 e k) = m ((c : Thread nD τ).loc main_arg2) (ix3 0 e ⟨t.val % 11 * 512 + k.val, h⟩) := by
  blk_point [iblk, V, blockIdx t]

/-- The up weights' tile at a point. -/
theorem blk_wu (c : Dev nD) (t : Fin cfg0.N) (e : Fin 2048) (k : Fin 512) (h : t.val % 11 * 512 + k.val < 5632) :
    iblk m c 3 t (ix3 0 e k) = m ((c : Thread nD τ).loc main_arg3) (ix3 0 e ⟨t.val % 11 * 512 + k.val, h⟩) := by
  blk_point [iblk, V, blockIdx t]

/-- The down weights' tile at a point. -/
theorem blk_wd (c : Dev nD) (t : Fin cfg0.N) (k : Fin 512) (l : Fin 2048) (h : t.val % 11 * 512 + k.val < 5632) :
    iblk m c 4 t (ix3 0 k l) = m ((c : Thread nD τ).loc main_arg4) (ix3 0 ⟨t.val % 11 * 512 + k.val, h⟩ l) := by
  blk_point [iblk, V, blockIdx t]

/-- The normalised row of the array a point works on. -/
abbrev xrow (c : Dev nD) (n : ℕ) (hn : n < 88) (r : Fin 1024) : Fin 2048 → EReal :=
  FfnMath.normed (fun k => m ((c : Thread nD τ).loc main_arg0) (ix2 (rowOf n hn r) k))
    (fun k => m ((c : Thread nD τ).loc main_arg1) (ix2 0 k))

/-- What hidden tile `j` adds to the row's output column `l`. -/
abbrev part (c : Dev nD) (n : ℕ) (hn : n < 88) (r : Fin 1024) (l : Fin 2048) (j : ℕ) : EReal :=
  FfnMath.tile 512 (xrow m c n hn r) (fun e f => m ((c : Thread nD τ).loc main_arg2) (ix3 0 e f))
    (fun e f => m ((c : Thread nD τ).loc main_arg3) (ix3 0 e f))
    (fun f => m ((c : Thread nD τ).loc main_arg4) (ix3 0 f l)) j

/-- A point's product over its blocks is the tile's contribution. -/
theorem tile_at (c : Dev nD) (t : Fin cfg0.N) (r : Fin 1024) (l : Fin 2048) (xn : Fin 2048 → EReal)
    (hx : xn = xrow m c t.val (lt_88 t) r) :
    (∑ k : Fin 512, FfnMath.act xn (fun e => iblk m c 2 t (ix3 0 e k)) (fun e => iblk m c 3 t (ix3 0 e k))
        * (show EReal from iblk m c 4 t (ix3 0 k l))) = part m c t.val (lt_88 t) r l (t.val % 11) := by
  subst hx
  refine Finset.sum_congr rfl fun k _ => ?_
  have h : t.val % 11 * 512 + k.val < 5632 := by omega
  rw [dif_pos h]
  exact congrArg₂ (· * ·) (congrArg₂ (FfnMath.act _) (funext fun e => blk_wg m c t e k h)
    (funext fun e => blk_wu m c t e k h)) (blk_wd m c t k l h)

/-- The row a point normalises is the array's. -/
theorem row_at (c : Dev nD) (t : Fin cfg0.N) (r : Fin 1024) :
    FfnMath.normed (fun k => iblk m c 0 t (ix2 r k)) (fun k => iblk m c 1 t (ix2 0 k)) = xrow m c t.val (lt_88 t) r :=
  congrArg₂ FfnMath.normed (funext fun k => blk_x m c t r k) (funext fun k => blk_g m c t k)

/-- What a point leaves: the normalised rows in the scratch; in the output block the tiles so far added up, or, at the
    last of the eleven points, the finished rows. -/
def Leaves (c : Dev nD) (n : ℕ) (hn : n < 88) (o : Vec Ideal S1024x2048 .f32) (s : Vec Ideal S1024x2048 .bf16) : Prop :=
  ∀ r : Fin 1024, (∀ e : Fin 2048, s (ix2 r e) = xrow m c n hn r e) ∧ ∀ l : Fin 2048,
    o (ix2 r l) = if n % 11 = 10 then (show EReal from m ((c : Thread nD τ).loc main_arg0) (ix2 (rowOf n hn r) l))
        + Ideal.ofBits .f32 0x3F000000#32 * ∑ j ∈ Finset.range 11, part m c n hn r l j
      else ∑ j ∈ Finset.range (n % 11 + 1), part m c n hn r l j

/-- The first of a row block's points. -/
theorem leaves_first (c : Dev nD) (t : Fin cfg0.N) (h0 : t.val % 11 = 0) :
    Leaves m c t.val (lt_88 t) (outsAt0 m c t.val t.isLt).1 (outsAt0 m c t.val t.isLt).2 := by
  intro r
  rw [outsAt0_A m c t h0 (by omega) (by omega)]
  refine ⟨fun e => ?_, fun l => ?_⟩
  · frame_out
    exact (pay2_at _ _ r e).trans (congrFun (row_at m c t r) e)
  · have hs : ∑ j ∈ Finset.range (t.val % 11 + 1), part m c t.val (lt_88 t) r l j
        = part m c t.val (lt_88 t) r l (t.val % 11) := by rw [h0, zero_add, Finset.sum_range_one]
    rw [if_neg (by omega), hs]
    frame_out
    exact (pay3_at _ _ _ _ _ r l).trans (tile_at m c t r l _ (row_at m c t r))

set_option maxHeartbeats 1600000 in
/-- A later point, from what the point before left. -/
theorem leaves_next (c : Dev nD) (t : Fin cfg0.N) (h0 : ¬t.val % 11 = 0)
    (ih : Leaves m c (t.val - 1) (by have := lt_88 t; omega)
      (outsAt0 m c (t.val - 1) (Nat.lt_of_le_of_lt (Nat.sub_le _ _) t.isLt)).1
      (outsAt0 m c (t.val - 1) (Nat.lt_of_le_of_lt (Nat.sub_le _ _) t.isLt)).2) :
    Leaves m c t.val (lt_88 t) (outsAt0 m c t.val t.isLt).1 (outsAt0 m c t.val t.isLt).2 := by
  have hrow : ∀ r, rowOf (t.val - 1) (by have := lt_88 t; omega) r = rowOf t.val (lt_88 t) r := fun r =>
    Fin.ext (by show (t.val - 1) / 11 * 1024 + r.val = t.val / 11 * 1024 + r.val; omega)
  intro r
  obtain ⟨ihs, iho⟩ := ih r
  have hs : (fun e => (outsAt0 m c (t.val - 1) (Nat.lt_of_le_of_lt (Nat.sub_le _ _) t.isLt)).2 (ix2 r e))
      = xrow m c t.val (lt_88 t) r := funext fun e => by rw [ihs e]; unfold xrow; rw [hrow]
  have ho : ∀ l, (outsAt0 m c (t.val - 1) (Nat.lt_of_le_of_lt (Nat.sub_le _ _) t.isLt)).1 (ix2 r l)
      = ∑ j ∈ Finset.range (t.val % 11), part m c t.val (lt_88 t) r l j := fun l => by
    rw [iho l, if_neg (by omega), show (t.val - 1) % 11 + 1 = t.val % 11 by omega]
    unfold part xrow; rw [hrow]
  have hsum : ∀ l, (∑ j ∈ Finset.range (t.val % 11), part m c t.val (lt_88 t) r l j)
      + part m c t.val (lt_88 t) r l (t.val % 11)
      = ∑ j ∈ Finset.range (t.val % 11 + 1), part m c t.val (lt_88 t) r l j := fun l =>
    (Finset.sum_range_succ _ _).symm
  by_cases h2 : t.val % 11 = 10
  · rw [outsAt0_C m c t h0 (by omega) h2]
    refine ⟨fun e => congrFun hs e, fun l => ?_⟩
    rw [if_pos h2]
    frame_out
    rw [read_unread_whole]
    refine (pay5_at _ _ _ _ _ _ r l).trans ?_
    refine Ideal.add_congr (blk_x m c t r l) (Ideal.mul_congr rfl ?_)
    refine (Ideal.add_congr (ho l) (tile_at m c t r l _ hs)).trans ?_
    exact (hsum l).trans (by rw [h2])
  · rw [outsAt0_B m c t h0 (by omega) h2]
    refine ⟨fun e => congrFun hs e, fun l => ?_⟩
    rw [if_neg h2]
    frame_out
    rw [read_unread_whole]
    refine (pay4_at _ _ _ _ _ r l).trans ?_
    refine (Ideal.add_congr (ho l) (tile_at m c t r l _ hs)).trans ?_
    exact hsum l

/-- Every point leaves what it should. -/
theorem leaves (c : Dev nD) : ∀ (n : ℕ) (hn : n < cfg0.N),
    Leaves m c n (lt_of_lt_of_eq hn N_0) (outsAt0 m c n hn).1 (outsAt0 m c n hn).2
  | 0, hn => leaves_first m c ⟨0, hn⟩ rfl
  | n + 1, hn => by
    by_cases h0 : (n + 1) % 11 = 0
    · exact leaves_first m c ⟨n + 1, hn⟩ h0
    · exact leaves_next m c ⟨n + 1, hn⟩ h0 (leaves c n (Nat.lt_of_succ_lt hn))

/-- The result array after the run is the reference's term of the argument arrays. -/
theorem result_eq (c : Dev nD) : (dats m 0 c).arrAt 5 (cfgs 0).N
    = Cert.Ffn2RefIdeal.Whole.refTerm (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t hf y => ?_
  have h10 : t.val % 11 = 10 := (flush0_5 t).mp hf
  blk_simp; rw [after0_5]
  idx_vars y
  refine ((leaves m c t.val t.isLt y0).2 y1).trans ?_
  rw [if_pos h10, FfnMath.sum_tiles_512]
  have e : ((cfg0.win 5).blk t).view.emb (ix2 y0 y1) = ix2 (rowOf t.val (lt_88 t) y0) y1 := by blk_ext [blockIdx t]
  rw [e]
  exact (Cert.Ffn2RefIdeal.Whole.ref_at _ _ _ _ _ _ _).symm

end Cert.Ffn2Ideal.Whole

end
-- ==== Proof.InprojIdeal.Body.lean ====
module

public import proofs.«01_k».proof.Proof.Gen.InprojIdeal.Skeleton
public import proofs.«01_k».proof.Proof.Gen.InprojIdeal.Frame
public import Idealize.ShloMosaic.Lib.Pipeline.ValueKit
public import Idealize.ShloMosaic.Lib.Pipeline.ReadBack
public import Idealize.ShloMosaic.Lib.WritesUnit

/-! # The body of the input projection, case by case

At the first column tile of a block of rows the body normalises the rows into scratch and stores the running sums of the
forget gates' logarithms; the first block of rows also does this for the meta tokens. At every column tile it multiplies
the normalised rows by the tile's weights: the first two tiles normalise the result head by head, the others scale it.
Each theorem below says what the outputs and the scratch hold afterwards, in terms of what the memrefs held before. -/

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InprojIdeal Cert.InprojIdeal.Gen

namespace Cert.InprojIdeal.Body

variable {F : FTy → Type} [FloatOps F]

local notation "𝕄" => MT nD τ sig Unit (Elt F) ℕ (UR sig nD τ) ℕ

/-- The rows of a block in the upper part of the scratch, the rest being as it was. -/
def over (a : Vec F S1024x2048 .bf16) (s : Vec F S1040x2048 .bf16) : Vec F S1040x2048 .bf16 := fun y =>
  if h : 0 ≤ (y (0 : Fin 2)).val ∧ (y (0 : Fin 2)).val < 0 + 1024 then
    a (Rect.unitLocal (s := S1040x2048) (off := ![0, 0]) (size := S1024x2048.size) y (Rect.unit_rows_mem y rfl rfl h))
  else s y

/-- The rows of a block above those of the meta tokens: the contents of the scratch. -/
def stack (a : Vec F S1024x2048 .bf16) (b : Vec F S16x2048 .bf16) : Vec F S1040x2048 .bf16 :=
  View.canon [⟨Rect.unit (s := S1040x2048) ![1024, 0] S16x2048.size inb_S1040x2048_S16x2048_1024_0, b⟩,
    ⟨Rect.unit (s := S1040x2048) ![0, 0] S1024x2048.size inb_S1040x2048_S1024x2048_0_0, a⟩]

/-- A column tile normalised head by head: the block's rows, -/
def headed (s : Vec F S1040x2048 .bf16) (w : Vec F S1024x2048 .f32) (g : Vec F S1x1024 .f32) : Vec F S1024x1024 .bf16 :=
  k0_pay40 (k0_pay28 s w) (k0_pay29 s w (View.ld g (Rect.unit (s := S1x1024) ![0, 0] S1x128.size inb_S1x1024_S1x128_0_0))) (k0_pay30 s w (View.ld g (Rect.unit (s := S1x1024) ![0, 128] S1x128.size inb_S1x1024_S1x128_0_128))) (k0_pay34 (k0_pay31 s w) (k0_pay32 (View.ld g (Rect.unit (s := S1x1024) ![0, 256] S1x128.size inb_S1x1024_S1x128_0_256))) (k0_pay33 s w)) (k0_pay35 (k0_pay28 s w) (View.ld g (Rect.unit (s := S1x1024) ![0, 384] S1x128.size inb_S1x1024_S1x128_0_384))) (k0_pay36 (k0_pay28 s w) (View.ld g (Rect.unit (s := S1x1024) ![0, 512] S1x128.size inb_S1x1024_S1x128_0_512))) (k0_pay37 (k0_pay28 s w)) (k0_pay38 (View.ld g (Rect.unit (s := S1x1024) ![0, 640] S1x128.size inb_S1x1024_S1x128_0_640))) (View.ld g (Rect.unit (s := S1x1024) ![0, 768] S1x128.size inb_S1x1024_S1x128_0_768)) (View.ld g (Rect.unit (s := S1x1024) ![0, 896] S1x128.size inb_S1x1024_S1x128_0_896))

/-- and the meta tokens' rows. -/
def headedMeta (s : Vec F S1040x2048 .bf16) (w : Vec F S1024x2048 .f32) (g : Vec F S1x1024 .f32) : Vec F S1x128x1024 .bf16 :=
  k0_pay2 (k0_pay39 (k0_pay28 s w) (k0_pay29 s w (View.ld g (Rect.unit (s := S1x1024) ![0, 0] S1x128.size inb_S1x1024_S1x128_0_0))) (k0_pay30 s w (View.ld g (Rect.unit (s := S1x1024) ![0, 128] S1x128.size inb_S1x1024_S1x128_0_128))) (k0_pay34 (k0_pay31 s w) (k0_pay32 (View.ld g (Rect.unit (s := S1x1024) ![0, 256] S1x128.size inb_S1x1024_S1x128_0_256))) (k0_pay33 s w)) (k0_pay35 (k0_pay28 s w) (View.ld g (Rect.unit (s := S1x1024) ![0, 384] S1x128.size inb_S1x1024_S1x128_0_384))) (k0_pay36 (k0_pay28 s w) (View.ld g (Rect.unit (s := S1x1024) ![0, 512] S1x128.size inb_S1x1024_S1x128_0_512))) (k0_pay37 (k0_pay28 s w)) (k0_pay38 (View.ld g (Rect.unit (s := S1x1024) ![0, 640] S1x128.size inb_S1x1024_S1x128_0_640))) (View.ld g (Rect.unit (s := S1x1024) ![0, 768] S1x128.size inb_S1x1024_S1x128_0_768)) (View.ld g (Rect.unit (s := S1x1024) ![0, 896] S1x128.size inb_S1x1024_S1x128_0_896)))

/-- The last quarter of the running sums of a block of rows, whose sums so far are `d`. -/
def lastSums (a : Vec F S1024x2048 .bf16) (d : Vec F S1x128 .f32) (x5 : Vec F S128x2048 .bf16) (x6 : Vec F S1x128 .f32) : Vec F S256x128 .f32 :=
  k0_pay27 k0_pay17 (k0_pay18 a x5 x6) (k0_pay20 a x5 x6) (k0_pay21 a x5 x6) (k0_pay23 a d x5 x6) (k0_pay24 a x5 x6)

/-- The running sums of a block of rows, a quarter at a time. -/
def sums (a : Vec F S1024x2048 .bf16) (d : Vec F S1x128 .f32) (x5 : Vec F S128x2048 .bf16) (x6 : Vec F S1x128 .f32) : Vec F S1024x128 .f32 :=
  View.canon [⟨Rect.unit (s := S1024x128) ![768, 0] S256x128.size inb_S1024x128_S256x128_768_0, lastSums a d x5 x6⟩,
    ⟨Rect.unit (s := S1024x128) ![512, 0] S256x128.size inb_S1024x128_S256x128_512_0, k0_pay26 k0_pay17 (k0_pay18 a x5 x6) (k0_pay20 a x5 x6) (k0_pay21 a x5 x6) (k0_pay23 a d x5 x6) (k0_pay24 a x5 x6)⟩,
    ⟨Rect.unit (s := S1024x128) ![256, 0] S256x128.size inb_S1024x128_S256x128_256_0, k0_pay25 k0_pay17 (k0_pay20 a x5 x6) (k0_pay21 a x5 x6) (k0_pay23 a d x5 x6) (k0_pay24 a x5 x6)⟩,
    ⟨Rect.unit (s := S1024x128) ![0, 0] S256x128.size inb_S1024x128_S256x128_0_0, k0_pay22 a d x5 x6⟩]

/-- The meta tokens' running sums, -/
def metaSums (x1 : Vec F S16x2048 .f32) (x2 : Vec F S1x2048 .f32) (x5 : Vec F S128x2048 .bf16) (x6 : Vec F S1x128 .f32) : Vec F S16x128 .f32 :=
  k0_pay13 k0_pay8 (k0_pay9 x1 x2 x5 x6) k0_pay10

/-- and the last of them. -/
def metaLast (x1 : Vec F S16x2048 .f32) (x2 : Vec F S1x2048 .f32) (x5 : Vec F S128x2048 .bf16) (x6 : Vec F S1x128 .f32) : Vec F S1x128 .f32 :=
  k0_pay14 k0_pay8 (k0_pay9 x1 x2 x5 x6) k0_pay10

/-- The body's third test: a block of rows begins a sequence. -/
def begins (i : grid0.Coords) : BitVec 1 :=
  let arg0 : BitVec 32 := BitVec.ofNat 32 (i 0).val
  let v31 : BitVec 1 := Scalar.cmpi .eq 4#32 0#32
  let v32 : BitVec 32 := Scalar.select v31 1#32 4#32
  let v33 : BitVec 32 := Scalar.remsi arg0 v32
  let v34 : BitVec 1 := Scalar.cmpi .ne v33 0#32
  let v35 : BitVec 1 := Scalar.cmpi .slt v33 0#32
  let v36 : BitVec 1 := Scalar.cmpi .slt v32 0#32
  let v37 : BitVec 1 := Scalar.xori v35 v36
  let v38 : BitVec 1 := Scalar.andi v37 v34
  let v39 : BitVec 32 := Scalar.addi v33 v32
  let v40 : BitVec 32 := Scalar.select v38 v39 v33
  let v41 : BitVec 1 := Scalar.cmpi .eq v40 0#32
  let v42 : BitVec 32 := Scalar.extui v41
  let v43 : BitVec 1 := Scalar.cmpi .ne v42 0#32
  v43

/-- A store of a block's rows over some contents of the scratch, read back. -/
theorem read_over {m : Memref sig .tc .vmem S1040x2048 .bf16} (h : m.IsWhole) (a : Vec F S1024x2048 .bf16) (s : Vec F S1040x2048 .bf16) :
    m.view.read (Elt F) (m.view.writes (Elt F) (h.unread s)
      [⟨Rect.unit (s := S1040x2048) ![0, 0] ![1024, 2048] inb_S1040x2048_S1024x2048_0_0, a⟩]) = over a s := by
  funext y
  refine (View.read_writes_cons_rows (d := ![1040, 2048]) (o := 0) (W := 1024) m.view (h.unread s)
    inb_S1040x2048_S1024x2048_0_0 a [] y rfl rfl rfl).trans ?_
  unfold over
  split
  · rfl
  · exact congrFun (h.read_unread s) y

/-- The two stores of the first point into the scratch, read back. -/
theorem read_stack (m : Memref sig .tc .vmem S1040x2048 .bf16) (a : Vec F S1024x2048 .bf16) (b : Vec F S16x2048 .bf16) :
    m.view.readCov [⟨Rect.unit (s := S1040x2048) ![1024, 0] ![16, 2048] inb_S1040x2048_S16x2048_1024_0, b⟩,
      ⟨Rect.unit (s := S1040x2048) ![0, 0] ![1024, 2048] inb_S1040x2048_S1024x2048_0_0, a⟩]
      (Rect.unit (s := S1040x2048) ![0, 0] ![1040, 2048] inb_S1040x2048_S1040x2048_0_0).toLoadRect = stack a b := by
  rw [View.readCov_eq_canon']
  exact View.ld_unit_lit' (S := S1040x2048) _ _ (by decide)

set_option maxHeartbeats 4000000 in
/-- The first column tile of the first block of rows. -/
theorem run_zero (c : Dev nD) (i : grid0.Coords) (arg2 : Memref sig .tc .vmem S1024x2048 .f32) (harg2 : arg2.IsWhole) (arg3 : Memref sig .tc .vmem S16x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1x1024 .f32) (harg6 : arg6.IsWhole) (arg7 : Memref sig .tc .vmem S128x2048 .bf16) (harg7 : arg7.IsWhole) (arg8 : Memref sig .tc .vmem S1x128 .f32) (harg8 : arg8.IsWhole) (arg9 : Memref sig .tc .vmem S1024x1024 .bf16) (harg9 : arg9.IsWhole) (arg10 : Memref sig .tc .vmem S1024x128 .f32) (harg10 : arg10.IsWhole) (arg11 : Memref sig .tc .vmem S1x128x1024 .bf16) (harg11 : arg11.IsWhole) (arg12 : Memref sig .tc .vmem S16x128 .f32) (harg12 : arg12.IsWhole) (arg13 : Memref sig .tc .vmem S1040x2048 .bf16) (harg13 : arg13.IsWhole) (arg14 : Memref sig .tc .vmem S1x128 .f32) (harg14 : arg14.IsWhole) (arg15 : Memref sig .tc .vmem S1x128 .f32) (harg15 : arg15.IsWhole)
    (hc1 : k0_cond1 i = 1#1) (hc2 : k0_cond2 i = 1#1) (hc3 : begins i = 1#1) (hc4 : k0_cond4 i = 1#1) (hc5 : ¬k0_cond5 i = 1#1)
    (x0 : Vec F S1024x2048 .f32) (x1 : Vec F S16x2048 .f32) (x2 : Vec F S1x2048 .f32) (x3 : Vec F S1024x2048 .f32) (x4 : Vec F S1x1024 .f32) (x5 : Vec F S128x2048 .bf16) (x6 : Vec F S1x128 .f32) (o7 : Vec F S1024x1024 .bf16) (o8 : Vec F S1024x128 .f32) (o9 : Vec F S1x128x1024 .bf16) (o10 : Vec F S16x128 .f32) (s : Vec F S1040x2048 .bf16) (d : Vec F S1x128 .f32) (z : Vec F S1x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare o7 ∗ owns (c : Thread nD τ) arg10 fullShare o8 ∗ owns (c : Thread nD τ) arg11 fullShare o9 ∗ owns (c : Thread nD τ) arg12 fullShare o10 ∗ owns (c : Thread nD τ) arg13 fullShare s ∗ owns (c : Thread nD τ) arg14 fullShare d ∗ owns (c : Thread nD τ) arg15 fullShare z
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (headed (stack (k0_pay12 x0 x2) (k0_pay7 x1 x2)) x3 x4) ∗ owns (c : Thread nD τ) arg10 fullShare (sums (k0_pay11 x0 x2) (k0_pay15 (metaLast x1 x2 x5 x6)) x5 x6) ∗ owns (c : Thread nD τ) arg11 fullShare (headedMeta (stack (k0_pay12 x0 x2) (k0_pay7 x1 x2)) x3 x4) ∗ owns (c : Thread nD τ) arg12 fullShare (metaSums x1 x2 x5 x6) ∗ owns (c : Thread nD τ) arg13 fullShare (stack (k0_pay12 x0 x2) (k0_pay7 x1 x2)) ∗ owns (c : Thread nD τ) arg14 fullShare (k0_pay1 (lastSums (k0_pay11 x0 x2) (k0_pay15 (metaLast x1 x2 x5 x6)) x5 x6)) ∗ owns (c : Thread nD τ) arg15 fullShare (metaLast x1 x2 x5 x6)) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
  sl_exec_parts (disch := first | sl_exact hc1 | sl_exact hc2 | sl_exact hc3 | sl_exact hc4 | sl_exact hc5)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    delta run_zero.sl.r run_zero.sl.r_1 run_zero.sl.r_2 run_zero.sl.r_3 run_zero.sl.r_4 run_zero.sl.r_5 run_zero.sl.r_6 run_zero.sl.r_7 run_zero.sl.r_8 run_zero.sl.r_9 run_zero.sl.r_10 run_zero.sl.r_11 run_zero.sl.r_12 run_zero.sl.r_13 run_zero.sl.r_14 run_zero.sl.r_15 run_zero.sl.r_16 run_zero.sl.r_17 run_zero.sl.r_18 run_zero.sl.r_19 run_zero.sl.r_20 run_zero.sl.v9 run_zero.sl.v44 run_zero.sl.H8_1 run_zero.sl.H8_4 run_zero.sl.H10_1 run_zero.sl.H11_1 run_zero.sl.H11_2 run_zero.sl.H12_1 run_zero.sl.H12_2 run_zero.sl.H13_1 run_zero.sl.v134
    rw [View.read_writes_eq_canon _ _ _ (View.cover_of_tiledL (s := S1024x1024) _ S1024x1024.size (by sl_kernel_rfl))]
    simp (disch := decide) only [read_stack, metaSums, metaLast, headed, headedMeta, lastSums, sums, View.canon_cons_unit_lit', View.ld_unit_lit', View.readAt_eq_ld, Memref.IsWhole.read_unread, View.readCov_unit_lit', View.readCov_cons_unit_lit', View.readCov_eq_canon_ld, read_over]
  isplitl [H8]
  · iexists _; isplitr; swap; · iexact H8
    ipureintro
    delta run_zero.sl.r run_zero.sl.r_1 run_zero.sl.r_2 run_zero.sl.r_3 run_zero.sl.r_4 run_zero.sl.r_5 run_zero.sl.r_6 run_zero.sl.r_7 run_zero.sl.r_8 run_zero.sl.r_9 run_zero.sl.r_10 run_zero.sl.r_11 run_zero.sl.r_12 run_zero.sl.r_13 run_zero.sl.r_14 run_zero.sl.r_15 run_zero.sl.r_16 run_zero.sl.r_17 run_zero.sl.r_18 run_zero.sl.r_19 run_zero.sl.r_20 run_zero.sl.v9 run_zero.sl.v44 run_zero.sl.H8_1 run_zero.sl.H8_4 run_zero.sl.H10_1 run_zero.sl.H11_1 run_zero.sl.H11_2 run_zero.sl.H12_1 run_zero.sl.H12_2 run_zero.sl.H13_1 run_zero.sl.v134
    rw [View.read_writes_eq_canon _ _ _ (View.cover_of_tiledL (s := S1024x128) _ S256x128.size (by sl_kernel_rfl))]
    simp (disch := decide) only [read_stack, metaSums, metaLast, headed, headedMeta, lastSums, sums, View.canon_cons_unit_lit', View.ld_unit_lit', View.readAt_eq_ld, Memref.IsWhole.read_unread, View.readCov_unit_lit', View.readCov_cons_unit_lit', View.readCov_eq_canon_ld, read_over]
  isplitl [H9]
  · iexists _; isplitr; swap; · iexact H9
    ipureintro
    delta run_zero.sl.r run_zero.sl.r_1 run_zero.sl.r_2 run_zero.sl.r_3 run_zero.sl.r_4 run_zero.sl.r_5 run_zero.sl.r_6 run_zero.sl.r_7 run_zero.sl.r_8 run_zero.sl.r_9 run_zero.sl.r_10 run_zero.sl.r_11 run_zero.sl.r_12 run_zero.sl.r_13 run_zero.sl.r_14 run_zero.sl.r_15 run_zero.sl.r_16 run_zero.sl.r_17 run_zero.sl.r_18 run_zero.sl.r_19 run_zero.sl.r_20 run_zero.sl.v9 run_zero.sl.v44 run_zero.sl.H8_1 run_zero.sl.H8_4 run_zero.sl.H10_1 run_zero.sl.H11_1 run_zero.sl.H11_2 run_zero.sl.H12_1 run_zero.sl.H12_2 run_zero.sl.H13_1 run_zero.sl.v134
    rw [View.read_writes_eq_canon _ _ _ (View.cover_of_tiledL (s := S1x128x1024) _ S1x128x1024.size (by sl_kernel_rfl))]
    simp (disch := decide) only [read_stack, metaSums, metaLast, headed, headedMeta, lastSums, sums, View.canon_cons_unit_lit', View.ld_unit_lit', View.readAt_eq_ld, Memref.IsWhole.read_unread, View.readCov_unit_lit', View.readCov_cons_unit_lit', View.readCov_eq_canon_ld, read_over]
  isplitl [H10]
  · iexists _; isplitr; swap; · iexact H10
    ipureintro
    delta run_zero.sl.r run_zero.sl.r_1 run_zero.sl.r_2 run_zero.sl.r_3 run_zero.sl.r_4 run_zero.sl.r_5 run_zero.sl.r_6 run_zero.sl.r_7 run_zero.sl.r_8 run_zero.sl.r_9 run_zero.sl.r_10 run_zero.sl.r_11 run_zero.sl.r_12 run_zero.sl.r_13 run_zero.sl.r_14 run_zero.sl.r_15 run_zero.sl.r_16 run_zero.sl.r_17 run_zero.sl.r_18 run_zero.sl.r_19 run_zero.sl.r_20 run_zero.sl.v9 run_zero.sl.v44 run_zero.sl.H8_1 run_zero.sl.H8_4 run_zero.sl.H10_1 run_zero.sl.H11_1 run_zero.sl.H11_2 run_zero.sl.H12_1 run_zero.sl.H12_2 run_zero.sl.H13_1 run_zero.sl.v134
    rw [View.read_writes_eq_canon _ _ _ (View.cover_of_tiledL (s := S16x128) _ S16x128.size (by sl_kernel_rfl))]
    simp (disch := decide) only [read_stack, metaSums, metaLast, headed, headedMeta, lastSums, sums, View.canon_cons_unit_lit', View.ld_unit_lit', View.readAt_eq_ld, Memref.IsWhole.read_unread, View.readCov_unit_lit', View.readCov_cons_unit_lit', View.readCov_eq_canon_ld, read_over]
  isplitl [H11]
  · iexists _; isplitr; swap; · iexact H11
    ipureintro
    delta run_zero.sl.r run_zero.sl.r_1 run_zero.sl.r_2 run_zero.sl.r_3 run_zero.sl.r_4 run_zero.sl.r_5 run_zero.sl.r_6 run_zero.sl.r_7 run_zero.sl.r_8 run_zero.sl.r_9 run_zero.sl.r_10 run_zero.sl.r_11 run_zero.sl.r_12 run_zero.sl.r_13 run_zero.sl.r_14 run_zero.sl.r_15 run_zero.sl.r_16 run_zero.sl.r_17 run_zero.sl.r_18 run_zero.sl.r_19 run_zero.sl.r_20 run_zero.sl.v9 run_zero.sl.v44 run_zero.sl.H8_1 run_zero.sl.H8_4 run_zero.sl.H10_1 run_zero.sl.H11_1 run_zero.sl.H11_2 run_zero.sl.H12_1 run_zero.sl.H12_2 run_zero.sl.H13_1 run_zero.sl.v134
    rw [View.read_writes_eq_canon _ _ _ (View.cover_of_tiledBy (s := S1040x2048) _ S16x2048.size (by sl_kernel_rfl))]
    simp (disch := decide) only [stack, metaSums, metaLast, headed, headedMeta, lastSums, sums, View.canon_cons_unit_lit', View.ld_unit_lit', View.readAt_eq_ld, Memref.IsWhole.read_unread, View.readCov_unit_lit', View.readCov_cons_unit_lit', View.readCov_eq_canon_ld, read_over]
  isplitl [H12]
  · iexists _; isplitr; swap; · iexact H12
    ipureintro
    delta run_zero.sl.r run_zero.sl.r_1 run_zero.sl.r_2 run_zero.sl.r_3 run_zero.sl.r_4 run_zero.sl.r_5 run_zero.sl.r_6 run_zero.sl.r_7 run_zero.sl.r_8 run_zero.sl.r_9 run_zero.sl.r_10 run_zero.sl.r_11 run_zero.sl.r_12 run_zero.sl.r_13 run_zero.sl.r_14 run_zero.sl.r_15 run_zero.sl.r_16 run_zero.sl.r_17 run_zero.sl.r_18 run_zero.sl.r_19 run_zero.sl.r_20 run_zero.sl.v9 run_zero.sl.v44 run_zero.sl.H8_1 run_zero.sl.H8_4 run_zero.sl.H10_1 run_zero.sl.H11_1 run_zero.sl.H11_2 run_zero.sl.H12_1 run_zero.sl.H12_2 run_zero.sl.H13_1 run_zero.sl.v134
    rw [View.read_writes_eq_canon _ _ _ (View.cover_of_tiledL (s := S1x128) _ S1x128.size (by sl_kernel_rfl))]
    simp (disch := decide) only [read_stack, metaSums, metaLast, headed, headedMeta, lastSums, sums, View.canon_cons_unit_lit', View.ld_unit_lit', View.readAt_eq_ld, Memref.IsWhole.read_unread, View.readCov_unit_lit', View.readCov_cons_unit_lit', View.readCov_eq_canon_ld, read_over]
  · iexists _; isplitr; swap; · iexact H13
    ipureintro
    delta run_zero.sl.r run_zero.sl.r_1 run_zero.sl.r_2 run_zero.sl.r_3 run_zero.sl.r_4 run_zero.sl.r_5 run_zero.sl.r_6 run_zero.sl.r_7 run_zero.sl.r_8 run_zero.sl.r_9 run_zero.sl.r_10 run_zero.sl.r_11 run_zero.sl.r_12 run_zero.sl.r_13 run_zero.sl.r_14 run_zero.sl.r_15 run_zero.sl.r_16 run_zero.sl.r_17 run_zero.sl.r_18 run_zero.sl.r_19 run_zero.sl.r_20 run_zero.sl.v9 run_zero.sl.v44 run_zero.sl.H8_1 run_zero.sl.H8_4 run_zero.sl.H10_1 run_zero.sl.H11_1 run_zero.sl.H11_2 run_zero.sl.H12_1 run_zero.sl.H12_2 run_zero.sl.H13_1 run_zero.sl.v134
    rw [View.read_writes_eq_canon _ _ _ (View.cover_of_tiledL (s := S1x128) _ S1x128.size (by sl_kernel_rfl))]
    simp (disch := decide) only [read_stack, metaSums, metaLast, headed, headedMeta, lastSums, sums, View.canon_cons_unit_lit', View.ld_unit_lit', View.readAt_eq_ld, Memref.IsWhole.read_unread, View.readCov_unit_lit', View.readCov_cons_unit_lit', View.readCov_eq_canon_ld, read_over]

set_option maxHeartbeats 4000000 in
/-- The first column tile of a later block of rows that begins a sequence. -/
theorem run_begin (c : Dev nD) (i : grid0.Coords) (arg2 : Memref sig .tc .vmem S1024x2048 .f32) (harg2 : arg2.IsWhole) (arg3 : Memref sig .tc .vmem S16x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1x1024 .f32) (harg6 : arg6.IsWhole) (arg7 : Memref sig .tc .vmem S128x2048 .bf16) (harg7 : arg7.IsWhole) (arg8 : Memref sig .tc .vmem S1x128 .f32) (harg8 : arg8.IsWhole) (arg9 : Memref sig .tc .vmem S1024x1024 .bf16) (harg9 : arg9.IsWhole) (arg10 : Memref sig .tc .vmem S1024x128 .f32) (harg10 : arg10.IsWhole) (arg11 : Memref sig .tc .vmem S1x128x1024 .bf16) (harg11 : arg11.IsWhole) (arg12 : Memref sig .tc .vmem S16x128 .f32) (harg12 : arg12.IsWhole) (arg13 : Memref sig .tc .vmem S1040x2048 .bf16) (harg13 : arg13.IsWhole) (arg14 : Memref sig .tc .vmem S1x128 .f32) (harg14 : arg14.IsWhole) (arg15 : Memref sig .tc .vmem S1x128 .f32) (harg15 : arg15.IsWhole)
    (hc1 : k0_cond1 i = 1#1) (hc2 : ¬k0_cond2 i = 1#1) (hc3 : begins i = 1#1) (hc4 : k0_cond4 i = 1#1) (hc5 : ¬k0_cond5 i = 1#1)
    (x0 : Vec F S1024x2048 .f32) (x1 : Vec F S16x2048 .f32) (x2 : Vec F S1x2048 .f32) (x3 : Vec F S1024x2048 .f32) (x4 : Vec F S1x1024 .f32) (x5 : Vec F S128x2048 .bf16) (x6 : Vec F S1x128 .f32) (o7 : Vec F S1024x1024 .bf16) (o8 : Vec F S1024x128 .f32) (o9 : Vec F S1x128x1024 .bf16) (o10 : Vec F S16x128 .f32) (s : Vec F S1040x2048 .bf16) (d : Vec F S1x128 .f32) (z : Vec F S1x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare o7 ∗ owns (c : Thread nD τ) arg10 fullShare o8 ∗ owns (c : Thread nD τ) arg11 fullShare o9 ∗ owns (c : Thread nD τ) arg12 fullShare o10 ∗ owns (c : Thread nD τ) arg13 fullShare s ∗ owns (c : Thread nD τ) arg14 fullShare d ∗ owns (c : Thread nD τ) arg15 fullShare z
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (headed (over (k0_pay12 x0 x2) s) x3 x4) ∗ owns (c : Thread nD τ) arg10 fullShare (sums (k0_pay11 x0 x2) (k0_pay15 z) x5 x6) ∗ owns (c : Thread nD τ) arg11 fullShare (headedMeta (over (k0_pay12 x0 x2) s) x3 x4) ∗ owns (c : Thread nD τ) arg12 fullShare o10 ∗ owns (c : Thread nD τ) arg13 fullShare (over (k0_pay12 x0 x2) s) ∗ owns (c : Thread nD τ) arg14 fullShare (k0_pay1 (lastSums (k0_pay11 x0 x2) (k0_pay15 z) x5 x6)) ∗ owns (c : Thread nD τ) arg15 fullShare z) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
  sl_exec_parts (disch := first | sl_exact hc1 | sl_exact hc2 | sl_exact hc3 | sl_exact hc4 | sl_exact hc5)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    delta run_begin.sl.r run_begin.sl.r_1 run_begin.sl.r_2 run_begin.sl.r_3 run_begin.sl.r_4 run_begin.sl.r_5 run_begin.sl.r_6 run_begin.sl.r_7 run_begin.sl.r_8 run_begin.sl.r_9 run_begin.sl.r_10 run_begin.sl.r_11 run_begin.sl.r_12 run_begin.sl.r_13 run_begin.sl.r_14 run_begin.sl.r_15 run_begin.sl.r_16 run_begin.sl.r_17 run_begin.sl.r_18 run_begin.sl.r_19 run_begin.sl.v44 run_begin.sl.H8_1 run_begin.sl.H8_4 run_begin.sl.H11_1 run_begin.sl.H12_1 run_begin.sl.H12_2
    rw [View.read_writes_eq_canon _ _ _ (View.cover_of_tiledL (s := S1024x1024) _ S1024x1024.size (by sl_kernel_rfl))]
    simp (disch := decide) only [read_stack, metaSums, metaLast, headed, headedMeta, lastSums, sums, View.canon_cons_unit_lit', View.ld_unit_lit', View.readAt_eq_ld, Memref.IsWhole.read_unread, View.readCov_unit_lit', View.readCov_cons_unit_lit', View.readCov_eq_canon_ld, read_over]
  isplitl [H8]
  · iexists _; isplitr; swap; · iexact H8
    ipureintro
    delta run_begin.sl.r run_begin.sl.r_1 run_begin.sl.r_2 run_begin.sl.r_3 run_begin.sl.r_4 run_begin.sl.r_5 run_begin.sl.r_6 run_begin.sl.r_7 run_begin.sl.r_8 run_begin.sl.r_9 run_begin.sl.r_10 run_begin.sl.r_11 run_begin.sl.r_12 run_begin.sl.r_13 run_begin.sl.r_14 run_begin.sl.r_15 run_begin.sl.r_16 run_begin.sl.r_17 run_begin.sl.r_18 run_begin.sl.r_19 run_begin.sl.v44 run_begin.sl.H8_1 run_begin.sl.H8_4 run_begin.sl.H11_1 run_begin.sl.H12_1 run_begin.sl.H12_2
    rw [View.read_writes_eq_canon _ _ _ (View.cover_of_tiledL (s := S1024x128) _ S256x128.size (by sl_kernel_rfl))]
    simp (disch := decide) only [read_stack, metaSums, metaLast, headed, headedMeta, lastSums, sums, View.canon_cons_unit_lit', View.ld_unit_lit', View.readAt_eq_ld, Memref.IsWhole.read_unread, View.readCov_unit_lit', View.readCov_cons_unit_lit', View.readCov_eq_canon_ld, read_over]
  isplitl [H9]
  · iexists _; isplitr; swap; · iexact H9
    ipureintro
    delta run_begin.sl.r run_begin.sl.r_1 run_begin.sl.r_2 run_begin.sl.r_3 run_begin.sl.r_4 run_begin.sl.r_5 run_begin.sl.r_6 run_begin.sl.r_7 run_begin.sl.r_8 run_begin.sl.r_9 run_begin.sl.r_10 run_begin.sl.r_11 run_begin.sl.r_12 run_begin.sl.r_13 run_begin.sl.r_14 run_begin.sl.r_15 run_begin.sl.r_16 run_begin.sl.r_17 run_begin.sl.r_18 run_begin.sl.r_19 run_begin.sl.v44 run_begin.sl.H8_1 run_begin.sl.H8_4 run_begin.sl.H11_1 run_begin.sl.H12_1 run_begin.sl.H12_2
    rw [View.read_writes_eq_canon _ _ _ (View.cover_of_tiledL (s := S1x128x1024) _ S1x128x1024.size (by sl_kernel_rfl))]
    simp (disch := decide) only [read_stack, metaSums, metaLast, headed, headedMeta, lastSums, sums, View.canon_cons_unit_lit', View.ld_unit_lit', View.readAt_eq_ld, Memref.IsWhole.read_unread, View.readCov_unit_lit', View.readCov_cons_unit_lit', View.readCov_eq_canon_ld, read_over]
  isplitl [H10]
  · iexists _; isplitr; · ipureintro; exact harg12.read_unread _
    iexact H10
  isplitl [H11]
  · iexists _; isplitr; swap; · iexact H11
    ipureintro
    delta run_begin.sl.H11_1
    simp (disch := decide) only [read_stack, metaSums, metaLast, headed, headedMeta, lastSums, sums, View.canon_cons_unit_lit', View.ld_unit_lit', View.readAt_eq_ld, Memref.IsWhole.read_unread, View.readCov_unit_lit', View.readCov_cons_unit_lit', View.readCov_eq_canon_ld, read_over]
  isplitl [H12]
  · iexists _; isplitr; swap; · iexact H12
    ipureintro
    delta run_begin.sl.r run_begin.sl.r_1 run_begin.sl.r_2 run_begin.sl.r_3 run_begin.sl.r_4 run_begin.sl.r_5 run_begin.sl.r_6 run_begin.sl.r_7 run_begin.sl.r_8 run_begin.sl.r_9 run_begin.sl.r_10 run_begin.sl.r_11 run_begin.sl.r_12 run_begin.sl.r_13 run_begin.sl.r_14 run_begin.sl.r_15 run_begin.sl.r_16 run_begin.sl.r_17 run_begin.sl.r_18 run_begin.sl.r_19 run_begin.sl.v44 run_begin.sl.H8_1 run_begin.sl.H8_4 run_begin.sl.H11_1 run_begin.sl.H12_1 run_begin.sl.H12_2
    rw [View.read_writes_eq_canon _ _ _ (View.cover_of_tiledL (s := S1x128) _ S1x128.size (by sl_kernel_rfl))]
    simp (disch := decide) only [read_stack, metaSums, metaLast, headed, headedMeta, lastSums, sums, View.canon_cons_unit_lit', View.ld_unit_lit', View.readAt_eq_ld, Memref.IsWhole.read_unread, View.readCov_unit_lit', View.readCov_cons_unit_lit', View.readCov_eq_canon_ld, read_over]
  · iexists _; isplitr; · ipureintro; exact harg15.read_unread _
    iexact H13

set_option maxHeartbeats 4000000 in
/-- The first column tile of another block of rows. -/
theorem run_first (c : Dev nD) (i : grid0.Coords) (arg2 : Memref sig .tc .vmem S1024x2048 .f32) (harg2 : arg2.IsWhole) (arg3 : Memref sig .tc .vmem S16x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1x1024 .f32) (harg6 : arg6.IsWhole) (arg7 : Memref sig .tc .vmem S128x2048 .bf16) (harg7 : arg7.IsWhole) (arg8 : Memref sig .tc .vmem S1x128 .f32) (harg8 : arg8.IsWhole) (arg9 : Memref sig .tc .vmem S1024x1024 .bf16) (harg9 : arg9.IsWhole) (arg10 : Memref sig .tc .vmem S1024x128 .f32) (harg10 : arg10.IsWhole) (arg11 : Memref sig .tc .vmem S1x128x1024 .bf16) (harg11 : arg11.IsWhole) (arg12 : Memref sig .tc .vmem S16x128 .f32) (harg12 : arg12.IsWhole) (arg13 : Memref sig .tc .vmem S1040x2048 .bf16) (harg13 : arg13.IsWhole) (arg14 : Memref sig .tc .vmem S1x128 .f32) (harg14 : arg14.IsWhole) (arg15 : Memref sig .tc .vmem S1x128 .f32) (harg15 : arg15.IsWhole)
    (hc1 : k0_cond1 i = 1#1) (hc2 : ¬k0_cond2 i = 1#1) (hc3 : ¬begins i = 1#1) (hc4 : k0_cond4 i = 1#1) (hc5 : ¬k0_cond5 i = 1#1)
    (x0 : Vec F S1024x2048 .f32) (x1 : Vec F S16x2048 .f32) (x2 : Vec F S1x2048 .f32) (x3 : Vec F S1024x2048 .f32) (x4 : Vec F S1x1024 .f32) (x5 : Vec F S128x2048 .bf16) (x6 : Vec F S1x128 .f32) (o7 : Vec F S1024x1024 .bf16) (o8 : Vec F S1024x128 .f32) (o9 : Vec F S1x128x1024 .bf16) (o10 : Vec F S16x128 .f32) (s : Vec F S1040x2048 .bf16) (d : Vec F S1x128 .f32) (z : Vec F S1x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare o7 ∗ owns (c : Thread nD τ) arg10 fullShare o8 ∗ owns (c : Thread nD τ) arg11 fullShare o9 ∗ owns (c : Thread nD τ) arg12 fullShare o10 ∗ owns (c : Thread nD τ) arg13 fullShare s ∗ owns (c : Thread nD τ) arg14 fullShare d ∗ owns (c : Thread nD τ) arg15 fullShare z
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (headed (over (k0_pay12 x0 x2) s) x3 x4) ∗ owns (c : Thread nD τ) arg10 fullShare (sums (k0_pay11 x0 x2) d x5 x6) ∗ owns (c : Thread nD τ) arg11 fullShare (headedMeta (over (k0_pay12 x0 x2) s) x3 x4) ∗ owns (c : Thread nD τ) arg12 fullShare o10 ∗ owns (c : Thread nD τ) arg13 fullShare (over (k0_pay12 x0 x2) s) ∗ owns (c : Thread nD τ) arg14 fullShare (k0_pay1 (lastSums (k0_pay11 x0 x2) d x5 x6)) ∗ owns (c : Thread nD τ) arg15 fullShare z) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
  sl_exec_parts (disch := first | sl_exact hc1 | sl_exact hc2 | sl_exact hc3 | sl_exact hc4 | sl_exact hc5)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    delta run_first.sl.r run_first.sl.r_1 run_first.sl.r_2 run_first.sl.r_3 run_first.sl.r_4 run_first.sl.r_5 run_first.sl.r_6 run_first.sl.r_7 run_first.sl.r_8 run_first.sl.r_9 run_first.sl.r_10 run_first.sl.r_11 run_first.sl.r_12 run_first.sl.r_13 run_first.sl.r_14 run_first.sl.r_15 run_first.sl.r_16 run_first.sl.r_17 run_first.sl.r_18 run_first.sl.r_19 run_first.sl.r_20 run_first.sl.H11_1 run_first.sl.H8_1 run_first.sl.H8_4 run_first.sl.H12_1
    rw [View.read_writes_eq_canon _ _ _ (View.cover_of_tiledL (s := S1024x1024) _ S1024x1024.size (by sl_kernel_rfl))]
    simp (disch := decide) only [read_stack, metaSums, metaLast, headed, headedMeta, lastSums, sums, View.canon_cons_unit_lit', View.ld_unit_lit', View.readAt_eq_ld, Memref.IsWhole.read_unread, View.readCov_unit_lit', View.readCov_cons_unit_lit', View.readCov_eq_canon_ld, read_over]
  isplitl [H8]
  · iexists _; isplitr; swap; · iexact H8
    ipureintro
    delta run_first.sl.r run_first.sl.r_1 run_first.sl.r_2 run_first.sl.r_3 run_first.sl.r_4 run_first.sl.r_5 run_first.sl.r_6 run_first.sl.r_7 run_first.sl.r_8 run_first.sl.r_9 run_first.sl.r_10 run_first.sl.r_11 run_first.sl.r_12 run_first.sl.r_13 run_first.sl.r_14 run_first.sl.r_15 run_first.sl.r_16 run_first.sl.r_17 run_first.sl.r_18 run_first.sl.r_19 run_first.sl.r_20 run_first.sl.H11_1 run_first.sl.H8_1 run_first.sl.H8_4 run_first.sl.H12_1
    rw [View.read_writes_eq_canon _ _ _ (View.cover_of_tiledL (s := S1024x128) _ S256x128.size (by sl_kernel_rfl))]
    simp (disch := decide) only [read_stack, metaSums, metaLast, headed, headedMeta, lastSums, sums, View.canon_cons_unit_lit', View.ld_unit_lit', View.readAt_eq_ld, Memref.IsWhole.read_unread, View.readCov_unit_lit', View.readCov_cons_unit_lit', View.readCov_eq_canon_ld, read_over]
  isplitl [H9]
  · iexists _; isplitr; swap; · iexact H9
    ipureintro
    delta run_first.sl.r run_first.sl.r_1 run_first.sl.r_2 run_first.sl.r_3 run_first.sl.r_4 run_first.sl.r_5 run_first.sl.r_6 run_first.sl.r_7 run_first.sl.r_8 run_first.sl.r_9 run_first.sl.r_10 run_first.sl.r_11 run_first.sl.r_12 run_first.sl.r_13 run_first.sl.r_14 run_first.sl.r_15 run_first.sl.r_16 run_first.sl.r_17 run_first.sl.r_18 run_first.sl.r_19 run_first.sl.r_20 run_first.sl.H11_1 run_first.sl.H8_1 run_first.sl.H8_4 run_first.sl.H12_1
    rw [View.read_writes_eq_canon _ _ _ (View.cover_of_tiledL (s := S1x128x1024) _ S1x128x1024.size (by sl_kernel_rfl))]
    simp (disch := decide) only [read_stack, metaSums, metaLast, headed, headedMeta, lastSums, sums, View.canon_cons_unit_lit', View.ld_unit_lit', View.readAt_eq_ld, Memref.IsWhole.read_unread, View.readCov_unit_lit', View.readCov_cons_unit_lit', View.readCov_eq_canon_ld, read_over]
  isplitl [H10]
  · iexists _; isplitr; · ipureintro; exact harg12.read_unread _
    iexact H10
  isplitl [H11]
  · iexists _; isplitr; swap; · iexact H11
    ipureintro
    delta run_first.sl.H11_1
    simp (disch := decide) only [read_stack, metaSums, metaLast, headed, headedMeta, lastSums, sums, View.canon_cons_unit_lit', View.ld_unit_lit', View.readAt_eq_ld, Memref.IsWhole.read_unread, View.readCov_unit_lit', View.readCov_cons_unit_lit', View.readCov_eq_canon_ld, read_over]
  isplitl [H12]
  · iexists _; isplitr; swap; · iexact H12
    ipureintro
    delta run_first.sl.r run_first.sl.r_1 run_first.sl.r_2 run_first.sl.r_3 run_first.sl.r_4 run_first.sl.r_5 run_first.sl.r_6 run_first.sl.r_7 run_first.sl.r_8 run_first.sl.r_9 run_first.sl.r_10 run_first.sl.r_11 run_first.sl.r_12 run_first.sl.r_13 run_first.sl.r_14 run_first.sl.r_15 run_first.sl.r_16 run_first.sl.r_17 run_first.sl.r_18 run_first.sl.r_19 run_first.sl.r_20 run_first.sl.H11_1 run_first.sl.H8_1 run_first.sl.H8_4 run_first.sl.H12_1
    rw [View.read_writes_eq_canon _ _ _ (View.cover_of_tiledL (s := S1x128) _ S1x128.size (by sl_kernel_rfl))]
    simp (disch := decide) only [read_stack, metaSums, metaLast, headed, headedMeta, lastSums, sums, View.canon_cons_unit_lit', View.ld_unit_lit', View.readAt_eq_ld, Memref.IsWhole.read_unread, View.readCov_unit_lit', View.readCov_cons_unit_lit', View.readCov_eq_canon_ld, read_over]
  · iexists _; isplitr; · ipureintro; exact harg15.read_unread _
    iexact H13

set_option maxHeartbeats 4000000 in
/-- The second column tile of a block of rows. -/
theorem run_head (c : Dev nD) (i : grid0.Coords) (arg2 : Memref sig .tc .vmem S1024x2048 .f32) (harg2 : arg2.IsWhole) (arg3 : Memref sig .tc .vmem S16x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1x1024 .f32) (harg6 : arg6.IsWhole) (arg7 : Memref sig .tc .vmem S128x2048 .bf16) (harg7 : arg7.IsWhole) (arg8 : Memref sig .tc .vmem S1x128 .f32) (harg8 : arg8.IsWhole) (arg9 : Memref sig .tc .vmem S1024x1024 .bf16) (harg9 : arg9.IsWhole) (arg10 : Memref sig .tc .vmem S1024x128 .f32) (harg10 : arg10.IsWhole) (arg11 : Memref sig .tc .vmem S1x128x1024 .bf16) (harg11 : arg11.IsWhole) (arg12 : Memref sig .tc .vmem S16x128 .f32) (harg12 : arg12.IsWhole) (arg13 : Memref sig .tc .vmem S1040x2048 .bf16) (harg13 : arg13.IsWhole) (arg14 : Memref sig .tc .vmem S1x128 .f32) (harg14 : arg14.IsWhole) (arg15 : Memref sig .tc .vmem S1x128 .f32) (harg15 : arg15.IsWhole)
    (hc1 : ¬k0_cond1 i = 1#1) (hc4 : k0_cond4 i = 1#1) (hc5 : ¬k0_cond5 i = 1#1)
    (x0 : Vec F S1024x2048 .f32) (x1 : Vec F S16x2048 .f32) (x2 : Vec F S1x2048 .f32) (x3 : Vec F S1024x2048 .f32) (x4 : Vec F S1x1024 .f32) (x5 : Vec F S128x2048 .bf16) (x6 : Vec F S1x128 .f32) (o7 : Vec F S1024x1024 .bf16) (o8 : Vec F S1024x128 .f32) (o9 : Vec F S1x128x1024 .bf16) (o10 : Vec F S16x128 .f32) (s : Vec F S1040x2048 .bf16) (d : Vec F S1x128 .f32) (z : Vec F S1x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare o7 ∗ owns (c : Thread nD τ) arg10 fullShare o8 ∗ owns (c : Thread nD τ) arg11 fullShare o9 ∗ owns (c : Thread nD τ) arg12 fullShare o10 ∗ owns (c : Thread nD τ) arg13 fullShare s ∗ owns (c : Thread nD τ) arg14 fullShare d ∗ owns (c : Thread nD τ) arg15 fullShare z
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (headed s x3 x4) ∗ owns (c : Thread nD τ) arg10 fullShare o8 ∗ owns (c : Thread nD τ) arg11 fullShare (headedMeta s x3 x4) ∗ owns (c : Thread nD τ) arg12 fullShare o10 ∗ owns (c : Thread nD τ) arg13 fullShare s ∗ owns (c : Thread nD τ) arg14 fullShare d ∗ owns (c : Thread nD τ) arg15 fullShare z) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
  sl_exec_parts (disch := first | sl_exact hc1 | sl_exact hc4 | sl_exact hc5)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    delta run_head.sl.r run_head.sl.r_1 run_head.sl.r_2 run_head.sl.r_3 run_head.sl.r_4 run_head.sl.r_5 run_head.sl.r_6 run_head.sl.r_7 run_head.sl.r_8 run_head.sl.r_9 run_head.sl.r_10 run_head.sl.r_11 run_head.sl.r_12
    rw [View.read_writes_eq_canon _ _ _ (View.cover_of_tiledL (s := S1024x1024) _ S1024x1024.size (by sl_kernel_rfl))]
    simp (disch := decide) only [read_stack, metaSums, metaLast, headed, headedMeta, lastSums, sums, View.canon_cons_unit_lit', View.ld_unit_lit', View.readAt_eq_ld, Memref.IsWhole.read_unread, View.readCov_unit_lit', View.readCov_cons_unit_lit', View.readCov_eq_canon_ld, read_over]
  isplitl [H8]
  · iexists _; isplitr; · ipureintro; exact harg10.read_unread _
    iexact H8
  isplitl [H9]
  · iexists _; isplitr; swap; · iexact H9
    ipureintro
    delta run_head.sl.r run_head.sl.r_1 run_head.sl.r_2 run_head.sl.r_3 run_head.sl.r_4 run_head.sl.r_5 run_head.sl.r_6 run_head.sl.r_7 run_head.sl.r_8 run_head.sl.r_9 run_head.sl.r_10 run_head.sl.r_11 run_head.sl.r_12
    rw [View.read_writes_eq_canon _ _ _ (View.cover_of_tiledL (s := S1x128x1024) _ S1x128x1024.size (by sl_kernel_rfl))]
    simp (disch := decide) only [read_stack, metaSums, metaLast, headed, headedMeta, lastSums, sums, View.canon_cons_unit_lit', View.ld_unit_lit', View.readAt_eq_ld, Memref.IsWhole.read_unread, View.readCov_unit_lit', View.readCov_cons_unit_lit', View.readCov_eq_canon_ld, read_over]
  isplitl [H10]
  · iexists _; isplitr; · ipureintro; exact harg12.read_unread _
    iexact H10
  isplitl [H11]
  · iexists _; isplitr; · ipureintro; exact harg13.read_unread _
    iexact H11
  isplitl [H12]
  · iexists _; isplitr; · ipureintro; exact harg14.read_unread _
    iexact H12
  · iexists _; isplitr; · ipureintro; exact harg15.read_unread _
    iexact H13

set_option maxHeartbeats 4000000 in
/-- A later column tile of a block of rows. -/
theorem run_plain (c : Dev nD) (i : grid0.Coords) (arg2 : Memref sig .tc .vmem S1024x2048 .f32) (harg2 : arg2.IsWhole) (arg3 : Memref sig .tc .vmem S16x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1x1024 .f32) (harg6 : arg6.IsWhole) (arg7 : Memref sig .tc .vmem S128x2048 .bf16) (harg7 : arg7.IsWhole) (arg8 : Memref sig .tc .vmem S1x128 .f32) (harg8 : arg8.IsWhole) (arg9 : Memref sig .tc .vmem S1024x1024 .bf16) (harg9 : arg9.IsWhole) (arg10 : Memref sig .tc .vmem S1024x128 .f32) (harg10 : arg10.IsWhole) (arg11 : Memref sig .tc .vmem S1x128x1024 .bf16) (harg11 : arg11.IsWhole) (arg12 : Memref sig .tc .vmem S16x128 .f32) (harg12 : arg12.IsWhole) (arg13 : Memref sig .tc .vmem S1040x2048 .bf16) (harg13 : arg13.IsWhole) (arg14 : Memref sig .tc .vmem S1x128 .f32) (harg14 : arg14.IsWhole) (arg15 : Memref sig .tc .vmem S1x128 .f32) (harg15 : arg15.IsWhole)
    (hc1 : ¬k0_cond1 i = 1#1) (hc4 : ¬k0_cond4 i = 1#1) (hc5 : k0_cond5 i = 1#1)
    (x0 : Vec F S1024x2048 .f32) (x1 : Vec F S16x2048 .f32) (x2 : Vec F S1x2048 .f32) (x3 : Vec F S1024x2048 .f32) (x4 : Vec F S1x1024 .f32) (x5 : Vec F S128x2048 .bf16) (x6 : Vec F S1x128 .f32) (o7 : Vec F S1024x1024 .bf16) (o8 : Vec F S1024x128 .f32) (o9 : Vec F S1x128x1024 .bf16) (o10 : Vec F S16x128 .f32) (s : Vec F S1040x2048 .bf16) (d : Vec F S1x128 .f32) (z : Vec F S1x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare o7 ∗ owns (c : Thread nD τ) arg10 fullShare o8 ∗ owns (c : Thread nD τ) arg11 fullShare o9 ∗ owns (c : Thread nD τ) arg12 fullShare o10 ∗ owns (c : Thread nD τ) arg13 fullShare s ∗ owns (c : Thread nD τ) arg14 fullShare d ∗ owns (c : Thread nD τ) arg15 fullShare z
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay4 i s x3) ∗ owns (c : Thread nD τ) arg10 fullShare o8 ∗ owns (c : Thread nD τ) arg11 fullShare (k0_pay5 i s x3) ∗ owns (c : Thread nD τ) arg12 fullShare o10 ∗ owns (c : Thread nD τ) arg13 fullShare s ∗ owns (c : Thread nD τ) arg14 fullShare d ∗ owns (c : Thread nD τ) arg15 fullShare z) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
  sl_exec_parts (disch := first | sl_exact hc1 | sl_exact hc4 | sl_exact hc5)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    rw [View.read_writes_eq_canon _ _ _ (View.cover_of_tiledL (s := S1024x1024) _ S1024x1024.size (by sl_kernel_rfl))]
    simp (disch := decide) only [read_stack, metaSums, metaLast, headed, headedMeta, lastSums, sums, View.canon_cons_unit_lit', View.ld_unit_lit', View.readAt_eq_ld, Memref.IsWhole.read_unread, View.readCov_unit_lit', View.readCov_cons_unit_lit', View.readCov_eq_canon_ld, read_over]
  isplitl [H8]
  · iexists _; isplitr; · ipureintro; exact harg10.read_unread _
    iexact H8
  isplitl [H9]
  · iexists _; isplitr; swap; · iexact H9
    ipureintro
    rw [View.read_writes_eq_canon _ _ _ (View.cover_of_tiledL (s := S1x128x1024) _ S1x128x1024.size (by sl_kernel_rfl))]
    simp (disch := decide) only [read_stack, metaSums, metaLast, headed, headedMeta, lastSums, sums, View.canon_cons_unit_lit', View.ld_unit_lit', View.readAt_eq_ld, Memref.IsWhole.read_unread, View.readCov_unit_lit', View.readCov_cons_unit_lit', View.readCov_eq_canon_ld, read_over]
  isplitl [H10]
  · iexists _; isplitr; · ipureintro; exact harg12.read_unread _
    iexact H10
  isplitl [H11]
  · iexists _; isplitr; · ipureintro; exact harg13.read_unread _
    iexact H11
  isplitl [H12]
  · iexists _; isplitr; · ipureintro; exact harg14.read_unread _
    iexact H12
  · iexists _; isplitr; · ipureintro; exact harg15.read_unread _
    iexact H13

end Cert.InprojIdeal.Body

end
-- ==== Proof.InprojIdeal.Frame.lean ====
module

public import proofs.«01_k».proof.Proof.InprojIdeal.Body
public import Idealize.ShloMosaic.Lib.Pipeline.TableIdle

/-! # The frame of the input projection

The contents of the four outputs and of the three scratches after each grid point, as one recursion over the points
(`state`); the proof that the body, run at any point, takes the recursion one step; and from it the launch: every
run ends, every argument is unchanged, and each output array is what the write-backs of the recursion's values
make it. The running sums are stored by the first column tile of each block of rows and the meta tokens' sums by the
first point only; both are carried unchanged from there to the point that writes them back. -/

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InprojIdeal Cert.InprojIdeal.Gen

namespace Cert.InprojIdeal.Body

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tests of the body, by the point's number -/

/-- Test 1 of the body holds at exactly these points. -/
theorem test1 : ∀ t : Fin cfg0.N, k0_cond1 (grid0.coords t) = 1#1 ↔ t.val % 10 = 0 :=
  (by decide +kernel : ∀ t : Fin grid0.N, k0_cond1 (grid0.coords t) = 1#1 ↔ t.val % 10 = 0)

/-- Test 2 of the body holds at exactly these points. -/
theorem test2 : ∀ t : Fin cfg0.N, k0_cond2 (grid0.coords t) = 1#1 ↔ t.val < 10 :=
  (by decide +kernel : ∀ t : Fin grid0.N, k0_cond2 (grid0.coords t) = 1#1 ↔ t.val < 10)

/-- Test 3 of the body holds at exactly these points. -/
theorem test3 : ∀ t : Fin cfg0.N, begins (grid0.coords t) = 1#1 ↔ t.val % 40 < 10 :=
  (by decide +kernel : ∀ t : Fin grid0.N, begins (grid0.coords t) = 1#1 ↔ t.val % 40 < 10)

/-- Test 4 of the body holds at exactly these points. -/
theorem test4 : ∀ t : Fin cfg0.N, k0_cond4 (grid0.coords t) = 1#1 ↔ t.val % 10 < 2 :=
  (by decide +kernel : ∀ t : Fin grid0.N, k0_cond4 (grid0.coords t) = 1#1 ↔ t.val % 10 < 2)

/-- Test 5 of the body holds at exactly these points. -/
theorem test5 : ∀ t : Fin cfg0.N, k0_cond5 (grid0.coords t) = 1#1 ↔ 2 ≤ t.val % 10 :=
  (by decide +kernel : ∀ t : Fin grid0.N, k0_cond5 (grid0.coords t) = 1#1 ↔ 2 ≤ t.val % 10)

/-- Every point stores into the first and the third output's block. -/
theorem busy7 : ∀ t : Fin cfg0.N, cfg0.idle 7 (grid0.coords t) = false := by decide +kernel
theorem busy9 : ∀ t : Fin cfg0.N, cfg0.idle 9 (grid0.coords t) = false := by decide +kernel

/-- The first column tiles store into the second output's block, -/
theorem busy8 : ∀ t : Fin cfg0.N, t.val % 10 = 0 → cfg0.idle 8 (grid0.coords t) = false := by decide +kernel

/-- and the others do not. -/
theorem idle8 : ∀ t : Fin cfg0.N, ¬ t.val % 10 = 0 → cfg0.idle 8 (grid0.coords t) = true := by decide +kernel

/-- The first point stores into the fourth output's block, -/
theorem busy10 : ∀ t : Fin cfg0.N, t.val = 0 → cfg0.idle 10 (grid0.coords t) = false := by decide +kernel

/-- and the others do not. -/
theorem idle10 : ∀ t : Fin cfg0.N, ¬ t.val = 0 → cfg0.idle 10 (grid0.coords t) = true := by decide +kernel

/-- The second output's buffer holds nothing of the body's at the first column tile of each block of rows, and only there. -/
def new8 (n : ℕ) : Bool := decide (n % 10 = 0)

theorem new8_step : ∀ t : Fin cfg0.N,
    new8 (t.val + 1) = ((cfg0.win 8).flush t || (cfg0.idle 8 (cfg0.grid.coords t) && new8 t.val)) := by decide +kernel

theorem fresh8 (t : Fin cfg0.N) : cfg0.fresh 8 t.val = new8 t.val :=
  Pipeline.Cfg.fresh_tab cfg0 8 new8 rfl new8_step t.val (Nat.le_of_lt t.isLt)

/-- The fourth output's buffer holds nothing of the body's before the first point, and after the last. -/
def new10 (n : ℕ) : Bool := decide (n % 80 = 0)

theorem new10_step : ∀ t : Fin cfg0.N,
    new10 (t.val + 1) = ((cfg0.win 10).flush t || (cfg0.idle 10 (cfg0.grid.coords t) && new10 t.val)) := by decide +kernel

theorem fresh10 (t : Fin cfg0.N) : cfg0.fresh 10 t.val = new10 t.val :=
  Pipeline.Cfg.fresh_tab cfg0 10 new10 rfl new10_step t.val (Nat.le_of_lt t.isLt)

abbrev mem0 (t : Fin cfg0.N) : Memref sig .tc .vmem S1024x2048 .f32 := win0_0.stage (cfg0.slots t 0)
abbrev whole0 (t : Fin cfg0.N) : (mem0 t).IsWhole := hstage0_0 ((cfg0.slots t 0).cast nbuf0_0)
abbrev mem1 (t : Fin cfg0.N) : Memref sig .tc .vmem S16x2048 .f32 := win0_1.stage (cfg0.slots t 1)
abbrev whole1 (t : Fin cfg0.N) : (mem1 t).IsWhole := hstage0_1 ((cfg0.slots t 1).cast nbuf0_1)
abbrev mem2 (t : Fin cfg0.N) : Memref sig .tc .vmem S1x2048 .f32 := win0_2.stage (cfg0.slots t 2)
abbrev whole2 (t : Fin cfg0.N) : (mem2 t).IsWhole := hstage0_2 ((cfg0.slots t 2).cast nbuf0_2)
abbrev mem3 (t : Fin cfg0.N) : Memref sig .tc .vmem S1024x2048 .f32 := win0_3.stage (cfg0.slots t 3)
abbrev whole3 (t : Fin cfg0.N) : (mem3 t).IsWhole := hstage0_3 ((cfg0.slots t 3).cast nbuf0_3)
abbrev mem4 (t : Fin cfg0.N) : Memref sig .tc .vmem S1x1024 .f32 := win0_4.stage (cfg0.slots t 4)
abbrev whole4 (t : Fin cfg0.N) : (mem4 t).IsWhole := hstage0_4 ((cfg0.slots t 4).cast nbuf0_4)
abbrev mem5 (t : Fin cfg0.N) : Memref sig .tc .vmem S128x2048 .bf16 := win0_5.stage (cfg0.slots t 5)
abbrev whole5 (t : Fin cfg0.N) : (mem5 t).IsWhole := hstage0_5 ((cfg0.slots t 5).cast nbuf0_5)
abbrev mem6 (t : Fin cfg0.N) : Memref sig .tc .vmem S1x128 .f32 := win0_6.stage (cfg0.slots t 6)
abbrev whole6 (t : Fin cfg0.N) : (mem6 t).IsWhole := hstage0_6 ((cfg0.slots t 6).cast nbuf0_6)
abbrev mem7 (t : Fin cfg0.N) : Memref sig .tc .vmem S1024x1024 .bf16 := win0_7.stage (cfg0.slots t 7)
abbrev whole7 (t : Fin cfg0.N) : (mem7 t).IsWhole := hstage0_7 ((cfg0.slots t 7).cast nbuf0_7)
abbrev mem8 (t : Fin cfg0.N) : Memref sig .tc .vmem S1024x128 .f32 := win0_8.stage (cfg0.slots t 8)
abbrev whole8 (t : Fin cfg0.N) : (mem8 t).IsWhole := hstage0_8 ((cfg0.slots t 8).cast nbuf0_8)
abbrev mem9 (t : Fin cfg0.N) : Memref sig .tc .vmem S1x128x1024 .bf16 := win0_9.stage (cfg0.slots t 9)
abbrev whole9 (t : Fin cfg0.N) : (mem9 t).IsWhole := hstage0_9 ((cfg0.slots t 9).cast nbuf0_9)
abbrev mem10 (t : Fin cfg0.N) : Memref sig .tc .vmem S16x128 .f32 := win0_10.stage (cfg0.slots t 10)
abbrev whole10 (t : Fin cfg0.N) : (mem10 t).IsWhole := hstage0_10 ((cfg0.slots t 10).cast nbuf0_10)
/-- The scratches. -/
abbrev scr0 : Memref sig .tc .vmem S1040x2048 .bf16 := Memref.whole cc0_scratch0
abbrev scr1 : Memref sig .tc .vmem S1x128 .f32 := Memref.whole cc0_scratch1
abbrev scr2 : Memref sig .tc .vmem S1x128 .f32 := Memref.whole cc0_scratch2

/-- What the launch gives the first point: the scratches at some contents. -/
theorem scratch_eq (c : Dev nD) :
    (Pipeline.ΦA spec0 c : sProp 𝕄)
      = iprop(iprop((∃ d, owns (c : Thread nD τ) scr0 fullShare d) ∗ (∃ d, owns (c : Thread nD τ) scr1 fullShare d)
          ∗ (∃ d, owns (c : Thread nD τ) scr2 fullShare d)) ∗ (∃ r, prngReg c r)) := by
  unfold Pipeline.ΦA; rw [scopedRest0_eq]; simp only [scr0, scr1, scr2, owns_whole]; try rfl

/-! ## What the outputs and the scratches hold after each point -/

/-- The contents of the four outputs' buffers and of the three scratches: the normalised rows, the sums so far and the
    meta tokens' sums. -/
structure Held (F : FTy → Type) where
  o7 : Vec F S1024x1024 .bf16
  o8 : Vec F S1024x128 .f32
  o9 : Vec F S1x128x1024 .bf16
  o10 : Vec F S16x128 .f32
  s : Vec F S1040x2048 .bf16
  d : Vec F S1x128 .f32
  z : Vec F S1x128 .f32

/-- One step: what they hold after the body at point `t`, from what they held before it. -/
def next (c : Dev nD) (t : Fin cfg0.N) (o8 : Vec F S1024x128 .f32) (o10 : Vec F S16x128 .f32) (s : Vec F S1040x2048 .bf16) (d : Vec F S1x128 .f32) (z : Vec F S1x128 .f32) : Held F :=
  if t.val = 0 then ⟨headed (stack (k0_pay12 (iblk m c 0 t) (iblk m c 2 t)) (k0_pay7 (iblk m c 1 t) (iblk m c 2 t))) (iblk m c 3 t) (iblk m c 4 t), sums (k0_pay11 (iblk m c 0 t) (iblk m c 2 t)) (k0_pay15 (metaLast (iblk m c 1 t) (iblk m c 2 t) (iblk m c 5 t) (iblk m c 6 t))) (iblk m c 5 t) (iblk m c 6 t), headedMeta (stack (k0_pay12 (iblk m c 0 t) (iblk m c 2 t)) (k0_pay7 (iblk m c 1 t) (iblk m c 2 t))) (iblk m c 3 t) (iblk m c 4 t), metaSums (iblk m c 1 t) (iblk m c 2 t) (iblk m c 5 t) (iblk m c 6 t), (stack (k0_pay12 (iblk m c 0 t) (iblk m c 2 t)) (k0_pay7 (iblk m c 1 t) (iblk m c 2 t))), k0_pay1 (lastSums (k0_pay11 (iblk m c 0 t) (iblk m c 2 t)) (k0_pay15 (metaLast (iblk m c 1 t) (iblk m c 2 t) (iblk m c 5 t) (iblk m c 6 t))) (iblk m c 5 t) (iblk m c 6 t)), (metaLast (iblk m c 1 t) (iblk m c 2 t) (iblk m c 5 t) (iblk m c 6 t))⟩
  else if t.val % 10 = 0 then ⟨headed (over (k0_pay12 (iblk m c 0 t) (iblk m c 2 t)) s) (iblk m c 3 t) (iblk m c 4 t), sums (k0_pay11 (iblk m c 0 t) (iblk m c 2 t)) (if t.val % 40 < 10 then k0_pay15 z else d) (iblk m c 5 t) (iblk m c 6 t), headedMeta (over (k0_pay12 (iblk m c 0 t) (iblk m c 2 t)) s) (iblk m c 3 t) (iblk m c 4 t), o10, (over (k0_pay12 (iblk m c 0 t) (iblk m c 2 t)) s), k0_pay1 (lastSums (k0_pay11 (iblk m c 0 t) (iblk m c 2 t)) (if t.val % 40 < 10 then k0_pay15 z else d) (iblk m c 5 t) (iblk m c 6 t)), z⟩
  else if t.val % 10 < 2 then ⟨headed s (iblk m c 3 t) (iblk m c 4 t), o8, headedMeta s (iblk m c 3 t) (iblk m c 4 t), o10, s, d, z⟩
  else ⟨k0_pay4 (grid0.coords t) s (iblk m c 3 t), o8, k0_pay5 (grid0.coords t) s (iblk m c 3 t), o10, s, d, z⟩

/-- What they hold after point `n`. -/
def state (c : Dev nD) : (n : ℕ) → n < cfg0.N → Held F
  | 0, h => let t : Fin cfg0.N := ⟨0, h⟩
    ⟨headed (stack (k0_pay12 (iblk m c 0 t) (iblk m c 2 t)) (k0_pay7 (iblk m c 1 t) (iblk m c 2 t))) (iblk m c 3 t) (iblk m c 4 t), sums (k0_pay11 (iblk m c 0 t) (iblk m c 2 t)) (k0_pay15 (metaLast (iblk m c 1 t) (iblk m c 2 t) (iblk m c 5 t) (iblk m c 6 t))) (iblk m c 5 t) (iblk m c 6 t), headedMeta (stack (k0_pay12 (iblk m c 0 t) (iblk m c 2 t)) (k0_pay7 (iblk m c 1 t) (iblk m c 2 t))) (iblk m c 3 t) (iblk m c 4 t), metaSums (iblk m c 1 t) (iblk m c 2 t) (iblk m c 5 t) (iblk m c 6 t), (stack (k0_pay12 (iblk m c 0 t) (iblk m c 2 t)) (k0_pay7 (iblk m c 1 t) (iblk m c 2 t))), k0_pay1 (lastSums (k0_pay11 (iblk m c 0 t) (iblk m c 2 t)) (k0_pay15 (metaLast (iblk m c 1 t) (iblk m c 2 t) (iblk m c 5 t) (iblk m c 6 t))) (iblk m c 5 t) (iblk m c 6 t)), (metaLast (iblk m c 1 t) (iblk m c 2 t) (iblk m c 5 t) (iblk m c 6 t))⟩
  | n + 1, h => next m c ⟨n + 1, h⟩ (state c n (by omega)).o8 (state c n (by omega)).o10 (state c n (by omega)).s
      (state c n (by omega)).d (state c n (by omega)).z

theorem state_zero (c : Dev nD) (t : Fin cfg0.N) (h : t.val = 0) (o8 : Vec F S1024x128 .f32) (o10 : Vec F S16x128 .f32) (s : Vec F S1040x2048 .bf16) (d : Vec F S1x128 .f32) (z : Vec F S1x128 .f32) :
    state m c t.val t.isLt = next m c t o8 o10 s d z := by
  obtain ⟨v, hv⟩ := t
  simp only at h
  subst h
  simp only [state, next, if_true]

theorem state_pos (c : Dev nD) (t : Fin cfg0.N) (h : t.val ≠ 0) :
    state m c t.val t.isLt = next m c t (state m c (t.val - 1) (by omega)).o8 (state m c (t.val - 1) (by omega)).o10
      (state m c (t.val - 1) (by omega)).s (state m c (t.val - 1) (by omega)).d (state m c (t.val - 1) (by omega)).z := by
  obtain ⟨v, hv⟩ := t
  cases v with
  | zero => exact absurd rfl h
  | succ n => rfl

/-- A column tile that is not the first leaves the running sums as they were. -/
theorem state_keep8 (c : Dev nD) (t : Fin cfg0.N) (h : ¬ t.val % 10 = 0) :
    (state m c t.val t.isLt).o8 = (state m c (t.val - 1) (by omega)).o8 := by
  have h0 : ¬ t.val = 0 := fun e => h (by rw [e])
  rw [state_pos m c t h0]
  unfold next
  rw [if_neg h0, if_neg h]
  split <;> rfl

/-- A point that is not the first leaves the meta tokens' sums as they were. -/
theorem state_keep10 (c : Dev nD) (t : Fin cfg0.N) (h : ¬ t.val = 0) :
    (state m c t.val t.isLt).o10 = (state m c (t.val - 1) (by omega)).o10 := by
  rw [state_pos m c t h]
  unfold next
  rw [if_neg h]
  split
  · rfl
  · split <;> rfl

/-! ## The pipeline's proof data -/

/-- What is owned before point `n` beside the windows: the scratches, at first at anything, then at the state. -/
def inv (c : Dev nD) : (n : ℕ) → n ≤ cfg0.N → sProp 𝕄
  | 0, _ => Pipeline.ΦA spec0 c
  | n + 1, hn => iprop(iprop(owns (c : Thread nD τ) scr0 fullShare (state m c n hn).s ∗ owns (c : Thread nD τ) scr1 fullShare (state m c n hn).d ∗ owns (c : Thread nD τ) scr2 fullShare (state m c n hn).z) ∗ (∃ r, prngReg c r))

theorem inv_zero (c : Dev nD) (n : ℕ) (h : n ≤ cfg0.N) (hz : n = 0) : inv m c n h = Pipeline.ΦA spec0 c := by
  subst hz; rfl

theorem inv_succ (c : Dev nD) (n : ℕ) (hn : n < cfg0.N) :
    inv m c (n + 1) hn = iprop(iprop(owns (c : Thread nD τ) scr0 fullShare (state m c n hn).s ∗ owns (c : Thread nD τ) scr1 fullShare (state m c n hn).d ∗ owns (c : Thread nD τ) scr2 fullShare (state m c n hn).z) ∗ (∃ r, prngReg c r)) := rfl

theorem inv_pos (c : Dev nD) (n : ℕ) (h : n ≤ cfg0.N) (hz : n ≠ 0) :
    inv m c n h = iprop(iprop(owns (c : Thread nD τ) scr0 fullShare (state m c (n - 1) (by omega)).s ∗ owns (c : Thread nD τ) scr1 fullShare (state m c (n - 1) (by omega)).d ∗ owns (c : Thread nD τ) scr2 fullShare (state m c (n - 1) (by omega)).z) ∗ (∃ r, prngReg c r)) := by
  cases n with
  | zero => exact absurd rfl hz
  | succ n => rfl

/-- The proof data: after point `t` the inputs' buffers at their blocks and the outputs' at the state. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (state m c t.val t.isLt).o7
    | ⟨8, _⟩ => (state m c t.val t.isLt).o8
    | ⟨9, _⟩ => (state m c t.val t.isLt).o9
    | ⟨10, _⟩ => (state m c t.val t.isLt).o10
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; exact Pipeline.Dat.Φ_castSucc (inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = (state m c t.val t.isLt).o7 := by dsimp only [dats]
theorem after8 (c : Dev nD) (t : Fin cfg0.N) : (dats m 0 c).after 8 t = (state m c t.val t.isLt).o8 := by dsimp only [dats]
theorem after9 (c : Dev nD) (t : Fin cfg0.N) : (dats m 0 c).after 9 t = (state m c t.val t.isLt).o9 := by dsimp only [dats]
theorem after10 (c : Dev nD) (t : Fin cfg0.N) : (dats m 0 c).after 10 t = (state m c t.val t.isLt).o10 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-- Inside a block of rows the second output's buffer holds what the point before left. -/
theorem before8 (c : Dev nD) (t : Fin cfg0.N) (h : ¬ t.val % 10 = 0) (d) :
    (dats m 0 c).before 8 t d = (state m c (t.val - 1) (by omega)).o8 := by
  have hN : t.val < 80 := lt_of_lt_of_eq t.isLt (show cfg0.N = 80 from N_0)
  rw [Dat.before_out_traj _ 8 rfl (fun _ _ => rfl)
      (fun t _ hi _ => by
        by_cases hlt : t.val % 10 = 0
        · exact absurd hi (by rw [show cfg0.idle 8 (cfg0.grid.coords t) = false from busy8 t hlt]; exact Bool.false_ne_true)
        · rw [after8, after8]; exact state_keep8 m c t hlt) t.val t rfl d,
    if_neg (by rw [fresh8]; simp only [new8, decide_eq_true_eq]; omega)]
  dsimp only [dats]

/-- That buffer at the state is what the pipeline asks for after point `t`. -/
theorem leaves8 (c : Dev nD) (t : Fin cfg0.N) :
    (owns (c : Thread nD τ) (mem8 t) fullShare (state m c t.val t.isLt).o8 : sProp 𝕄) ⊢ (dats m 0 c).leavesExact 8 t := by
  by_cases hlt : t.val % 10 = 0
  · unfold Dat.leavesExact; rw [show cfg0.idle 8 (cfg0.grid.coords t) = false from busy8 t hlt, after8]
  · have hi : cfg0.idle 8 (cfg0.grid.coords t) = true := idle8 t hlt
    cases hf : (cfg0.win 8).flush t
    · rw [Dat.leavesExact_idle _ 8 t hi hf]
      iintro H
      iexists (state m c t.val t.isLt).o8
      rw [before8 m c t hlt, state_keep8 m c t hlt]
      iexact H
    · unfold Dat.leavesExact; rw [hi, hf, after8]

/-- After the first point the fourth output's buffer holds what the point before left. -/
theorem before10 (c : Dev nD) (t : Fin cfg0.N) (h : ¬ t.val = 0) (d) :
    (dats m 0 c).before 10 t d = (state m c (t.val - 1) (by omega)).o10 := by
  have hN : t.val < 80 := lt_of_lt_of_eq t.isLt (show cfg0.N = 80 from N_0)
  rw [Dat.before_out_traj _ 10 rfl (fun _ _ => rfl)
      (fun t _ hi _ => by
        by_cases hlt : t.val = 0
        · exact absurd hi (by rw [show cfg0.idle 10 (cfg0.grid.coords t) = false from busy10 t hlt]; exact Bool.false_ne_true)
        · rw [after10, after10]; exact state_keep10 m c t hlt) t.val t rfl d,
    if_neg (by rw [fresh10]; simp only [new10, decide_eq_true_eq]; omega)]
  dsimp only [dats]

/-- That buffer at the state is what the pipeline asks for after point `t`. -/
theorem leaves10 (c : Dev nD) (t : Fin cfg0.N) :
    (owns (c : Thread nD τ) (mem10 t) fullShare (state m c t.val t.isLt).o10 : sProp 𝕄) ⊢ (dats m 0 c).leavesExact 10 t := by
  by_cases hlt : t.val = 0
  · unfold Dat.leavesExact; rw [show cfg0.idle 10 (cfg0.grid.coords t) = false from busy10 t hlt, after10]
  · have hi : cfg0.idle 10 (cfg0.grid.coords t) = true := idle10 t hlt
    cases hf : (cfg0.win 10).flush t
    · rw [Dat.leavesExact_idle _ 10 t hi hf]
      iintro H
      iexists (state m c t.val t.isLt).o10
      rw [before10 m c t hlt, state_keep10 m c t hlt]
      iexact H
    · unfold Dat.leavesExact; rw [hi, hf, after10]

/-- The step from what the buffers hold before point `t` gives the state after it. -/
theorem next_before (c : Dev nD) (t : Fin cfg0.N) (h : t.val ≠ 0) (d8 d10) :
    next m c t ((dats m 0 c).before 8 t d8) ((dats m 0 c).before 10 t d10) (state m c (t.val - 1) (by omega)).s
      (state m c (t.val - 1) (by omega)).d (state m c (t.val - 1) (by omega)).z = state m c t.val t.isLt := by
  rw [before10 m c t h, state_pos m c t h]
  by_cases h0 : t.val % 10 = 0
  · unfold next; rw [if_neg h, if_neg h, if_pos h0, if_pos h0]
  · rw [before8 m c t h0]

/-! ## The body at any point -/

/-- The body at point `t` takes the step `next`. -/
theorem body_next (c : Dev nD) (t : Fin cfg0.N) (o7 : Vec F S1024x1024 .bf16) (o9 : Vec F S1x128x1024 .bf16) (o8 : Vec F S1024x128 .f32) (o10 : Vec F S16x128 .f32) (s : Vec F S1040x2048 .bf16) (d : Vec F S1x128 .f32) (z : Vec F S1x128 .f32)
    (K : PUnit → sProp 𝕄) :
    iprop(owns (c : Thread nD τ) (mem0 t) fullShare (iblk m c 0 t) ∗ owns (c : Thread nD τ) (mem1 t) fullShare (iblk m c 1 t) ∗ owns (c : Thread nD τ) (mem2 t) fullShare (iblk m c 2 t) ∗ owns (c : Thread nD τ) (mem3 t) fullShare (iblk m c 3 t) ∗ owns (c : Thread nD τ) (mem4 t) fullShare (iblk m c 4 t) ∗ owns (c : Thread nD τ) (mem5 t) fullShare (iblk m c 5 t) ∗ owns (c : Thread nD τ) (mem6 t) fullShare (iblk m c 6 t) ∗ owns (c : Thread nD τ) (mem7 t) fullShare o7 ∗ owns (c : Thread nD τ) (mem8 t) fullShare o8 ∗ owns (c : Thread nD τ) (mem9 t) fullShare o9 ∗ owns (c : Thread nD τ) (mem10 t) fullShare o10 ∗ owns (c : Thread nD τ) scr0 fullShare s ∗ owns (c : Thread nD τ) scr1 fullShare d ∗ owns (c : Thread nD τ) scr2 fullShare z
        ∗ (iprop(owns (c : Thread nD τ) (mem0 t) fullShare (iblk m c 0 t) ∗ owns (c : Thread nD τ) (mem1 t) fullShare (iblk m c 1 t) ∗ owns (c : Thread nD τ) (mem2 t) fullShare (iblk m c 2 t) ∗ owns (c : Thread nD τ) (mem3 t) fullShare (iblk m c 3 t) ∗ owns (c : Thread nD τ) (mem4 t) fullShare (iblk m c 4 t) ∗ owns (c : Thread nD τ) (mem5 t) fullShare (iblk m c 5 t) ∗ owns (c : Thread nD τ) (mem6 t) fullShare (iblk m c 6 t) ∗ owns (c : Thread nD τ) (mem7 t) fullShare (next m c t o8 o10 s d z).o7 ∗ owns (c : Thread nD τ) (mem8 t) fullShare (next m c t o8 o10 s d z).o8 ∗ owns (c : Thread nD τ) (mem9 t) fullShare (next m c t o8 o10 s d z).o9 ∗ owns (c : Thread nD τ) (mem10 t) fullShare (next m c t o8 o10 s d z).o10 ∗ owns (c : Thread nD τ) scr0 fullShare (next m c t o8 o10 s d z).s ∗ owns (c : Thread nD τ) scr1 fullShare (next m c t o8 o10 s d z).d ∗ owns (c : Thread nD τ) scr2 fullShare (next m c t o8 o10 s d z).z) -∗ K ⟨⟩))
      ⊢ wp frame (wpE (defs₀ (F := F)) Variants.none c none) Set.univ (bodyAt0 t) K := by
  have hN : t.val < 80 := lt_of_lt_of_eq t.isLt (show cfg0.N = 80 from N_0)
  unfold next
  by_cases h0 : t.val = 0
  · simp only [if_pos h0]
    exact run_zero c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) (mem9 t) (whole9 t) (mem10 t) (whole10 t) scr0 (Memref.isWhole_whole _) scr1 (Memref.isWhole_whole _) scr2 (Memref.isWhole_whole _) ((test1 t).mpr (by omega)) ((test2 t).mpr (by omega)) ((test3 t).mpr (by omega)) ((test4 t).mpr (by omega)) (fun h => absurd ((test5 t).mp h) (by omega))
      (iblk m c 0 t) (iblk m c 1 t) (iblk m c 2 t) (iblk m c 3 t) (iblk m c 4 t) (iblk m c 5 t) (iblk m c 6 t) o7 o8 o9 o10 s d z Set.univ K
  · by_cases h1 : t.val % 10 = 0
    · by_cases h2 : t.val % 40 < 10
      · simp only [if_neg h0, if_pos h1, if_pos h2]
        exact run_begin c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) (mem9 t) (whole9 t) (mem10 t) (whole10 t) scr0 (Memref.isWhole_whole _) scr1 (Memref.isWhole_whole _) scr2 (Memref.isWhole_whole _) ((test1 t).mpr (by omega)) (fun h => absurd ((test2 t).mp h) (by omega)) ((test3 t).mpr (by omega)) ((test4 t).mpr (by omega)) (fun h => absurd ((test5 t).mp h) (by omega))
          (iblk m c 0 t) (iblk m c 1 t) (iblk m c 2 t) (iblk m c 3 t) (iblk m c 4 t) (iblk m c 5 t) (iblk m c 6 t) o7 o8 o9 o10 s d z Set.univ K
      · simp only [if_neg h0, if_pos h1, if_neg h2]
        exact run_first c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) (mem9 t) (whole9 t) (mem10 t) (whole10 t) scr0 (Memref.isWhole_whole _) scr1 (Memref.isWhole_whole _) scr2 (Memref.isWhole_whole _) ((test1 t).mpr (by omega)) (fun h => absurd ((test2 t).mp h) (by omega)) (fun h => absurd ((test3 t).mp h) (by omega)) ((test4 t).mpr (by omega)) (fun h => absurd ((test5 t).mp h) (by omega))
          (iblk m c 0 t) (iblk m c 1 t) (iblk m c 2 t) (iblk m c 3 t) (iblk m c 4 t) (iblk m c 5 t) (iblk m c 6 t) o7 o8 o9 o10 s d z Set.univ K
    · by_cases h2 : t.val % 10 < 2
      · simp only [if_neg h0, if_neg h1, if_pos h2]
        exact run_head c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) (mem9 t) (whole9 t) (mem10 t) (whole10 t) scr0 (Memref.isWhole_whole _) scr1 (Memref.isWhole_whole _) scr2 (Memref.isWhole_whole _) (fun h => absurd ((test1 t).mp h) (by omega)) ((test4 t).mpr (by omega)) (fun h => absurd ((test5 t).mp h) (by omega))
          (iblk m c 0 t) (iblk m c 1 t) (iblk m c 2 t) (iblk m c 3 t) (iblk m c 4 t) (iblk m c 5 t) (iblk m c 6 t) o7 o8 o9 o10 s d z Set.univ K
      · simp only [if_neg h0, if_neg h1, if_neg h2]
        exact run_plain c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) (mem9 t) (whole9 t) (mem10 t) (whole10 t) scr0 (Memref.isWhole_whole _) scr1 (Memref.isWhole_whole _) scr2 (Memref.isWhole_whole _) (fun h => absurd ((test1 t).mp h) (by omega)) (fun h => absurd ((test4 t).mp h) (by omega)) ((test5 t).mpr (by omega))
          (iblk m c 0 t) (iblk m c 1 t) (iblk m c 2 t) (iblk m c 3 t) (iblk m c 4 t) (iblk m c 5 t) (iblk m c 6 t) o7 o8 o9 o10 s d z Set.univ K

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (mem0 t) fullShare ((dats m 0 c).before 0 t d)) ∗ (∃ d, owns (c : Thread nD τ) (mem1 t) fullShare ((dats m 0 c).before 1 t d)) ∗ (∃ d, owns (c : Thread nD τ) (mem2 t) fullShare ((dats m 0 c).before 2 t d)) ∗ (∃ d, owns (c : Thread nD τ) (mem3 t) fullShare ((dats m 0 c).before 3 t d)) ∗ (∃ d, owns (c : Thread nD τ) (mem4 t) fullShare ((dats m 0 c).before 4 t d)) ∗ (∃ d, owns (c : Thread nD τ) (mem5 t) fullShare ((dats m 0 c).before 5 t d)) ∗ (∃ d, owns (c : Thread nD τ) (mem6 t) fullShare ((dats m 0 c).before 6 t d)) ∗ (∃ d, owns (c : Thread nD τ) (mem7 t) fullShare ((dats m 0 c).before 7 t d)) ∗ (∃ d, owns (c : Thread nD τ) (mem8 t) fullShare ((dats m 0 c).before 8 t d)) ∗ (∃ d, owns (c : Thread nD τ) (mem9 t) fullShare ((dats m 0 c).before 9 t d)) ∗ (∃ d, owns (c : Thread nD τ) (mem10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t)

/-- The buffers and the scratches at the state, with what the core owes, are what the body has to return. -/
theorem returned (c : Dev nD) (t : Fin cfg0.N) :
    iprop((∃ r, prngReg c r) ∗ (dats m 0 c).owesAt () t.castSucc ∗ owns (c : Thread nD τ) (mem0 t) fullShare (iblk m c 0 t) ∗ owns (c : Thread nD τ) (mem1 t) fullShare (iblk m c 1 t) ∗ owns (c : Thread nD τ) (mem2 t) fullShare (iblk m c 2 t) ∗ owns (c : Thread nD τ) (mem3 t) fullShare (iblk m c 3 t) ∗ owns (c : Thread nD τ) (mem4 t) fullShare (iblk m c 4 t) ∗ owns (c : Thread nD τ) (mem5 t) fullShare (iblk m c 5 t) ∗ owns (c : Thread nD τ) (mem6 t) fullShare (iblk m c 6 t) ∗ owns (c : Thread nD τ) (mem7 t) fullShare (state m c t.val t.isLt).o7 ∗ owns (c : Thread nD τ) (mem8 t) fullShare (state m c t.val t.isLt).o8 ∗ owns (c : Thread nD τ) (mem9 t) fullShare (state m c t.val t.isLt).o9 ∗ owns (c : Thread nD τ) (mem10 t) fullShare (state m c t.val t.isLt).o10 ∗ owns (c : Thread nD τ) scr0 fullShare (state m c t.val t.isLt).s ∗ owns (c : Thread nD τ) scr1 fullShare (state m c t.val t.isLt).d ∗ owns (c : Thread nD τ) scr2 fullShare (state m c t.val t.isLt).z) ⊢ bodyPost m c t := by
  unfold bodyPost
  rw [show (dats m 0 c).owesAt () t.succ = (dats m 0 c).owesAt () t.castSucc from rfl]
  rw [show (dats m 0 c).Φ t.succ = inv m c (t.val + 1) t.isLt from rfl, inv_succ]
  rw [show (dats m 0 c).leavesExact 0 t = owns (c : Thread nD τ) (mem0 t) fullShare ((dats m 0 c).after 0 t) from by
    unfold Dat.leavesExact; rw [show cfg0.idle 0 (cfg0.grid.coords t) = false from rfl], after0]
  rw [show (dats m 0 c).leavesExact 1 t = owns (c : Thread nD τ) (mem1 t) fullShare ((dats m 0 c).after 1 t) from by
    unfold Dat.leavesExact; rw [show cfg0.idle 1 (cfg0.grid.coords t) = false from rfl], after1]
  rw [show (dats m 0 c).leavesExact 2 t = owns (c : Thread nD τ) (mem2 t) fullShare ((dats m 0 c).after 2 t) from by
    unfold Dat.leavesExact; rw [show cfg0.idle 2 (cfg0.grid.coords t) = false from rfl], after2]
  rw [show (dats m 0 c).leavesExact 3 t = owns (c : Thread nD τ) (mem3 t) fullShare ((dats m 0 c).after 3 t) from by
    unfold Dat.leavesExact; rw [show cfg0.idle 3 (cfg0.grid.coords t) = false from rfl], after3]
  rw [show (dats m 0 c).leavesExact 4 t = owns (c : Thread nD τ) (mem4 t) fullShare ((dats m 0 c).after 4 t) from by
    unfold Dat.leavesExact; rw [show cfg0.idle 4 (cfg0.grid.coords t) = false from rfl], after4]
  rw [show (dats m 0 c).leavesExact 5 t = owns (c : Thread nD τ) (mem5 t) fullShare ((dats m 0 c).after 5 t) from by
    unfold Dat.leavesExact; rw [show cfg0.idle 5 (cfg0.grid.coords t) = false from rfl], after5]
  rw [show (dats m 0 c).leavesExact 6 t = owns (c : Thread nD τ) (mem6 t) fullShare ((dats m 0 c).after 6 t) from by
    unfold Dat.leavesExact; rw [show cfg0.idle 6 (cfg0.grid.coords t) = false from rfl], after6]
  rw [show (dats m 0 c).leavesExact 7 t = owns (c : Thread nD τ) (mem7 t) fullShare ((dats m 0 c).after 7 t) from by
    unfold Dat.leavesExact; rw [show cfg0.idle 7 (cfg0.grid.coords t) = false from busy7 t], after7]
  rw [show (dats m 0 c).leavesExact 9 t = owns (c : Thread nD τ) (mem9 t) fullShare ((dats m 0 c).after 9 t) from by
    unfold Dat.leavesExact; rw [show cfg0.idle 9 (cfg0.grid.coords t) = false from busy9 t], after9]
  iintro ⟨Hg, Ho, H0, H1, H2, H3, H4, H5, H6, H7, H8, H9, H10, HS, HD, HZ⟩
  isplitl [HS HD HZ Hg]
  · isplitl [HS HD HZ]
    · isplitl [HS]; · iexact HS
      isplitl [HD]; · iexact HD
      iexact HZ
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iapply (leaves8 m c t)
    iexact H8
  isplitl [H9]; · iexact H9
  iapply (leaves10 m c t)
  iexact H10

set_option maxHeartbeats 1600000 in
/-- The body at any point. -/
theorem sound (c : Dev nD) (t : Fin cfg0.N) :
    bodyPre m c t ⊢ wp frame (wpE (defs₀ (F := F)) Variants.none c none) Set.univ (bodyAt0 t) (fun _ => bodyPost m c t) := by
  unfold bodyPre
  simp only [before0, before1, before2, before3, before4, before5, before6]
  rw [inv_castSucc m c t]
  by_cases hz : t.val = 0
  · rw [inv_zero m c _ _ hz, scratch_eq]
    iintro ⟨⟨⟨⟨%s, HS⟩, ⟨%d, HD⟩, ⟨%z, HZ⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (body_next m c t _ _ _ _ s d z _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS]; · iexact HS
    isplitl [HD]; · iexact HD
    isplitl [HZ]; · iexact HZ
    iintro ⟨H0, H1, H2, H3, H4, H5, H6, H7, H8, H9, H10, HS, HD, HZ⟩
    iapply (returned m c t)
    rw [state_zero m c t hz ((dats m 0 c).before 8 t d8) ((dats m 0 c).before 10 t d10) s d z]
    isplitl [Hg]; · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS]; · iexact HS
    isplitl [HD]; · iexact HD
    iexact HZ
  · rw [inv_pos m c _ _ hz]
    iintro ⟨⟨⟨HS, HD, HZ⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (body_next m c t _ _ _ _ _ _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS]; · iexact HS
    isplitl [HD]; · iexact HD
    isplitl [HZ]; · iexact HZ
    iintro ⟨H0, H1, H2, H3, H4, H5, H6, H7, H8, H9, H10, HS, HD, HZ⟩
    iapply (returned m c t)
    rw [← next_before m c t hz d8 d10]
    isplitl [Hg]; · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS]; · iexact HS
    isplitl [HD]; · iexact HD
    iexact HZ

/-- The body the pipeline calls at point `t` is the body as written above. -/
theorem row (t : Fin cfg0.N) :
    defs₀ (F := F) .tc cfg0.body (cfg0.bodyArgs t (cfg0.slots t)) = bodyAt0 t := by
  unfold defs₀; rw [Defs.onTc_tc]

/-- The library's obligation of the body, at every point. -/
theorem obligation (c : Dev nD) : BodyObligation (dats (F := F) m 0 c) (defs₀ (F := F)) Variants.none () Set.univ := fun t => by
  rw [bigSep_W0, bigSep_W0, row]
  exact triple_restated (sound m c t) rfl .rfl fun _ => .rfl

/-- What the launch hands over is what is owned before the first point, -/
theorem enter (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

/-- and what is owned after the last point can be given back. -/
theorem leave (c : Dev nD) : (dats m 0 c).Φ (Fin.last cfg0.N) ⊢ Pipeline.ΦA spec0 c := by
  have hl : (Fin.last cfg0.N).val ≠ 0 := by rw [Fin.val_last]; have : cfg0.N = 80 := N_0; omega
  rw [show (dats m 0 c).Φ (Fin.last cfg0.N) = inv m c (Fin.last cfg0.N).val (Nat.le_of_lt_succ (Fin.last cfg0.N).isLt) from rfl,
    inv_pos m c _ _ hl, scratch_eq]
  iintro ⟨⟨HS, HD, HZ⟩, Hg⟩
  isplitl [HS HD HZ]
  · isplitl [HS]
    · iexists _; iexact HS
    isplitl [HD]
    · iexists _; iexact HD
    iexists _; iexact HZ
  iexact Hg

/-! ## The launch -/

set_option backward.isDefEq.respectTransparency.types false in
/-- Every run ends, with every array of the pipeline as the proof data says, every other buffer as it was, and every
    semaphore counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := enter m) (hout := leave m)

/-- The same without the counters. -/
theorem run_main : θ_run defs (onTc (τ := τ) (main (F := F))) (s₀ m ρ) (Pipeline.FramePost cfgs (dats m) 0 (V m)) :=
  (θ_run defs _ _).mono (fun _ h => h.1) (run_quiescent m ρ)

/-- The frame: every run ends, the arguments are unchanged and the counters are zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_quiescent m ρ))

end Cert.InprojIdeal.Body

end
-- ==== Proof.InprojValue.lean ====
/-
  What the input projection computes over the reals: the packed projection of the sequence is the reference's composed
  term of the argument arrays. A block of rows is normalised by its first column tile and kept in a scratch for the
  other nine; a column tile is the product of those rows and a tile of the transposed weights, which skips the eight
  forget-gate columns; the first two tiles (the forgetting attention's queries and keys) are normalised head by head,
  and the fourth (the stick-breaking queries) is scaled.
-/
module

public import proofs.«01_k».proof.Proof.FfnMath
public import proofs.«01_k».proof.Proof.InprojIdeal.Frame
public import proofs.«01_k».proof.Proof.Gen.InprojRefIdeal.Run
public import Idealize.ShloMosaic.Lib.Pipeline.ValueKit
public import Idealize.ShloMosaic.Lib.Pipeline.ReadBack
public import Idealize.ShloMosaic.Lib.Pointwise
public import Idealize.ShloMosaic.Lib.StableHlo.Run

@[expose] public section

set_option maxRecDepth 16384

noncomputable section

open Idealize.ShloMosaic Idealize.ShloMosaic.TcCoe Idealize.SL.Sem
open Idealize.ShloMosaic.Pipeline (Dat Window)
open scoped BigOperators

namespace InprojMath

/-- One head's 128 values after RMS norm, times a gain. -/
def head (y g : Fin 128 → EReal) (k : Fin 128) : EReal :=
  y k * Ideal.rsqrt (Ideal.div (∑ e : Fin 128, y e * y e) (Ideal.ofBits .f32 0x43000000#32)
    + Ideal.ofBits .f32 0x358637BD#32) * g k

/-- Column `k` of head `h` in a tile of eight heads. -/
abbrev at8 (h : Fin 8) (k : Fin 128) : Fin 1024 := ⟨h.val * 128 + k.val, by omega⟩

/-- The units the queries are taken in. -/
abbrev units : EReal := Ideal.ofBits .f32 0x3E0293EE#32

/-- A gain that is scaled scales the normalised head. -/
theorem head_scaled (y g g' : Fin 128 → EReal) (hg : ∀ k, g' k = g k * units) (k : Fin 128) :
    head y g' k = head y g k * units := by
  unfold head; rw [hg, mul_assoc, mul_assoc, mul_assoc]

end InprojMath

namespace Cert.InprojRefIdeal.Whole

open Cert.InprojRefIdeal Cert.InprojRefIdeal.Gen InprojMath

/-- The normalised rows times the weights, all columns. -/
def packed (x : FVec Ideal S8192x2048 .f32) (a2 : FVec Ideal S1x2048 .f32) (w : FVec Ideal S1x2048x10248 .f32) :
    FVec Ideal S8192x10248 .f32 :=
  (Host.dotGeneral dot_S8192x2048_S2048x10248_S8192x10248_1_0_0_1_n_n none (mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ a2 shapeCasts_S1x2048_S2048)))) (shapeCast _ w shapeCasts_S1x2048x10248_S2048x10248))

/-- Eight heads' columns normalised head by head. -/
def headNorm (q : FVec Ideal S8192x1024 .f32) (g : FVec Ideal S1x8x128 .f32) : FVec Ideal S8192x1024 .f32 :=
  (shapeCast _ (mulf (mulf (shapeCast _ q shapeCasts_S8192x1024_S8192x8x128) (broadcastInDim S8192x8x128 ![0, 1, 2] bcast_S8192x8x1_S8192x8x128_0_1_2 (Host.rsqrt (addf (Host.divf (broadcastInDim S8192x8x1 ![0, 1] bcast_S8192x8_S8192x8x1_0_1 (Host.reduceAdd (mulf (shapeCast _ q shapeCasts_S8192x1024_S8192x8x128) (shapeCast _ q shapeCasts_S8192x1024_S8192x8x128)) (constant S_ .f32 0x00000000#32) reducesTo_S8192x8x128_S8192x8_d2 h_S_)) (broadcastInDim S8192x8x1 ![] bcast_S_S8192x8x1 (constant S_ .f32 0x43000000#32))) (broadcastInDim S8192x8x1 ![] bcast_S_S8192x8x1 (constant S_ .f32 0x358637BD#32)))))) (broadcastInDim S8192x8x128 ![0, 1, 2] bcast_S1x8x128_S8192x8x128_0_1_2 (broadcastInDim S1x8x128 ![1, 2] bcast_S8x128_S1x8x128_1_2 (shapeCast _ g shapeCasts_S1x8x128_S8x128)))) shapeCasts_S8192x8x128_S8192x1024)

/-- The reference's result from the product of the normalised rows and the weights. -/
def arrange (P : FVec Ideal S8192x10248 .f32) (gq gk : FVec Ideal S1x8x128 .f32) : FVec Ideal S8192x10240 .bf16 :=
  truncf .bf16 (concatenate S8192x10240 1 [⟨S8192x1024, mulf (headNorm (extractStridedSlice S8192x1024 ![0, 0] P slices_S8192x10248_S8192x1024_0_0) gq) (broadcastInDim S8192x1024 ![] bcast_S_S8192x1024 (constant S_ .f32 0x3E0293EE#32))⟩, ⟨S8192x1024, headNorm (extractStridedSlice S8192x1024 ![0, 1024] P slices_S8192x10248_S8192x1024_0_1024) gk⟩, ⟨S8192x1024, (extractStridedSlice S8192x1024 ![0, 2048] P slices_S8192x10248_S8192x1024_0_2048)⟩, ⟨S8192x1024, mulf (extractStridedSlice S8192x1024 ![0, 3080] P slices_S8192x10248_S8192x1024_0_3080) (broadcastInDim S8192x1024 ![] bcast_S_S8192x1024 (constant S_ .f32 0x3E0293EE#32))⟩, ⟨S8192x1024, (extractStridedSlice S8192x1024 ![0, 4104] P slices_S8192x10248_S8192x1024_0_4104)⟩, ⟨S8192x1024, (extractStridedSlice S8192x1024 ![0, 5128] P slices_S8192x10248_S8192x1024_0_5128)⟩, ⟨S8192x4096, extractStridedSlice S8192x4096 ![0, 6152] P slices_S8192x10248_S8192x4096_0_6152⟩] concatenates_S8192x1024_S8192x1024_S8192x1024_S8192x1024_S8192x1024_S8192x1024_S8192x4096_S8192x10240_d1) bitsLt_bf16_f32

/-- The reference's result as one term of the arguments. -/
def refTerm (x : FVec Ideal S8192x2048 .f32) (a2 : FVec Ideal S1x2048 .f32) (w : FVec Ideal S1x2048x10248 .f32)
    (gq gk : FVec Ideal S1x8x128 .f32) : FVec Ideal S8192x10240 .bf16 := arrange (packed x a2 w) gq gk

/-- The run's result is that term. -/
theorem run_term (m : (ℓ : Loc nD τ sig) → Buf (Elt Ideal) ℓ) (c : Dev nD) :
    Value.res_main_v60 (F := Ideal) m c = refTerm (m ((c : Thread nD τ).loc main_arg0)) (m ((c : Thread nD τ).loc main_arg2))
      (m ((c : Thread nD τ).loc main_arg3)) (m ((c : Thread nD τ).loc main_arg5)) (m ((c : Thread nD τ).loc main_arg6)) := by
  unfold Value.res_main_v60 refTerm arrange packed headNorm
  rfl

set_option maxHeartbeats 1600000 in
/-- The product at row `r`, column `q`. -/
theorem packed_at (x : FVec Ideal S8192x2048 .f32) (a2 : FVec Ideal S1x2048 .f32) (w : FVec Ideal S1x2048x10248 .f32)
    (r : Fin 8192) (q : Fin 10248) :
    packed x a2 w (ix2 r q)
      = ∑ e : Fin 2048, FfnMath.normed (fun k => x (ix2 r k)) (fun k => a2 (ix2 0 k)) e * w (ix3 0 e q) := by
  pointwise [packed, FfnMath.normed]

set_option maxHeartbeats 1600000 in
/-- A normalised head at row `r`. -/
theorem headNorm_at (q : FVec Ideal S8192x1024 .f32) (g : FVec Ideal S1x8x128 .f32) (r : Fin 8192) (h : Fin 8) (k : Fin 128) :
    headNorm q g (ix2 r (at8 h k)) = head (fun e => q (ix2 r (at8 h e))) (fun e => g (ix3 0 h e)) k := by
  have e1 : (h.val * 128 + k.val) / 128 = h.val := by omega
  have e2 : (h.val * 128 + k.val) % 128 = k.val := by omega
  pointwise [headNorm, head]
  simp only [e1, e2]

set_option maxHeartbeats 1600000 in
/-- The result in piece 0 of its columns. -/
theorem arrange_at0 (P : FVec Ideal S8192x10248 .f32) (gq gk : FVec Ideal S1x8x128 .f32) (r : Fin 8192) (l : Fin 1024) :
    arrange P gq gk (ix2 r ⟨0 + l.val, by omega⟩) = headNorm (extractStridedSlice S8192x1024 ![0, 0] P slices_S8192x10248_S8192x1024_0_0) gq (ix2 r l) * units := by
  pointwise [arrange, units]

set_option maxHeartbeats 1600000 in
/-- The result in piece 1 of its columns. -/
theorem arrange_at1 (P : FVec Ideal S8192x10248 .f32) (gq gk : FVec Ideal S1x8x128 .f32) (r : Fin 8192) (l : Fin 1024) :
    arrange P gq gk (ix2 r ⟨1024 + l.val, by omega⟩) = headNorm (extractStridedSlice S8192x1024 ![0, 1024] P slices_S8192x10248_S8192x1024_0_1024) gk (ix2 r l) := by
  pointwise [arrange, units]

set_option maxHeartbeats 1600000 in
/-- The result in piece 2 of its columns. -/
theorem arrange_at2 (P : FVec Ideal S8192x10248 .f32) (gq gk : FVec Ideal S1x8x128 .f32) (r : Fin 8192) (l : Fin 1024) :
    arrange P gq gk (ix2 r ⟨2048 + l.val, by omega⟩) = P (ix2 r ⟨2048 + l.val, by omega⟩) := by
  pointwise [arrange, units]
  rw [dif_neg (by omega), dif_neg (by omega), dif_pos (by omega)]
  have e : 2048 + l.val - 1024 - 1024 = l.val := by omega
  simp only [e]

set_option maxHeartbeats 1600000 in
/-- The result in piece 3 of its columns. -/
theorem arrange_at3 (P : FVec Ideal S8192x10248 .f32) (gq gk : FVec Ideal S1x8x128 .f32) (r : Fin 8192) (l : Fin 1024) :
    arrange P gq gk (ix2 r ⟨3072 + l.val, by omega⟩) = P (ix2 r ⟨3080 + l.val, by omega⟩) * units := by
  pointwise [arrange, units]
  rw [dif_neg (by omega), dif_neg (by omega), dif_neg (by omega), dif_pos (by omega)]
  have e : 3072 + l.val - 1024 - 1024 - 1024 = l.val := by omega
  simp only [e]

set_option maxHeartbeats 1600000 in
/-- The result in piece 4 of its columns. -/
theorem arrange_at4 (P : FVec Ideal S8192x10248 .f32) (gq gk : FVec Ideal S1x8x128 .f32) (r : Fin 8192) (l : Fin 1024) :
    arrange P gq gk (ix2 r ⟨4096 + l.val, by omega⟩) = P (ix2 r ⟨4104 + l.val, by omega⟩) := by
  pointwise [arrange, units]
  rw [dif_neg (by omega), dif_neg (by omega), dif_neg (by omega), dif_neg (by omega), dif_pos (by omega)]
  have e : 4096 + l.val - 1024 - 1024 - 1024 - 1024 = l.val := by omega
  simp only [e]

set_option maxHeartbeats 1600000 in
/-- The result in piece 5 of its columns. -/
theorem arrange_at5 (P : FVec Ideal S8192x10248 .f32) (gq gk : FVec Ideal S1x8x128 .f32) (r : Fin 8192) (l : Fin 1024) :
    arrange P gq gk (ix2 r ⟨5120 + l.val, by omega⟩) = P (ix2 r ⟨5128 + l.val, by omega⟩) := by
  pointwise [arrange, units]
  rw [dif_neg (by omega), dif_neg (by omega), dif_neg (by omega), dif_neg (by omega), dif_neg (by omega), dif_pos (by omega)]
  have e : 5120 + l.val - 1024 - 1024 - 1024 - 1024 - 1024 = l.val := by omega
  simp only [e]

set_option maxHeartbeats 1600000 in
/-- The result in piece 6 of its columns. -/
theorem arrange_at6 (P : FVec Ideal S8192x10248 .f32) (gq gk : FVec Ideal S1x8x128 .f32) (r : Fin 8192) (l : Fin 4096) :
    arrange P gq gk (ix2 r ⟨6144 + l.val, by omega⟩) = P (ix2 r ⟨6152 + l.val, by omega⟩) := by
  pointwise [arrange, units]
  rw [dif_neg (by omega), dif_neg (by omega), dif_neg (by omega), dif_neg (by omega), dif_neg (by omega), dif_neg (by omega)]
  have e : 6144 + l.val - 1024 - 1024 - 1024 - 1024 - 1024 - 1024 = l.val := by omega
  simp only [e]

/-- The first two slices of the product, at an index. -/
theorem slice0_at (P : FVec Ideal S8192x10248 .f32) (r : Fin 8192) (l : Fin 1024) :
    extractStridedSlice S8192x1024 ![0, 0] P slices_S8192x10248_S8192x1024_0_0 (ix2 r l) = P (ix2 r ⟨l.val, by omega⟩) := by
  pointwise
theorem slice1_at (P : FVec Ideal S8192x10248 .f32) (r : Fin 8192) (l : Fin 1024) :
    extractStridedSlice S8192x1024 ![0, 1024] P slices_S8192x10248_S8192x1024_0_1024 (ix2 r l) = P (ix2 r ⟨1024 + l.val, by omega⟩) := by
  pointwise

end Cert.InprojRefIdeal.Whole

namespace Cert.InprojIdeal.Whole

open Cert.InprojIdeal Cert.InprojIdeal.Gen Cert.InprojIdeal.Body InprojMath

/-- The scratch's row of row `r` of the block. -/
abbrev up (r : Fin 1024) : Fin 1040 := ⟨r.val, by omega⟩

/-- The product of a row and a weight tile's row. -/
abbrev prod (xn w : Fin 2048 → EReal) : EReal := ∑ e : Fin 2048, xn e * w e

/-- The normalised rows of the block. -/
theorem pay12_at (x : FVec Ideal S1024x2048 .f32) (g : FVec Ideal S1x2048 .f32) (r : Fin 1024) (e : Fin 2048) :
    k0_pay12 (F := Ideal) x g (ix2 r e) = FfnMath.normed (fun k => x (ix2 r k)) (fun k => g (ix2 0 k)) e := by
  pointwise [k0_pay12, k0_pay11, FfnMath.normed]

/-- Of two pieces written, the earlier one at an index the later does not cover. -/
theorem pick {Val : EltTy → Type} [∀ e, Nonempty (Val e)] {s : Shape} {e : EltTy} (r₁ r₂ : Rect s) (w₁ : r₁.shape.Idx → Val e)
    (w₂ : r₂.shape.Idx → Val e) (x : r₂.shape.Idx) (h : r₂.emb x ∉ r₁.set) :
    View.canon [⟨r₁, w₁⟩, ⟨r₂, w₂⟩] (r₂.emb x) = w₂ x := by
  rw [View.canon_cons_of_not_mem _ _ h, View.canon_cons_emb]

/-- A block's rows written over other contents of the scratch, read at one of these rows, -/
theorem over_at (a : Vec Ideal S1024x2048 .bf16) (s : Vec Ideal S1040x2048 .bf16) (r : Fin 1024) (e : Fin 2048) :
    over a s (ix2 (up r) e) = a (ix2 r e) := by
  unfold over
  have h : 0 ≤ ((ix2 (up r) e : S1040x2048.Idx) (0 : Fin 2)).val ∧ ((ix2 (up r) e : S1040x2048.Idx) (0 : Fin 2)).val < 0 + 1024 :=
    ⟨Nat.zero_le _, by show r.val < 0 + 1024; omega⟩
  rw [dif_pos h]
  refine congrArg a ?_
  funext d
  refine Fin.ext ?_
  fin_cases d
  · show r.val - 0 = r.val; omega
  · show e.val - 0 = e.val; omega

/-- and those stacked on the meta tokens' rows. -/
theorem stack_at (a : Vec Ideal S1024x2048 .bf16) (b : Vec Ideal S16x2048 .bf16) (r : Fin 1024) (e : Fin 2048) :
    stack a b (ix2 (up r) e) = a (ix2 r e) := by
  have he : (ix2 (up r) e : S1040x2048.Idx) = (Rect.unit (s := S1040x2048) ![0, 0] S1024x2048.size inb_S1040x2048_S1024x2048_0_0).emb (ix2 r e) := by
    funext d
    refine Fin.ext ?_
    rw [Rect.emb_apply]
    match d with
    | ⟨0, _⟩ => show r.val = 0 + 1 * r.val; omega
    | ⟨1, _⟩ => show e.val = 0 + 1 * e.val; omega
  have hn : (ix2 (up r) e : S1040x2048.Idx) ∉ (Rect.unit (s := S1040x2048) ![1024, 0] S16x2048.size inb_S1040x2048_S16x2048_1024_0).set := by
    rw [Rect.mem_set_unit]
    intro h
    have h0 : 1024 ≤ r.val := (h (0 : Fin 2)).1
    exact absurd h0 (Nat.not_le_of_lt r.isLt)
  rw [he] at hn
  rw [he]
  unfold stack
  exact pick (Val := Elt Ideal) (e := .bf16) (Rect.unit (s := S1040x2048) ![1024, 0] S16x2048.size inb_S1040x2048_S16x2048_1024_0) (Rect.unit (s := S1040x2048) ![0, 0] S1024x2048.size inb_S1040x2048_S1024x2048_0_0) b a (ix2 r e) hn

/-- The body's test for the fourth column tile. -/
abbrev fourth (i : grid0.Coords) : BitVec 1 := Scalar.cmpi .eq (BitVec.ofNat 32 (i 1).val) 3#32

theorem fourth_iff : ∀ t : Fin cfg0.N, fourth (grid0.coords t) = if t.val % 10 = 3 then 1#1 else 0#1 :=
  (by decide +kernel : ∀ t : Fin grid0.N, fourth (grid0.coords t) = if t.val % 10 = 3 then 1#1 else 0#1)

/-- A column tile past the second. -/
theorem pay4_at (i : grid0.Coords) (s : Vec Ideal S1040x2048 .bf16) (w : Vec Ideal S1024x2048 .f32) (r l : Fin 1024) :
    k0_pay4 (F := Ideal) i s w (ix2 r l) = prod (fun e => s (ix2 (up r) e)) (fun e => w (ix2 l e))
      * Scalar.select (fourth i) units (Ideal.ofBits .f32 0x3F800000#32) := by
  pointwise [k0_pay4, k0_pay3, prod, units, fourth]

set_option maxHeartbeats 1600000 in
/-- Head 0 of one of the first two column tiles. -/
theorem headed_at0 (s : Vec Ideal S1040x2048 .bf16) (w : Vec Ideal S1024x2048 .f32) (g : Vec Ideal S1x1024 .f32) (r : Fin 1024) (k : Fin 128) :
    headed s w g (ix2 r ⟨0 + k.val, by omega⟩) = head (fun e => prod (fun q => s (ix2 (up r) q)) (fun q => w (ix2 ⟨0 + e.val, by omega⟩ q)))
      (fun e => g (ix2 0 ⟨0 + e.val, by omega⟩)) k := by
  pointwise [headed, head, prod, k0_pay28, k0_pay29, k0_pay30, k0_pay31, k0_pay32, k0_pay33, k0_pay34, k0_pay35, k0_pay36, k0_pay37, k0_pay38, k0_pay39, k0_pay40]

set_option maxHeartbeats 1600000 in
/-- Head 1 of one of the first two column tiles. -/
theorem headed_at1 (s : Vec Ideal S1040x2048 .bf16) (w : Vec Ideal S1024x2048 .f32) (g : Vec Ideal S1x1024 .f32) (r : Fin 1024) (k : Fin 128) :
    headed s w g (ix2 r ⟨128 + k.val, by omega⟩) = head (fun e => prod (fun q => s (ix2 (up r) q)) (fun q => w (ix2 ⟨128 + e.val, by omega⟩ q)))
      (fun e => g (ix2 0 ⟨128 + e.val, by omega⟩)) k := by
  pointwise [headed, head, prod, k0_pay28, k0_pay29, k0_pay30, k0_pay31, k0_pay32, k0_pay33, k0_pay34, k0_pay35, k0_pay36, k0_pay37, k0_pay38, k0_pay39, k0_pay40]

set_option maxHeartbeats 1600000 in
/-- Head 2 of one of the first two column tiles. -/
theorem headed_at2 (s : Vec Ideal S1040x2048 .bf16) (w : Vec Ideal S1024x2048 .f32) (g : Vec Ideal S1x1024 .f32) (r : Fin 1024) (k : Fin 128) :
    headed s w g (ix2 r ⟨256 + k.val, by omega⟩) = head (fun e => prod (fun q => s (ix2 (up r) q)) (fun q => w (ix2 ⟨256 + e.val, by omega⟩ q)))
      (fun e => g (ix2 0 ⟨256 + e.val, by omega⟩)) k := by
  pointwise [headed, head, prod, k0_pay28, k0_pay29, k0_pay30, k0_pay31, k0_pay32, k0_pay33, k0_pay34, k0_pay35, k0_pay36, k0_pay37, k0_pay38, k0_pay39, k0_pay40]
  rw [dif_neg (by omega), dif_neg (by omega), dif_pos (by omega)]
  have e : 256 + k.val - 128 - 128 = k.val := by omega
  simp only [e]

set_option maxHeartbeats 1600000 in
/-- Head 3 of one of the first two column tiles. -/
theorem headed_at3 (s : Vec Ideal S1040x2048 .bf16) (w : Vec Ideal S1024x2048 .f32) (g : Vec Ideal S1x1024 .f32) (r : Fin 1024) (k : Fin 128) :
    headed s w g (ix2 r ⟨384 + k.val, by omega⟩) = head (fun e => prod (fun q => s (ix2 (up r) q)) (fun q => w (ix2 ⟨384 + e.val, by omega⟩ q)))
      (fun e => g (ix2 0 ⟨384 + e.val, by omega⟩)) k := by
  pointwise [headed, head, prod, k0_pay28, k0_pay29, k0_pay30, k0_pay31, k0_pay32, k0_pay33, k0_pay34, k0_pay35, k0_pay36, k0_pay37, k0_pay38, k0_pay39, k0_pay40]
  rw [dif_neg (by omega), dif_neg (by omega), dif_neg (by omega), dif_pos (by omega)]
  have e : 384 + k.val - 128 - 128 - 128 = k.val := by omega
  simp only [e]

set_option maxHeartbeats 1600000 in
/-- Head 4 of one of the first two column tiles. -/
theorem headed_at4 (s : Vec Ideal S1040x2048 .bf16) (w : Vec Ideal S1024x2048 .f32) (g : Vec Ideal S1x1024 .f32) (r : Fin 1024) (k : Fin 128) :
    headed s w g (ix2 r ⟨512 + k.val, by omega⟩) = head (fun e => prod (fun q => s (ix2 (up r) q)) (fun q => w (ix2 ⟨512 + e.val, by omega⟩ q)))
      (fun e => g (ix2 0 ⟨512 + e.val, by omega⟩)) k := by
  pointwise [headed, head, prod, k0_pay28, k0_pay29, k0_pay30, k0_pay31, k0_pay32, k0_pay33, k0_pay34, k0_pay35, k0_pay36, k0_pay37, k0_pay38, k0_pay39, k0_pay40]
  rw [dif_neg (by omega), dif_neg (by omega), dif_neg (by omega), dif_neg (by omega), dif_pos (by omega)]
  have e : 512 + k.val - 128 - 128 - 128 - 128 = k.val := by omega
  simp only [e]

set_option maxHeartbeats 1600000 in
/-- Head 5 of one of the first two column tiles. -/
theorem headed_at5 (s : Vec Ideal S1040x2048 .bf16) (w : Vec Ideal S1024x2048 .f32) (g : Vec Ideal S1x1024 .f32) (r : Fin 1024) (k : Fin 128) :
    headed s w g (ix2 r ⟨640 + k.val, by omega⟩) = head (fun e => prod (fun q => s (ix2 (up r) q)) (fun q => w (ix2 ⟨640 + e.val, by omega⟩ q)))
      (fun e => g (ix2 0 ⟨640 + e.val, by omega⟩)) k := by
  pointwise [headed, head, prod, k0_pay28, k0_pay29, k0_pay30, k0_pay31, k0_pay32, k0_pay33, k0_pay34, k0_pay35, k0_pay36, k0_pay37, k0_pay38, k0_pay39, k0_pay40]
  rw [dif_neg (by omega), dif_neg (by omega), dif_neg (by omega), dif_neg (by omega), dif_neg (by omega), dif_pos (by omega)]
  have e : 640 + k.val - 128 - 128 - 128 - 128 - 128 = k.val := by omega
  simp only [e]

set_option maxHeartbeats 1600000 in
/-- Head 6 of one of the first two column tiles. -/
theorem headed_at6 (s : Vec Ideal S1040x2048 .bf16) (w : Vec Ideal S1024x2048 .f32) (g : Vec Ideal S1x1024 .f32) (r : Fin 1024) (k : Fin 128) :
    headed s w g (ix2 r ⟨768 + k.val, by omega⟩) = head (fun e => prod (fun q => s (ix2 (up r) q)) (fun q => w (ix2 ⟨768 + e.val, by omega⟩ q)))
      (fun e => g (ix2 0 ⟨768 + e.val, by omega⟩)) k := by
  pointwise [headed, head, prod, k0_pay28, k0_pay29, k0_pay30, k0_pay31, k0_pay32, k0_pay33, k0_pay34, k0_pay35, k0_pay36, k0_pay37, k0_pay38, k0_pay39, k0_pay40]
  rw [dif_neg (by omega), dif_neg (by omega), dif_neg (by omega), dif_neg (by omega), dif_neg (by omega), dif_neg (by omega), dif_pos (by omega)]
  have e : 768 + k.val - 128 - 128 - 128 - 128 - 128 - 128 = k.val := by omega
  simp only [e]

set_option maxHeartbeats 1600000 in
/-- Head 7 of one of the first two column tiles. -/
theorem headed_at7 (s : Vec Ideal S1040x2048 .bf16) (w : Vec Ideal S1024x2048 .f32) (g : Vec Ideal S1x1024 .f32) (r : Fin 1024) (k : Fin 128) :
    headed s w g (ix2 r ⟨896 + k.val, by omega⟩) = head (fun e => prod (fun q => s (ix2 (up r) q)) (fun q => w (ix2 ⟨896 + e.val, by omega⟩ q)))
      (fun e => g (ix2 0 ⟨896 + e.val, by omega⟩)) k := by
  pointwise [headed, head, prod, k0_pay28, k0_pay29, k0_pay30, k0_pay31, k0_pay32, k0_pay33, k0_pay34, k0_pay35, k0_pay36, k0_pay37, k0_pay38, k0_pay39, k0_pay40]
  rw [dif_neg (by omega), dif_neg (by omega), dif_neg (by omega), dif_neg (by omega), dif_neg (by omega), dif_neg (by omega), dif_neg (by omega)]
  have e : 896 + k.val - 128 - 128 - 128 - 128 - 128 - 128 - 128 = k.val := by omega
  simp only [e]

/-- A head of one of the first two column tiles. -/
theorem headed_at (s : Vec Ideal S1040x2048 .bf16) (w : Vec Ideal S1024x2048 .f32) (g : Vec Ideal S1x1024 .f32) (r : Fin 1024) (h : Fin 8)
    (k : Fin 128) : headed s w g (ix2 r (at8 h k)) = head (fun e => prod (fun q => s (ix2 (up r) q)) (fun q => w (ix2 (at8 h e) q)))
      (fun e => g (ix2 0 (at8 h e))) k :=
  match h with
  | ⟨0, _⟩ => headed_at0 s w g r k
  | ⟨1, _⟩ => headed_at1 s w g r k
  | ⟨2, _⟩ => headed_at2 s w g r k
  | ⟨3, _⟩ => headed_at3 s w g r k
  | ⟨4, _⟩ => headed_at4 s w g r k
  | ⟨5, _⟩ => headed_at5 s w g r k
  | ⟨6, _⟩ => headed_at6 s w g r k
  | ⟨7, _⟩ => headed_at7 s w g r k

/-- The transposed weights, -/
def wT (w : FVec Ideal S1x2048x10248 .f32) : FVec Ideal S10248x2048 .f32 :=
  transpose S10248x2048 [1, 0] (shapeCast S2048x10248 w shapeCasts_S1x2048x10248_S2048x10248) transposes_S2048x10248_S10248x2048_1_0

theorem wT_at (w : FVec Ideal S1x2048x10248 .f32) (q : Fin 10248) (e : Fin 2048) : wT w (ix2 q e) = w (ix3 0 e q) := by
  pointwise [wT]

/-- and the heads' gains, the queries' in their units, side by side. -/
def gains (gq gk : FVec Ideal S1x8x128 .f32) : FVec Ideal S1x2048 .f32 :=
  shapeCast S1x2048 (concatenate S2048 0 [⟨S1024, mulf (shapeCast S1024 (shapeCast S8x128 gq shapeCasts_S1x8x128_S8x128) shapeCasts_S8x128_S1024)
    (broadcastInDim S1024 ![] bcast_S_S1024 (constant S_ .f32 0x3E0293EE#32))⟩,
    ⟨S1024, shapeCast S1024 (shapeCast S8x128 gk shapeCasts_S1x8x128_S8x128) shapeCasts_S8x128_S1024⟩] concatenates_S1024_S1024_S2048_d0) shapeCasts_S2048_S1x2048

theorem gains_q (gq gk : FVec Ideal S1x8x128 .f32) (h : Fin 8) (k : Fin 128) :
    gains gq gk (ix2 0 ⟨h.val * 128 + k.val, by omega⟩) = gq (ix3 0 h k) * units := by
  have e1 : (h.val * 128 + k.val) / 128 = h.val := by omega
  have e2 : (h.val * 128 + k.val) % 128 = k.val := by omega
  pointwise [gains, units]
  all_goals try (rw [dif_pos (by omega)])
  all_goals try simp only [e1, e2]

theorem gains_k (gq gk : FVec Ideal S1x8x128 .f32) (h : Fin 8) (k : Fin 128) :
    gains gq gk (ix2 0 ⟨1024 + (h.val * 128 + k.val), by omega⟩) = gk (ix3 0 h k) := by
  have e1 : (h.val * 128 + k.val) / 128 = h.val := by omega
  have e2 : (h.val * 128 + k.val) % 128 = k.val := by omega
  pointwise [gains]
  all_goals try simp only [e1, e2]

variable (m : (ℓ : Loc nD τ sig) → Buf (Elt Ideal) ℓ)

/-- The forget-gate columns a tile of the weights has passed. -/
abbrev skipped (j : ℕ) : ℕ := if 3 ≤ j then 8 else 0

/-- Every window's block index at every grid point: 10 points per row block, one column tile each. -/
theorem blockIdx : ∀ t : Fin cfg0.N, win0_0.index t = ![t.val / 10, 0]
    ∧ win0_2.index t = ![0, 0]
    ∧ win0_3.index t = ![t.val % 10 * 1024 + skipped (t.val % 10), 0]
    ∧ win0_4.index t = ![0, min (t.val % 10) 1]
    ∧ win0_7.index t = ![t.val / 10, t.val % 10] :=
  (by decide +kernel : ∀ t : Fin grid0.N, _)

/-- The grid has 80 points. -/
theorem lt_80 (t : Fin cfg0.N) : t.val < 80 := lt_of_lt_of_eq t.isLt N_0

/-- Row `r` of the row block of point `n`. -/
abbrev rowOf (n : ℕ) (hn : n < 80) (r : Fin 1024) : Fin 8192 := ⟨n / 10 * 1024 + r.val, by omega⟩

/-- The weights' column that column `l` of point `n`'s tile is. -/
abbrev colOf (n : ℕ) (l : Fin 1024) : Fin 10248 := ⟨n % 10 * 1024 + skipped (n % 10) + l.val, by unfold skipped; split <;> omega⟩

/-- The row block at a point. -/
theorem blk_x (c : Dev nD) (t : Fin cfg0.N) (r : Fin 1024) (k : Fin 2048) :
    iblk m c 0 t (ix2 r k) = (m ((c : Thread nD τ).loc main_arg0)) (ix2 (rowOf t.val (lt_80 t) r) k) := by
  blk_point [iblk, V, blockIdx t]

/-- The gain at a point. -/
theorem blk_g (c : Dev nD) (t : Fin cfg0.N) (k : Fin 2048) : iblk m c 2 t (ix2 0 k) = (m ((c : Thread nD τ).loc main_arg2)) (ix2 0 k) := by
  have hV : V m c main_v17 = shapeCast S1x2048 (shapeCast S2048 (m ((c : Thread nD τ).loc main_arg2)) shapeCasts_S1x2048_S2048) shapeCasts_S2048_S1x2048 := by
    unfold V; simp only [hostOps0, hostOps0_1, hostOps0_2, hostOps0_3, hostOps0_4, List.flatten_cons, List.flatten_nil, List.append_nil, List.cons_append, List.nil_append]; after_results_simp <;> rfl
  have e : ((cfg0.win 2).blk t).view.emb (ix2 0 k) = ix2 0 k := by blk_ext [blockIdx t]
  show V m c main_v17 (((cfg0.win 2).blk t).view.emb (ix2 0 k)) = _
  rw [hV, e]
  pointwise

/-- The weights' tile at a point. -/
theorem blk_w (c : Dev nD) (t : Fin cfg0.N) (l : Fin 1024) (e : Fin 2048) :
    iblk m c 3 t (ix2 l e) = (m ((c : Thread nD τ).loc main_arg3)) (ix3 0 e (colOf t.val l)) := by
  have hV : V m c main_v1 = wT (m ((c : Thread nD τ).loc main_arg3)) := by
    unfold V; simp only [hostOps0, hostOps0_1, hostOps0_2, hostOps0_3, hostOps0_4, List.flatten_cons, List.flatten_nil, List.append_nil, List.cons_append, List.nil_append]; after_results_simp <;> rfl
  have h : ((cfg0.win 3).blk t).view.emb (ix2 l e) = ix2 (colOf t.val l) e := by
    have hi := (blockIdx t).2.2.1
    funext d
    refine Fin.ext ((Window.rect_emb_val_off win0_3 t (ix2 l e) d).trans ?_)
    rw [hi]
    fin_cases d
    · rfl
    · exact Nat.zero_add _
  show V m c main_v1 (((cfg0.win 3).blk t).view.emb (ix2 l e)) = _
  rw [hV, h, wT_at]

/-- The gains of the heads at a point. -/
theorem blk_h (c : Dev nD) (t : Fin cfg0.N) (l : Fin 1024) :
    iblk m c 4 t (ix2 0 l) = gains (m ((c : Thread nD τ).loc main_arg5)) (m ((c : Thread nD τ).loc main_arg6)) (ix2 0 ⟨min (t.val % 10) 1 * 1024 + l.val, by omega⟩) := by
  have hV : V m c main_v15 = gains (m ((c : Thread nD τ).loc main_arg5)) (m ((c : Thread nD τ).loc main_arg6)) := by
    unfold V; simp only [hostOps0, hostOps0_1, hostOps0_2, hostOps0_3, hostOps0_4, List.flatten_cons, List.flatten_nil, List.append_nil, List.cons_append, List.nil_append]; after_results_simp <;> rfl
  have e : ((cfg0.win 4).blk t).view.emb (ix2 0 l) = ix2 0 ⟨min (t.val % 10) 1 * 1024 + l.val, by omega⟩ := by blk_ext [blockIdx t]
  show V m c main_v15 (((cfg0.win 4).blk t).view.emb (ix2 0 l)) = _
  rw [hV, e]

/-- The normalised row a point works on. -/
abbrev xrow (c : Dev nD) (n : ℕ) (hn : n < 80) (r : Fin 1024) : Fin 2048 → EReal :=
  FfnMath.normed (fun k => (m ((c : Thread nD τ).loc main_arg0)) (ix2 (rowOf n hn r) k)) (fun k => (m ((c : Thread nD τ).loc main_arg2)) (ix2 0 k))

/-- The rows a first column tile stores are the normalised rows of the arrays. -/
theorem first_row (c : Dev nD) (t : Fin cfg0.N) (r : Fin 1024) (e : Fin 2048) :
    k0_pay12 (F := Ideal) (iblk m c 0 t) (iblk m c 2 t) (ix2 r e) = xrow m c t.val (lt_80 t) r e :=
  (pay12_at _ _ r e).trans (congrFun (congrArg₂ FfnMath.normed (funext fun k => blk_x m c t r k) (funext fun k => blk_g m c t k)) e)

/-- After a first column tile the scratch has the normalised rows, -/
theorem next_first (c : Dev nD) (t : Fin cfg0.N) (h : t.val % 10 = 0) (o8 o10 s d z) (r : Fin 1024) (e : Fin 2048) :
    (next m c t o8 o10 s d z).s (ix2 (up r) e) = xrow m c t.val (lt_80 t) r e := by
  unfold next
  by_cases h0 : t.val = 0
  · rw [if_pos h0]
    dsimp only
    rw [stack_at]
    exact first_row m c t r e
  · rw [if_neg h0, if_pos h]; exact (over_at _ _ r e).trans (first_row m c t r e)

/-- and a later one leaves it as it was. -/
theorem next_later (c : Dev nD) (t : Fin cfg0.N) (h : ¬ t.val % 10 = 0) (o8 o10 s d z) : (next m c t o8 o10 s d z).s = s := by
  unfold next
  rw [if_neg (fun e => h (by rw [e])), if_neg h]
  split <;> rfl

/-- After every point the scratch has the normalised rows of the point's row block. -/
theorem rows (c : Dev nD) : ∀ (n : ℕ) (hn : n < cfg0.N) (r : Fin 1024) (e : Fin 2048),
    (state m c n hn).s (ix2 (up r) e) = xrow m c n (lt_of_lt_of_eq hn N_0) r e
  | 0, hn, r, e => by
    rw [state_zero m c ⟨0, hn⟩ rfl (state m c 0 hn).o8 (state m c 0 hn).o10 (state m c 0 hn).s (state m c 0 hn).d (state m c 0 hn).z]
    exact next_first m c ⟨0, hn⟩ rfl _ _ _ _ _ r e
  | n + 1, hn, r, e => by
    by_cases h : (n + 1) % 10 = 0
    · exact next_first m c ⟨n + 1, hn⟩ h _ _ _ _ _ r e
    · refine (congrFun (next_later m c ⟨n + 1, hn⟩ h _ _ _ _ _) _).trans ((rows c n (Nat.lt_of_succ_lt hn) r e).trans ?_)
      have hr : rowOf n (lt_of_lt_of_eq (Nat.lt_of_succ_lt hn) N_0) r = rowOf (n + 1) (lt_of_lt_of_eq hn N_0) r :=
        Fin.ext (by show n / 10 * 1024 + r.val = (n + 1) / 10 * 1024 + r.val; omega)
      unfold xrow; rw [hr]

/-- What a step leaves in the first output's buffer, from what it leaves in the scratch. -/
theorem next_out (c : Dev nD) (t : Fin cfg0.N) (o8 o10 s d z) : (next m c t o8 o10 s d z).o7
    = if t.val % 10 < 2 then headed (next m c t o8 o10 s d z).s (iblk m c 3 t) (iblk m c 4 t)
      else k0_pay4 (grid0.coords t) (next m c t o8 o10 s d z).s (iblk m c 3 t) := by
  by_cases h0 : t.val = 0
  · rw [if_pos (by omega)]; unfold next; simp only [if_pos h0]
  · by_cases h1 : t.val % 10 = 0
    · rw [if_pos (by omega)]; unfold next; simp only [if_neg h0, if_pos h1]
    · by_cases h2 : t.val % 10 < 2
      · rw [if_pos h2]; unfold next; simp only [if_neg h0, if_neg h1, if_pos h2]
      · rw [if_neg h2]; unfold next; simp only [if_neg h0, if_neg h1, if_neg h2]

theorem out_eq (c : Dev nD) (t : Fin cfg0.N) : (state m c t.val t.isLt).o7
    = if t.val % 10 < 2 then headed (state m c t.val t.isLt).s (iblk m c 3 t) (iblk m c 4 t)
      else k0_pay4 (grid0.coords t) (state m c t.val t.isLt).s (iblk m c 3 t) := by
  by_cases h0 : t.val = 0
  · rw [state_zero m c t h0 (state m c t.val t.isLt).o8 (state m c t.val t.isLt).o10 (state m c t.val t.isLt).s (state m c t.val t.isLt).d (state m c t.val t.isLt).z]
    exact next_out m c t _ _ _ _ _
  · rw [state_pos m c t h0]
    exact next_out m c t _ _ _ _ _

/-- All columns of the product of the normalised rows and the weights. -/
abbrev whole (c : Dev nD) : FVec Ideal Cert.InprojRefIdeal.S8192x10248 .f32 :=
  Cert.InprojRefIdeal.Whole.packed (m ((c : Thread nD τ).loc main_arg0)) (m ((c : Thread nD τ).loc main_arg2)) (m ((c : Thread nD τ).loc main_arg3))

/-- A point's product is the reference's at the tile's column. -/
theorem prod_at (c : Dev nD) (t : Fin cfg0.N) (r l : Fin 1024) :
    prod (fun e => (state m c t.val t.isLt).s (ix2 (up r) e)) (fun e => iblk m c 3 t (ix2 l e))
      = whole m c (ix2 (rowOf t.val (lt_80 t) r) (colOf t.val l)) :=
  (Finset.sum_congr rfl fun e _ => congrArg₂ (· * ·) (rows m c t.val t.isLt r e) (blk_w m c t l e)).trans
    (Cert.InprojRefIdeal.Whole.packed_at _ _ _ _ _).symm

/-- The reference's result of the arguments. -/
abbrev expected (c : Dev nD) : FVec Ideal Cert.InprojRefIdeal.S8192x10240 .bf16 := Cert.InprojRefIdeal.Whole.refTerm (m ((c : Thread nD τ).loc main_arg0)) (m ((c : Thread nD τ).loc main_arg2)) (m ((c : Thread nD τ).loc main_arg3)) (m ((c : Thread nD τ).loc main_arg5)) (m ((c : Thread nD τ).loc main_arg6))

/-- A head's column in a tile of eight. -/
theorem split8 (l : Fin 1024) : ∃ (h : Fin 8) (k : Fin 128), l = at8 h k :=
  ⟨⟨l.val / 128, by omega⟩, ⟨l.val % 128, by omega⟩, Fin.ext (by show l.val = l.val / 128 * 128 + l.val % 128; omega)⟩

/-- The queries' tile, -/
theorem tile0 (c : Dev nD) (t : Fin cfg0.N) (r l : Fin 1024) (hj : t.val % 10 = 0) :
    (state m c t.val t.isLt).o7 (ix2 r l) = expected m c (ix2 (rowOf t.val (lt_80 t) r) ⟨0 + l.val, by omega⟩) := by
  rw [out_eq, if_pos (by omega)]
  refine Eq.trans ?_ (Cert.InprojRefIdeal.Whole.arrange_at0 _ _ _ _ l).symm
  obtain ⟨h, k, rfl⟩ := split8 l
  refine (headed_at _ _ _ r h k).trans ?_
  refine (head_scaled _ (fun k => (m ((c : Thread nD τ).loc main_arg5)) (ix3 0 h k)) _ (fun e => ?_) k).trans (congrArg (· * units) ?_)
  · refine (blk_h m c t _).trans (Eq.trans (congrArg (fun q => gains _ _ (ix2 0 q)) (Fin.ext ?_)) (gains_q _ _ h e))
    show min (t.val % 10) 1 * 1024 + (h.val * 128 + e.val) = h.val * 128 + e.val
    rw [hj]; omega
  · refine Eq.trans ?_ (Cert.InprojRefIdeal.Whole.headNorm_at _ _ _ h k).symm
    refine congrFun (congrArg₂ head (funext fun e => ?_) rfl) k
    refine (prod_at m c t r _).trans (Eq.trans ?_ (Cert.InprojRefIdeal.Whole.slice0_at _ _ _).symm)
    refine congrArg (fun q => whole m c (ix2 _ q)) (Fin.ext ?_)
    show t.val % 10 * 1024 + skipped (t.val % 10) + (h.val * 128 + e.val) = h.val * 128 + e.val
    rw [hj]; unfold skipped; rw [if_neg (by omega)]; omega

/-- the keys', -/
theorem tile1 (c : Dev nD) (t : Fin cfg0.N) (r l : Fin 1024) (hj : t.val % 10 = 1) :
    (state m c t.val t.isLt).o7 (ix2 r l) = expected m c (ix2 (rowOf t.val (lt_80 t) r) ⟨1024 + l.val, by omega⟩) := by
  rw [out_eq, if_pos (by omega)]
  refine Eq.trans ?_ (Cert.InprojRefIdeal.Whole.arrange_at1 _ _ _ _ l).symm
  obtain ⟨h, k, rfl⟩ := split8 l
  refine (headed_at _ _ _ r h k).trans ?_
  refine Eq.trans ?_ (Cert.InprojRefIdeal.Whole.headNorm_at _ _ _ h k).symm
  refine congrFun (congrArg₂ head (funext fun e => ?_) (funext fun e => ?_)) k
  · refine (prod_at m c t r _).trans (Eq.trans ?_ (Cert.InprojRefIdeal.Whole.slice1_at _ _ _).symm)
    refine congrArg (fun q => whole m c (ix2 _ q)) (Fin.ext ?_)
    show t.val % 10 * 1024 + skipped (t.val % 10) + (h.val * 128 + e.val) = 1024 + (h.val * 128 + e.val)
    rw [hj]; unfold skipped; rw [if_neg (by omega)]
  · refine (blk_h m c t _).trans (Eq.trans (congrArg (fun q => gains _ _ (ix2 0 q)) (Fin.ext ?_)) (gains_k _ _ h e))
    show min (t.val % 10) 1 * 1024 + (h.val * 128 + e.val) = 1024 + (h.val * 128 + e.val)
    rw [hj]; rfl

/-- A tile past the second is the product, scaled when it is the fourth. -/
theorem plain_at (c : Dev nD) (t : Fin cfg0.N) (r l : Fin 1024) (hj : 2 ≤ t.val % 10) :
    (state m c t.val t.isLt).o7 (ix2 r l)
      = if t.val % 10 = 3 then whole m c (ix2 (rowOf t.val (lt_80 t) r) (colOf t.val l)) * units
        else whole m c (ix2 (rowOf t.val (lt_80 t) r) (colOf t.val l)) := by
  rw [out_eq, if_neg (by omega)]
  refine (pay4_at _ _ _ r l).trans ?_
  rw [prod_at, fourth_iff]
  by_cases h : t.val % 10 = 3
  · rw [if_pos h, if_pos h]; rfl
  · rw [if_neg h, if_neg h]
    refine (congrArg (_ * ·) (?_ : _ = (1 : EReal))).trans (mul_one _)
    exact Ideal.ofBits_one_f32

/-- the values', -/
theorem tile2 (c : Dev nD) (t : Fin cfg0.N) (r l : Fin 1024) (hj : t.val % 10 = 2) :
    (state m c t.val t.isLt).o7 (ix2 r l) = expected m c (ix2 (rowOf t.val (lt_80 t) r) ⟨2048 + l.val, by omega⟩) := by
  refine (plain_at m c t r l (by omega)).trans (Eq.trans ?_ (Cert.InprojRefIdeal.Whole.arrange_at2 _ _ _ _ l).symm)
  rw [if_neg (by omega)]
  refine congrArg (fun q => whole m c (ix2 _ q)) (Fin.ext ?_)
  show t.val % 10 * 1024 + skipped (t.val % 10) + l.val = 2048 + l.val
  rw [hj]; unfold skipped; rw [if_neg (by omega)]

/-- the stick-breaking queries', -/
theorem tile3 (c : Dev nD) (t : Fin cfg0.N) (r l : Fin 1024) (hj : t.val % 10 = 3) :
    (state m c t.val t.isLt).o7 (ix2 r l) = expected m c (ix2 (rowOf t.val (lt_80 t) r) ⟨3072 + l.val, by omega⟩) := by
  refine (plain_at m c t r l (by omega)).trans (Eq.trans ?_ (Cert.InprojRefIdeal.Whole.arrange_at3 _ _ _ _ l).symm)
  rw [if_pos hj]
  refine congrArg (fun q => whole m c (ix2 _ q) * units) (Fin.ext ?_)
  show t.val % 10 * 1024 + skipped (t.val % 10) + l.val = 3080 + l.val
  rw [hj]; unfold skipped; rw [if_pos (by omega)]

/-- their keys' -/
theorem tile4 (c : Dev nD) (t : Fin cfg0.N) (r l : Fin 1024) (hj : t.val % 10 = 4) :
    (state m c t.val t.isLt).o7 (ix2 r l) = expected m c (ix2 (rowOf t.val (lt_80 t) r) ⟨4096 + l.val, by omega⟩) := by
  refine (plain_at m c t r l (by omega)).trans (Eq.trans ?_ (Cert.InprojRefIdeal.Whole.arrange_at4 _ _ _ _ l).symm)
  rw [if_neg (by omega)]
  refine congrArg (fun q => whole m c (ix2 _ q)) (Fin.ext ?_)
  show t.val % 10 * 1024 + skipped (t.val % 10) + l.val = 4104 + l.val
  rw [hj]; unfold skipped; rw [if_pos (by omega)]

/-- and their values', -/
theorem tile5 (c : Dev nD) (t : Fin cfg0.N) (r l : Fin 1024) (hj : t.val % 10 = 5) :
    (state m c t.val t.isLt).o7 (ix2 r l) = expected m c (ix2 (rowOf t.val (lt_80 t) r) ⟨5120 + l.val, by omega⟩) := by
  refine (plain_at m c t r l (by omega)).trans (Eq.trans ?_ (Cert.InprojRefIdeal.Whole.arrange_at5 _ _ _ _ l).symm)
  rw [if_neg (by omega)]
  refine congrArg (fun q => whole m c (ix2 _ q)) (Fin.ext ?_)
  show t.val % 10 * 1024 + skipped (t.val % 10) + l.val = 5128 + l.val
  rw [hj]; unfold skipped; rw [if_pos (by omega)]

/-- and the gates'. -/
theorem tile6 (c : Dev nD) (t : Fin cfg0.N) (r l : Fin 1024) (hj : 6 ≤ t.val % 10) :
    (state m c t.val t.isLt).o7 (ix2 r l)
      = expected m c (ix2 (rowOf t.val (lt_80 t) r) ⟨6144 + ((t.val % 10 - 6) * 1024 + l.val), by omega⟩) := by
  refine (plain_at m c t r l (by omega)).trans (Eq.trans ?_
    (Cert.InprojRefIdeal.Whole.arrange_at6 _ _ _ _ ⟨(t.val % 10 - 6) * 1024 + l.val, by omega⟩).symm)
  rw [if_neg (by omega)]
  refine congrArg (fun q => whole m c (ix2 _ q)) (Fin.ext ?_)
  show t.val % 10 * 1024 + skipped (t.val % 10) + l.val = 6152 + ((t.val % 10 - 6) * 1024 + l.val)
  unfold skipped; rw [if_pos (by omega)]; omega

/-- Every point leaves the reference's tile. -/
theorem tile_at (c : Dev nD) (t : Fin cfg0.N) (r l : Fin 1024) :
    (state m c t.val t.isLt).o7 (ix2 r l)
      = expected m c (ix2 (rowOf t.val (lt_80 t) r) ⟨t.val % 10 * 1024 + l.val, by omega⟩) := by
  have hc : ∀ (a : ℕ) (ha : a < 10240), a = t.val % 10 * 1024 + l.val →
      expected m c (ix2 (rowOf t.val (lt_80 t) r) ⟨a, ha⟩)
        = expected m c (ix2 (rowOf t.val (lt_80 t) r) ⟨t.val % 10 * 1024 + l.val, by omega⟩) :=
    fun a ha e => congrArg (fun q => expected m c (ix2 _ q)) (Fin.ext e)
  by_cases h6 : 6 ≤ t.val % 10
  · exact (tile6 m c t r l h6).trans (hc _ _ (by omega))
  by_cases h0 : t.val % 10 = 0
  · exact (tile0 m c t r l h0).trans (hc _ _ (by omega))
  by_cases h1 : t.val % 10 = 1
  · exact (tile1 m c t r l h1).trans (hc _ _ (by omega))
  by_cases h2 : t.val % 10 = 2
  · exact (tile2 m c t r l h2).trans (hc _ _ (by omega))
  by_cases h3 : t.val % 10 = 3
  · exact (tile3 m c t r l h3).trans (hc _ _ (by omega))
  by_cases h4 : t.val % 10 = 4
  · exact (tile4 m c t r l h4).trans (hc _ _ (by omega))
  · exact (tile5 m c t r l (by omega)).trans (hc _ _ (by omega))

/-- The packed projection after the run is the reference's term of the argument arrays. -/
theorem result_eq (c : Dev nD) : (dats m 0 c).arrAt 7 (cfgs 0).N = expected m c := by
  refine (dats m 0 c).arrAt_eq_of_covers 7 _ (by decide +kernel) fun t hf y => ?_
  blk_simp; rw [after7]
  idx_vars y
  refine (tile_at m c t y0 y1).trans ?_
  have e : ((cfg0.win 7).blk t).view.emb (ix2 y0 y1) = ix2 (rowOf t.val (lt_80 t) y0) ⟨t.val % 10 * 1024 + y1.val, by omega⟩ := by
    blk_ext [blockIdx t]
  rw [e]

end Cert.InprojIdeal.Whole

end
-- ==== Proof.MergeValue.lean ====
/-
  What the gated merge computes over the reals: the kernel's result array is the reference's composed term
  h + (σ(g_fox)·(o_fox W_fox) + σ(g_sb)·(o_sb W_sb)) W_out of the argument arrays.
-/
module

public import proofs.«01_k».proof.Proof.Gen.MergeIdeal.Frame
public import proofs.«01_k».proof.Proof.Gen.MergeRefIdeal.Run
public import Idealize.ShloMosaic.Lib.Pipeline.ValueKit
public import Idealize.ShloMosaic.Lib.Pointwise
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.MergeRefIdeal.Whole

open Cert.MergeRefIdeal Cert.MergeRefIdeal.Gen

/-- The reference's result as one term of its eight arguments. -/
def refTerm (a0 : FVec Ideal S8192x2048 .f32) (a1 a2 : FVec Ideal S8192x1024 .f32)
    (a3 a4 : FVec Ideal S8192x2048 .f32) (a5 a6 : FVec Ideal S1x1024x2048 .f32)
    (a7 : FVec Ideal S1x2048x2048 .f32) : FVec Ideal S8192x2048 .f32 :=
  addf a0 (Host.dotGeneral dot_S8192x2048_S2048x2048_S8192x2048_1_0_0_1_n_n none (addf (mulf (Host.divf (broadcastInDim S8192x2048 ![] bcast_S_S8192x2048 (constant S_ .f32 0x3F800000#32)) (addf (broadcastInDim S8192x2048 ![] bcast_S_S8192x2048 (constant S_ .f32 0x3F800000#32)) (Host.exp (Host.negf a3)))) (Host.dotGeneral dot_S8192x1024_S1024x2048_S8192x2048_1_0_0_1_n_n none a1 (shapeCast _ a5 shapeCasts_S1x1024x2048_S1024x2048))) (mulf (Host.divf (broadcastInDim S8192x2048 ![] bcast_S_S8192x2048 (constant S_ .f32 0x3F800000#32)) (addf (broadcastInDim S8192x2048 ![] bcast_S_S8192x2048 (constant S_ .f32 0x3F800000#32)) (Host.exp (Host.negf a4)))) (Host.dotGeneral dot_S8192x1024_S1024x2048_S8192x2048_1_0_0_1_n_n none a2 (shapeCast _ a6 shapeCasts_S1x1024x2048_S1024x2048)))) (shapeCast _ a7 shapeCasts_S1x2048x2048_S2048x2048))

end Cert.MergeRefIdeal.Whole

namespace Cert.MergeIdeal.Whole

open Cert.MergeIdeal Cert.MergeIdeal.Gen

variable (m : (ℓ : Loc nD τ sig) → Buf (Elt Ideal) ℓ)

/-- Every window's block index at every grid point: the row blocks move with the point, the gates are column blocks 3 and
    4 of the projection, the weights stay. -/
theorem blockIdx : ∀ t : Fin cfg0.N, win0_0.index t = ![t.val, 0]
    ∧ win0_1.index t = ![t.val, 0]
    ∧ win0_2.index t = ![t.val, 0]
    ∧ win0_3.index t = ![t.val, 3]
    ∧ win0_4.index t = ![t.val, 4]
    ∧ win0_5.index t = ![0, 0, 0]
    ∧ win0_6.index t = ![0, 0, 0]
    ∧ win0_7.index t = ![0, 0, 0]
    ∧ win0_8.index t = ![t.val, 0] :=
  (by decide +kernel : ∀ t : Fin grid0.N, _)

set_option maxHeartbeats 1600000 in
/-- The projection the gates are cut from holds the forgetting attention's gate from column 6144 on. -/
theorem proj_fox (c : Dev nD) (r : Fin 8192) (l : Fin 2048) (q : Fin 10240) (hq : q.val = 6144 + l.val) :
    V m c main_v7 (ix2 r q) = m ((c : Thread nD τ).loc main_arg3) (ix2 r l) := by
  entry_read
  pointwise
  rw [dif_neg (by omega), dif_pos (by omega)]
  refine Eq.trans (b := m ((c : Thread nD τ).loc main_arg3) (ix2 r ⟨q.val - 6144, by omega⟩)) (by rfl) ?_
  exact congrArg _ ((ix2_inj ..).2 ⟨rfl, Fin.ext (by simp only []; omega)⟩)

/-- The block of it that grid point `t` reads as the forgetting attention's gate is that gate's row block. -/
theorem gate_fox (c : Dev nD) (t : Fin cfg0.N) (r : Fin 512) (l : Fin 2048) :
    iblk m c 3 t (ix2 r l) = m ((c : Thread nD τ).loc main_arg3) (ix2 ⟨t.val * 512 + r.val, by
      have := t.isLt; have h : cfg0.N = 16 := N_0; omega⟩ l) := by
  have hN : cfg0.N = 16 := N_0
  refine Eq.trans ?_ (proj_fox m c ⟨t.val * 512 + r.val, by have := t.isLt; omega⟩ l ⟨6144 + l.val, by omega⟩ rfl)
  blk_ext [iblk, blockIdx t]

set_option maxHeartbeats 1600000 in
/-- The projection the gates are cut from holds the stick-breaking attention's gate from column 8192 on. -/
theorem proj_sb (c : Dev nD) (r : Fin 8192) (l : Fin 2048) (q : Fin 10240) (hq : q.val = 8192 + l.val) :
    V m c main_v7 (ix2 r q) = m ((c : Thread nD τ).loc main_arg4) (ix2 r l) := by
  entry_read
  pointwise
  rw [dif_neg (by omega), dif_neg (by omega)]
  refine Eq.trans (b := m ((c : Thread nD τ).loc main_arg4) (ix2 r ⟨q.val - 6144 - 2048, by omega⟩)) (by rfl) ?_
  exact congrArg _ ((ix2_inj ..).2 ⟨rfl, Fin.ext (by simp only []; omega)⟩)

/-- The block of it that grid point `t` reads as the stick-breaking attention's gate is that gate's row block. -/
theorem gate_sb (c : Dev nD) (t : Fin cfg0.N) (r : Fin 512) (l : Fin 2048) :
    iblk m c 4 t (ix2 r l) = m ((c : Thread nD τ).loc main_arg4) (ix2 ⟨t.val * 512 + r.val, by
      have := t.isLt; have h : cfg0.N = 16 := N_0; omega⟩ l) := by
  have hN : cfg0.N = 16 := N_0
  refine Eq.trans ?_ (proj_sb m c ⟨t.val * 512 + r.val, by have := t.isLt; omega⟩ l ⟨8192 + l.val, by omega⟩ rfl)
  blk_ext [iblk, blockIdx t]

set_option maxHeartbeats 1600000 in
/-- What the body stores at place `y` of grid point `t`'s block is the reference at the array index `y` sits at. -/
theorem stored_eq (c : Dev nD) (t : Fin cfg0.N) (y) :
    k0_pay1 (iblk m c 1 t) (iblk m c 5 t) (iblk m c 2 t) (iblk m c 6 t) (iblk m c 3 t) (iblk m c 4 t) (iblk m c 0 t)
      (iblk m c 7 t) y
      = Cert.MergeRefIdeal.Whole.refTerm (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (((cfg0.win 8).blk t).view.emb y) := by
  idx_vars y
  pointwise [k0_pay1, Cert.MergeRefIdeal.Whole.refTerm, Ideal.logistic]
  simp only [gate_fox m c t, gate_sb m c t]
  blk_point [iblk, V, blockIdx t]

/-- The result array after the run is the reference's term of the argument arrays: the blocks tile it. -/
theorem result_eq (c : Dev nD) : (dats m 0 c).arrAt 8 (cfgs 0).N
    = Cert.MergeRefIdeal.Whole.refTerm (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  refine (dats m 0 c).arrAt_eq_of_covers 8 _ (by decide +kernel) fun t hf y => ?_
  blk_simp; rw [after0_8]; frame_out
  exact stored_eq m c t y

end Cert.MergeIdeal.Whole

end
-- ==== Proof.lean ====
module

public import proofs.«01_k».proof.Defs
public import proofs.«01_k».proof.Proof.Gen.Ffn1.Frame
public import proofs.«01_k».proof.Proof.Gen.Ffn1Ideal.Skeleton
public import proofs.«01_k».proof.Proof.Gen.Ffn1Ideal.Frame
public import proofs.«01_k».proof.Proof.Gen.Ffn1RefIdeal.Run
public import proofs.«01_k».proof.Proof.Fox.Frame
public import proofs.«01_k».proof.Proof.FoxIdeal.Frame
public import proofs.«01_k».proof.Proof.Gen.Inproj.Frame
public import proofs.«01_k».proof.Proof.Gen.InprojIdeal.Skeleton
public import proofs.«01_k».proof.Proof.Gen.InprojIdeal.Frame
public import proofs.«01_k».proof.Proof.Gen.InprojRefIdeal.Run
public import proofs.«01_k».proof.Proof.Gen.Ffn2
public import proofs.«01_k».proof.Proof.Gen.Ffn2.Skeleton
public import proofs.«01_k».proof.Proof.Gen.Ffn2.Launch
public import proofs.«01_k».proof.Proof.Gen.Ffn2.Points
public import proofs.«01_k».proof.Proof.Gen.Ffn2.Frame
public import proofs.«01_k».proof.Proof.Gen.Ffn2Ideal
public import proofs.«01_k».proof.Proof.Gen.Ffn2Ideal.Skeleton
public import proofs.«01_k».proof.Proof.Gen.Ffn2Ideal.Launch
public import proofs.«01_k».proof.Proof.Gen.Ffn2Ideal.Points
public import proofs.«01_k».proof.Proof.Gen.Ffn2Ideal.Frame
public import proofs.«01_k».proof.Proof.Gen.Ffn2RefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.Ffn2RefIdeal.Run
public import proofs.«01_k».proof.Proof.Gen.MergeRefIdeal.Run
public import proofs.«01_k».proof.Proof.Gen.Fox.Frame
public import proofs.«01_k».proof.Proof.Gen.Fox.Skeleton
public import proofs.«01_k».proof.Proof.Gen.Fox.Loops
public import proofs.«01_k».proof.Proof.Gen.FoxIdeal.Skeleton
public import proofs.«01_k».proof.Proof.Gen.FoxIdeal.Loops
public import proofs.«01_k».proof.Proof.Gen.FoxIdeal.Frame
public import proofs.«01_k».proof.Proof.Ffn1Value
public import proofs.«01_k».proof.Proof.Ffn2Value
public import proofs.«01_k».proof.Proof.InprojValue
public import proofs.«01_k».proof.Proof.MergeValue
public import Idealize.ShloMosaic.Adequacy
public import Idealize.ShloMosaic.Init
public import Idealize.ShloMosaic.Lib.Quiescent

@[expose] public section

noncomputable section

namespace Cert.Proof

open Idealize.ShloMosaic Idealize.SL.Sem

set_option backward.isDefEq.respectTransparency false in
set_option backward.isDefEq.respectTransparency.types false in
/-- The first feed-forward's kernel and its idealization have the same body. -/
theorem body_ffn1 : (Cert.Ffn1.cc0_ffn (F := Bits) : _) = Cert.Ffn1Ideal.cc0_ffn (F := Bits) := rfl

set_option backward.isDefEq.respectTransparency false in
set_option backward.isDefEq.respectTransparency.types false in
/-- The first feed-forward's kernel and its idealization have the same table of bodies. -/
theorem table_ffn1 : (Cert.Ffn1.defs₀ (F := Bits) : _) = Cert.Ffn1Ideal.defs₀ (F := Bits) := by
  unfold Cert.Ffn1.defs₀ Cert.Ffn1Ideal.defs₀
  refine congrArg Defs.onTc ?_
  funext l x
  match l with
  | ⟨0, _⟩ => rfl

set_option backward.isDefEq.respectTransparency false in
set_option backward.isDefEq.respectTransparency.types false in
/-- The first feed-forward's kernel and its idealization are the same program. -/
theorem defs_ffn1 : (Cert.Ffn1.defs (F := Bits) : _) = Cert.Ffn1Ideal.defs (F := Bits) :=
  congrArg (Pipeline.defs Cert.Ffn1Ideal.pcfgs) table_ffn1

set_option backward.isDefEq.respectTransparency false in
set_option backward.isDefEq.respectTransparency.types false in
/-- The frame of the first feed-forward's kernel, whose program has the same text as its idealization. -/
theorem frame_ffn1 : Cert.quiescent_Ffn1 (hFfn1 := Cert.Ffn1.Gen.facts) := by
  intro m g _
  have h := Cert.Ffn1Ideal.Body.frame (F := Bits) m g
  rw [← defs_ffn1] at h
  exact h

set_option backward.isDefEq.respectTransparency false in
set_option backward.isDefEq.respectTransparency.types false in
/-- The input projection and its idealization have the same body. -/
theorem body_inproj : (Cert.Inproj.cc0_inproj (F := Bits) : _) = Cert.InprojIdeal.cc0_inproj (F := Bits) := rfl

set_option backward.isDefEq.respectTransparency false in
set_option backward.isDefEq.respectTransparency.types false in
/-- The input projection and its idealization have the same table of bodies. -/
theorem table_inproj : (Cert.Inproj.defs₀ (F := Bits) : _) = Cert.InprojIdeal.defs₀ (F := Bits) := by
  unfold Cert.Inproj.defs₀ Cert.InprojIdeal.defs₀
  refine congrArg Defs.onTc ?_
  funext l x
  match l with
  | ⟨0, _⟩ => rfl

set_option backward.isDefEq.respectTransparency false in
set_option backward.isDefEq.respectTransparency.types false in
/-- The input projection and its idealization are the same program. -/
theorem defs_inproj : (Cert.Inproj.defs (F := Bits) : _) = Cert.InprojIdeal.defs (F := Bits) :=
  congrArg (Pipeline.defs Cert.InprojIdeal.pcfgs) table_inproj

set_option backward.isDefEq.respectTransparency false in
set_option backward.isDefEq.respectTransparency.types false in
/-- The frame of the input projection, whose program has the same text as its idealization. -/
theorem frame_inproj : Cert.quiescent_Inproj (hInproj := Cert.Inproj.Gen.facts) := by
  intro m g _
  have h := Cert.InprojIdeal.Body.frame (F := Bits) m g
  rw [← defs_inproj] at h
  exact h

/-- The attention's named constants have their values in the certificate's table. -/
theorem preserves_fox : Cert.preserves_Fox_FoxIdeal :=
  ⟨IdealRules.named_const.statement _ _ _ _ _ rfl, IdealRules.named_const.statement _ _ _ _ _ rfl,
    IdealRules.named_const.statement _ _ _ _ _ rfl⟩

set_option maxHeartbeats 1600000 in
/-- Over the reals the first feed-forward's kernel computes what its reference computes, in both results. -/
theorem algebraic_ffn1 : Cert.algebraic_Ffn1Ideal_Ffn1RefIdeal (hFfn1Ideal := Cert.Ffn1Ideal.Gen.facts)
    (hFfn1RefIdeal := Cert.Ffn1RefIdeal.Gen.facts) := by
  pair_intro
  · run_from Cert.Ffn1Ideal.Body.run_main m g
  · hlo_run
    · exact (Cert.Ffn1Ideal.Whole.result_eq m c).symm
    · exact (Cert.Ffn1Ideal.Whole.meta_eq m c).symm

set_option maxHeartbeats 1600000 in
/-- Over the reals the second feed-forward's kernel computes what its reference computes. -/
theorem algebraic_ffn2 : Cert.algebraic_Ffn2Ideal_Ffn2RefIdeal (hFfn2Ideal := Cert.Ffn2Ideal.Gen.facts)
    (hFfn2RefIdeal := Cert.Ffn2RefIdeal.Gen.facts) := by
  pair_intro
  · run_from Cert.Ffn2Ideal.Gen.run_main m g
  · hlo_run
    exact (Cert.Ffn2Ideal.Whole.result_eq m c).symm

set_option maxHeartbeats 1600000 in
/-- Over the reals the merge kernel computes what its reference computes. -/
theorem algebraic_merge : Cert.algebraic_MergeIdeal_MergeRefIdeal (hMergeIdeal := Cert.MergeIdeal.Gen.facts)
    (hMergeRefIdeal := Cert.MergeRefIdeal.Gen.facts) := by
  pair_intro
  · run_from Cert.MergeIdeal.Gen.run_main m g
  · hlo_run
    exact (Cert.MergeIdeal.Whole.result_eq m c).symm

/-- Over the reals the input projection computes what its reference computes. -/
theorem algebraic_inproj : Cert.algebraic_InprojIdeal_InprojRefIdeal (hInprojIdeal := Cert.InprojIdeal.Gen.facts)
    (hInprojRefIdeal := Cert.InprojRefIdeal.Gen.facts) := by
  intro m g m' g' _ hagree
  refine ⟨fun c => Cert.InprojIdeal.Whole.expected m c, ?_, ?_⟩
  · refine θ_run_mono (θ_run_and (Cert.InprojIdeal.Body.run_main m g) (Cert.InprojIdeal.Body.frame m g)) ?_
    intro r h c
    exact ⟨((h.1 c).1 7).trans (Cert.InprojIdeal.Whole.result_eq m c), h.2.1 c⟩
  · refine θ_run_mono (Cert.InprojRefIdeal.Value.run m' g') ?_
    intro r h c
    refine ⟨(h c).1.trans ((Cert.InprojRefIdeal.Whole.run_term m' c).trans ?_), (h c).2⟩
    obtain ⟨a0, _, a2, a3, _, a5, a6⟩ := hagree c
    unfold Cert.InprojIdeal.Whole.expected
    rw [a0, a2, a3, a5, a6]

theorem claim : Cert.Claim := ⟨Cert.Fox.Gen.facts, Cert.FoxIdeal.Gen.facts,
  Cert.Ffn1.Gen.facts, Cert.Ffn1Ideal.Gen.facts, Cert.Ffn1RefIdeal.Gen.facts,
  Cert.Ffn2.Gen.facts, Cert.Ffn2Ideal.Gen.facts, Cert.Ffn2RefIdeal.Gen.facts, Cert.Merge.Gen.facts, Cert.MergeIdeal.Gen.facts, Cert.MergeRefIdeal.Gen.facts,
  Cert.Inproj.Gen.facts, Cert.InprojIdeal.Gen.facts, Cert.InprojRefIdeal.Gen.facts,
  fun m g _ => Cert.Fox.Body.frame m g,
  fun m g _ => Cert.FoxIdeal.Body.frame m g,
  frame_ffn1,
  fun m g _ => Cert.Ffn1Ideal.Body.frame m g,
  fun m g _ => (θ_run _ _ _).mono (fun r h => ⟨fun c => (h c).2.2, sem_eq_zero_of_no_sems rfl _⟩) (Cert.Ffn1RefIdeal.Value.run m g),
  fun m g _ => Cert.Ffn2.Gen.frame m g,
  fun m g _ => Cert.Ffn2Ideal.Gen.frame m g,
  fun m g _ => (θ_run _ _ _).mono (fun r h => ⟨fun c => (h c).2, sem_eq_zero_of_no_sems rfl _⟩) (Cert.Ffn2RefIdeal.Value.run m g),
  fun m g _ => Cert.Merge.Gen.frame m g,
  fun m g _ => Cert.MergeIdeal.Gen.frame m g,
  fun m g _ => (θ_run _ _ _).mono (fun r h => ⟨fun c => (h c).2, sem_eq_zero_of_no_sems rfl _⟩) (Cert.MergeRefIdeal.Value.run m g),
  frame_inproj,
  fun m g _ => Cert.InprojIdeal.Body.frame m g,
  fun m g _ => (θ_run _ _ _).mono (fun r h => ⟨fun c => (h c).2, sem_eq_zero_of_no_sems rfl _⟩) (Cert.InprojRefIdeal.Value.run m g),
  preserves_fox, trivial, algebraic_ffn1, trivial, algebraic_ffn2, trivial, algebraic_merge, trivial, algebraic_inproj⟩

end Cert.Proof

end
